-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mlp2 (m : (ℓ : Loc Cert.Mlp2.nD Cert.Mlp2.τ Cert.Mlp2.sig) → Buf (Elt Bits) ℓ) : Prop :=
  True

def Pre_Mlp2Ideal (m : (ℓ : Loc Cert.Mlp2Ideal.nD Cert.Mlp2Ideal.τ Cert.Mlp2Ideal.sig) → Buf (Elt Ideal) ℓ) : Prop :=
  True

def Pre_Mlp2RefIdeal (m : (ℓ : Loc Cert.Mlp2RefIdeal.nD Cert.Mlp2RefIdeal.τ Cert.Mlp2RefIdeal.sig) → Buf (Elt Ideal) ℓ) : Prop :=
  True

def Pre_Mlp1 (m : (ℓ : Loc Cert.Mlp1.nD Cert.Mlp1.τ Cert.Mlp1.sig) → Buf (Elt Bits) ℓ) : Prop :=
  True

def Pre_Mlp1Ideal (m : (ℓ : Loc Cert.Mlp1Ideal.nD Cert.Mlp1Ideal.τ Cert.Mlp1Ideal.sig) → Buf (Elt Ideal) ℓ) : Prop :=
  True

def Pre_Mlp1RefIdeal (m : (ℓ : Loc Cert.Mlp1RefIdeal.nD Cert.Mlp1RefIdeal.τ Cert.Mlp1RefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InQkv (m : (ℓ : Loc Cert.InQkv.nD Cert.InQkv.τ Cert.InQkv.sig) → Buf (Elt Bits) ℓ) : Prop :=
  True

def Pre_InQkvIdeal (m : (ℓ : Loc Cert.InQkvIdeal.nD Cert.InQkvIdeal.τ Cert.InQkvIdeal.sig) → Buf (Elt Ideal) ℓ) : Prop :=
  True

def Pre_InQkvRefIdeal (m : (ℓ : Loc Cert.InQkvRefIdeal.nD Cert.InQkvRefIdeal.τ Cert.InQkvRefIdeal.sig) → Buf (Elt Ideal) ℓ) : Prop :=
  True

def Pre_InRnn (m : (ℓ : Loc Cert.InRnn.nD Cert.InRnn.τ Cert.InRnn.sig) → Buf (Elt Bits) ℓ) : Prop :=
  True

def Pre_InRnnIdeal (m : (ℓ : Loc Cert.InRnnIdeal.nD Cert.InRnnIdeal.τ Cert.InRnnIdeal.sig) → Buf (Elt Ideal) ℓ) : Prop :=
  True

def Pre_InRnnRefIdeal (m : (ℓ : Loc Cert.InRnnRefIdeal.nD Cert.InRnnRefIdeal.τ Cert.InRnnRefIdeal.sig) → Buf (Elt Ideal) ℓ) : Prop :=
  True

def Pre_InGate (m : (ℓ : Loc Cert.InGate.nD Cert.InGate.τ Cert.InGate.sig) → Buf (Elt Bits) ℓ) : Prop :=
  True

def Pre_InGateIdeal (m : (ℓ : Loc Cert.InGateIdeal.nD Cert.InGateIdeal.τ Cert.InGateIdeal.sig) → Buf (Elt Ideal) ℓ) : Prop :=
  True

def Pre_InGateRefIdeal (m : (ℓ : Loc Cert.InGateRefIdeal.nD Cert.InGateRefIdeal.τ Cert.InGateRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Mlp2 [hMlp2 : Cert.Mlp2.Facts] : Prop :=
  ∀ (m : (ℓ : Loc Cert.Mlp2.nD Cert.Mlp2.τ Cert.Mlp2.sig) → Buf (Elt Bits) ℓ) (g : Dev Cert.Mlp2.nD → PrngReg), Pre_Mlp2 m →
    θ_run (Cert.Mlp2.defs (F := Bits)) (onTc (τ := Cert.Mlp2.τ) (Cert.Mlp2.main (F := Bits))) ⟨m, fun _ => 0, g⟩ (fun r => (∀ c : Dev Cert.Mlp2.nD,
      r.2.mem ((c.tc : Thread Cert.Mlp2.nD Cert.Mlp2.τ).loc Cert.Mlp2.main_arg0) = m ((c.tc : Thread Cert.Mlp2.nD Cert.Mlp2.τ).loc Cert.Mlp2.main_arg0)
      ∧ r.2.mem ((c.tc : Thread Cert.Mlp2.nD Cert.Mlp2.τ).loc Cert.Mlp2.main_arg1) = m ((c.tc : Thread Cert.Mlp2.nD Cert.Mlp2.τ).loc Cert.Mlp2.main_arg1)
      ∧ r.2.mem ((c.tc : Thread Cert.Mlp2.nD Cert.Mlp2.τ).loc Cert.Mlp2.main_arg2) = m ((c.tc : Thread Cert.Mlp2.nD Cert.Mlp2.τ).loc Cert.Mlp2.main_arg2)
      ∧ r.2.mem ((c.tc : Thread Cert.Mlp2.nD Cert.Mlp2.τ).loc Cert.Mlp2.main_arg3) = m ((c.tc : Thread Cert.Mlp2.nD Cert.Mlp2.τ).loc Cert.Mlp2.main_arg3))
      ∧ r.2.sem = fun _ => 0)

def quiescent_Mlp2Ideal [hMlp2Ideal : Cert.Mlp2Ideal.Facts] : Prop :=
  ∀ (m : (ℓ : Loc Cert.Mlp2Ideal.nD Cert.Mlp2Ideal.τ Cert.Mlp2Ideal.sig) → Buf (Elt Ideal) ℓ) (g : Dev Cert.Mlp2Ideal.nD → PrngReg), Pre_Mlp2Ideal m →
    θ_run (Cert.Mlp2Ideal.defs (F := Ideal)) (onTc (τ := Cert.Mlp2Ideal.τ) (Cert.Mlp2Ideal.main (F := Ideal))) ⟨m, fun _ => 0, g⟩ (fun r => (∀ c : Dev Cert.Mlp2Ideal.nD,
      r.2.mem ((c.tc : Thread Cert.Mlp2Ideal.nD Cert.Mlp2Ideal.τ).loc Cert.Mlp2Ideal.main_arg0) = m ((c.tc : Thread Cert.Mlp2Ideal.nD Cert.Mlp2Ideal.τ).loc Cert.Mlp2Ideal.main_arg0)
      ∧ r.2.mem ((c.tc : Thread Cert.Mlp2Ideal.nD Cert.Mlp2Ideal.τ).loc Cert.Mlp2Ideal.main_arg1) = m ((c.tc : Thread Cert.Mlp2Ideal.nD Cert.Mlp2Ideal.τ).loc Cert.Mlp2Ideal.main_arg1)
      ∧ r.2.mem ((c.tc : Thread Cert.Mlp2Ideal.nD Cert.Mlp2Ideal.τ).loc Cert.Mlp2Ideal.main_arg2) = m ((c.tc : Thread Cert.Mlp2Ideal.nD Cert.Mlp2Ideal.τ).loc Cert.Mlp2Ideal.main_arg2)
      ∧ r.2.mem ((c.tc : Thread Cert.Mlp2Ideal.nD Cert.Mlp2Ideal.τ).loc Cert.Mlp2Ideal.main_arg3) = m ((c.tc : Thread Cert.Mlp2Ideal.nD Cert.Mlp2Ideal.τ).loc Cert.Mlp2Ideal.main_arg3))
      ∧ r.2.sem = fun _ => 0)

def quiescent_Mlp2RefIdeal [hMlp2RefIdeal : Cert.Mlp2RefIdeal.Facts] : Prop :=
  ∀ (m : (ℓ : Loc Cert.Mlp2RefIdeal.nD Cert.Mlp2RefIdeal.τ Cert.Mlp2RefIdeal.sig) → Buf (Elt Ideal) ℓ) (g : Dev Cert.Mlp2RefIdeal.nD → PrngReg), Pre_Mlp2RefIdeal m →
    θ_run (Cert.Mlp2RefIdeal.defs (F := Ideal)) (onTc (τ := Cert.Mlp2RefIdeal.τ) (Cert.Mlp2RefIdeal.main (F := Ideal))) ⟨m, fun _ => 0, g⟩ (fun r => (∀ c : Dev Cert.Mlp2RefIdeal.nD,
      r.2.mem ((c.tc : Thread Cert.Mlp2RefIdeal.nD Cert.Mlp2RefIdeal.τ).loc Cert.Mlp2RefIdeal.main_arg0) = m ((c.tc : Thread Cert.Mlp2RefIdeal.nD Cert.Mlp2RefIdeal.τ).loc Cert.Mlp2RefIdeal.main_arg0)
      ∧ r.2.mem ((c.tc : Thread Cert.Mlp2RefIdeal.nD Cert.Mlp2RefIdeal.τ).loc Cert.Mlp2RefIdeal.main_arg1) = m ((c.tc : Thread Cert.Mlp2RefIdeal.nD Cert.Mlp2RefIdeal.τ).loc Cert.Mlp2RefIdeal.main_arg1)
      ∧ r.2.mem ((c.tc : Thread Cert.Mlp2RefIdeal.nD Cert.Mlp2RefIdeal.τ).loc Cert.Mlp2RefIdeal.main_arg2) = m ((c.tc : Thread Cert.Mlp2RefIdeal.nD Cert.Mlp2RefIdeal.τ).loc Cert.Mlp2RefIdeal.main_arg2)
      ∧ r.2.mem ((c.tc : Thread Cert.Mlp2RefIdeal.nD Cert.Mlp2RefIdeal.τ).loc Cert.Mlp2RefIdeal.main_arg3) = m ((c.tc : Thread Cert.Mlp2RefIdeal.nD Cert.Mlp2RefIdeal.τ).loc Cert.Mlp2RefIdeal.main_arg3))
      ∧ r.2.sem = fun _ => 0)

def quiescent_Mlp1 [hMlp1 : Cert.Mlp1.Facts] : Prop :=
  ∀ (m : (ℓ : Loc Cert.Mlp1.nD Cert.Mlp1.τ Cert.Mlp1.sig) → Buf (Elt Bits) ℓ) (g : Dev Cert.Mlp1.nD → PrngReg), Pre_Mlp1 m →
    θ_run (Cert.Mlp1.defs (F := Bits)) (onTc (τ := Cert.Mlp1.τ) (Cert.Mlp1.main (F := Bits))) ⟨m, fun _ => 0, g⟩ (fun r => (∀ c : Dev Cert.Mlp1.nD,
      r.2.mem ((c.tc : Thread Cert.Mlp1.nD Cert.Mlp1.τ).loc Cert.Mlp1.main_arg0) = m ((c.tc : Thread Cert.Mlp1.nD Cert.Mlp1.τ).loc Cert.Mlp1.main_arg0)
      ∧ r.2.mem ((c.tc : Thread Cert.Mlp1.nD Cert.Mlp1.τ).loc Cert.Mlp1.main_arg1) = m ((c.tc : Thread Cert.Mlp1.nD Cert.Mlp1.τ).loc Cert.Mlp1.main_arg1))
      ∧ r.2.sem = fun _ => 0)

def quiescent_Mlp1Ideal [hMlp1Ideal : Cert.Mlp1Ideal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg), Pre_Mlp1Ideal m →
    θ_run (Cert.Mlp1Ideal.defs (F := Ideal)) (onTc (τ := Cert.Mlp1Ideal.τ) (Cert.Mlp1Ideal.main (F := Ideal))) ⟨m, fun _ => 0, g⟩ (fun r => (∀ c : Dev Cert.Mlp1Ideal.nD,
      r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
      ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1))
      ∧ r.2.sem = fun _ => 0)

def quiescent_Mlp1RefIdeal [hMlp1RefIdeal : Cert.Mlp1RefIdeal.Facts] : Prop :=
  ∀ (m : (ℓ : Loc Cert.Mlp1RefIdeal.nD Cert.Mlp1RefIdeal.τ Cert.Mlp1RefIdeal.sig) → Buf (Elt Ideal) ℓ) (g : Dev Cert.Mlp1RefIdeal.nD → PrngReg), Pre_Mlp1RefIdeal m →
    θ_run (Cert.Mlp1RefIdeal.defs (F := Ideal)) (onTc (τ := Cert.Mlp1RefIdeal.τ) (Cert.Mlp1RefIdeal.main (F := Ideal))) ⟨m, fun _ => 0, g⟩ (fun r => (∀ c : Dev Cert.Mlp1RefIdeal.nD,
      r.2.mem ((c.tc : Thread Cert.Mlp1RefIdeal.nD Cert.Mlp1RefIdeal.τ).loc Cert.Mlp1RefIdeal.main_arg0) = m ((c.tc : Thread Cert.Mlp1RefIdeal.nD Cert.Mlp1RefIdeal.τ).loc Cert.Mlp1RefIdeal.main_arg0)
      ∧ r.2.mem ((c.tc : Thread Cert.Mlp1RefIdeal.nD Cert.Mlp1RefIdeal.τ).loc Cert.Mlp1RefIdeal.main_arg1) = m ((c.tc : Thread Cert.Mlp1RefIdeal.nD Cert.Mlp1RefIdeal.τ).loc Cert.Mlp1RefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_InQkv [hInQkv : Cert.InQkv.Facts] : Prop :=
  ∀ (m : (ℓ : Loc Cert.InQkv.nD Cert.InQkv.τ Cert.InQkv.sig) → Buf (Elt Bits) ℓ) (g : Dev Cert.InQkv.nD → PrngReg), Pre_InQkv m →
    θ_run (Cert.InQkv.defs (F := Bits)) (onTc (τ := Cert.InQkv.τ) (Cert.InQkv.main (F := Bits))) ⟨m, fun _ => 0, g⟩ (fun r => (∀ c : Dev Cert.InQkv.nD,
      r.2.mem ((c.tc : Thread Cert.InQkv.nD Cert.InQkv.τ).loc Cert.InQkv.main_arg0) = m ((c.tc : Thread Cert.InQkv.nD Cert.InQkv.τ).loc Cert.InQkv.main_arg0)
      ∧ r.2.mem ((c.tc : Thread Cert.InQkv.nD Cert.InQkv.τ).loc Cert.InQkv.main_arg1) = m ((c.tc : Thread Cert.InQkv.nD Cert.InQkv.τ).loc Cert.InQkv.main_arg1))
      ∧ r.2.sem = fun _ => 0)

def quiescent_InQkvIdeal [hInQkvIdeal : Cert.InQkvIdeal.Facts] : Prop :=
  ∀ (m : (ℓ : Loc Cert.InQkvIdeal.nD Cert.InQkvIdeal.τ Cert.InQkvIdeal.sig) → Buf (Elt Ideal) ℓ) (g : Dev Cert.InQkvIdeal.nD → PrngReg), Pre_InQkvIdeal m →
    θ_run (Cert.InQkvIdeal.defs (F := Ideal)) (onTc (τ := Cert.InQkvIdeal.τ) (Cert.InQkvIdeal.main (F := Ideal))) ⟨m, fun _ => 0, g⟩ (fun r => (∀ c : Dev Cert.InQkvIdeal.nD,
      r.2.mem ((c.tc : Thread Cert.InQkvIdeal.nD Cert.InQkvIdeal.τ).loc Cert.InQkvIdeal.main_arg0) = m ((c.tc : Thread Cert.InQkvIdeal.nD Cert.InQkvIdeal.τ).loc Cert.InQkvIdeal.main_arg0)
      ∧ r.2.mem ((c.tc : Thread Cert.InQkvIdeal.nD Cert.InQkvIdeal.τ).loc Cert.InQkvIdeal.main_arg1) = m ((c.tc : Thread Cert.InQkvIdeal.nD Cert.InQkvIdeal.τ).loc Cert.InQkvIdeal.main_arg1))
      ∧ r.2.sem = fun _ => 0)

def quiescent_InQkvRefIdeal [hInQkvRefIdeal : Cert.InQkvRefIdeal.Facts] : Prop :=
  ∀ (m : (ℓ : Loc Cert.InQkvRefIdeal.nD Cert.InQkvRefIdeal.τ Cert.InQkvRefIdeal.sig) → Buf (Elt Ideal) ℓ) (g : Dev Cert.InQkvRefIdeal.nD → PrngReg), Pre_InQkvRefIdeal m →
    θ_run (Cert.InQkvRefIdeal.defs (F := Ideal)) (onTc (τ := Cert.InQkvRefIdeal.τ) (Cert.InQkvRefIdeal.main (F := Ideal))) ⟨m, fun _ => 0, g⟩ (fun r => (∀ c : Dev Cert.InQkvRefIdeal.nD,
      r.2.mem ((c.tc : Thread Cert.InQkvRefIdeal.nD Cert.InQkvRefIdeal.τ).loc Cert.InQkvRefIdeal.main_arg0) = m ((c.tc : Thread Cert.InQkvRefIdeal.nD Cert.InQkvRefIdeal.τ).loc Cert.InQkvRefIdeal.main_arg0)
      ∧ r.2.mem ((c.tc : Thread Cert.InQkvRefIdeal.nD Cert.InQkvRefIdeal.τ).loc Cert.InQkvRefIdeal.main_arg1) = m ((c.tc : Thread Cert.InQkvRefIdeal.nD Cert.InQkvRefIdeal.τ).loc Cert.InQkvRefIdeal.main_arg1))
      ∧ r.2.sem = fun _ => 0)

def quiescent_InRnn [hInRnn : Cert.InRnn.Facts] : Prop :=
  ∀ (m : (ℓ : Loc Cert.InRnn.nD Cert.InRnn.τ Cert.InRnn.sig) → Buf (Elt Bits) ℓ) (g : Dev Cert.InRnn.nD → PrngReg), Pre_InRnn m →
    θ_run (Cert.InRnn.defs (F := Bits)) (onTc (τ := Cert.InRnn.τ) (Cert.InRnn.main (F := Bits))) ⟨m, fun _ => 0, g⟩ (fun r => (∀ c : Dev Cert.InRnn.nD,
      r.2.mem ((c.tc : Thread Cert.InRnn.nD Cert.InRnn.τ).loc Cert.InRnn.main_arg0) = m ((c.tc : Thread Cert.InRnn.nD Cert.InRnn.τ).loc Cert.InRnn.main_arg0)
      ∧ r.2.mem ((c.tc : Thread Cert.InRnn.nD Cert.InRnn.τ).loc Cert.InRnn.main_arg1) = m ((c.tc : Thread Cert.InRnn.nD Cert.InRnn.τ).loc Cert.InRnn.main_arg1))
      ∧ r.2.sem = fun _ => 0)

def quiescent_InRnnIdeal [hInRnnIdeal : Cert.InRnnIdeal.Facts] : Prop :=
  ∀ (m : (ℓ : Loc Cert.InRnnIdeal.nD Cert.InRnnIdeal.τ Cert.InRnnIdeal.sig) → Buf (Elt Ideal) ℓ) (g : Dev Cert.InRnnIdeal.nD → PrngReg), Pre_InRnnIdeal m →
    θ_run (Cert.InRnnIdeal.defs (F := Ideal)) (onTc (τ := Cert.InRnnIdeal.τ) (Cert.InRnnIdeal.main (F := Ideal))) ⟨m, fun _ => 0, g⟩ (fun r => (∀ c : Dev Cert.InRnnIdeal.nD,
      r.2.mem ((c.tc : Thread Cert.InRnnIdeal.nD Cert.InRnnIdeal.τ).loc Cert.InRnnIdeal.main_arg0) = m ((c.tc : Thread Cert.InRnnIdeal.nD Cert.InRnnIdeal.τ).loc Cert.InRnnIdeal.main_arg0)
      ∧ r.2.mem ((c.tc : Thread Cert.InRnnIdeal.nD Cert.InRnnIdeal.τ).loc Cert.InRnnIdeal.main_arg1) = m ((c.tc : Thread Cert.InRnnIdeal.nD Cert.InRnnIdeal.τ).loc Cert.InRnnIdeal.main_arg1))
      ∧ r.2.sem = fun _ => 0)

def quiescent_InRnnRefIdeal [hInRnnRefIdeal : Cert.InRnnRefIdeal.Facts] : Prop :=
  ∀ (m : (ℓ : Loc Cert.InRnnRefIdeal.nD Cert.InRnnRefIdeal.τ Cert.InRnnRefIdeal.sig) → Buf (Elt Ideal) ℓ) (g : Dev Cert.InRnnRefIdeal.nD → PrngReg), Pre_InRnnRefIdeal m →
    θ_run (Cert.InRnnRefIdeal.defs (F := Ideal)) (onTc (τ := Cert.InRnnRefIdeal.τ) (Cert.InRnnRefIdeal.main (F := Ideal))) ⟨m, fun _ => 0, g⟩ (fun r => (∀ c : Dev Cert.InRnnRefIdeal.nD,
      r.2.mem ((c.tc : Thread Cert.InRnnRefIdeal.nD Cert.InRnnRefIdeal.τ).loc Cert.InRnnRefIdeal.main_arg0) = m ((c.tc : Thread Cert.InRnnRefIdeal.nD Cert.InRnnRefIdeal.τ).loc Cert.InRnnRefIdeal.main_arg0)
      ∧ r.2.mem ((c.tc : Thread Cert.InRnnRefIdeal.nD Cert.InRnnRefIdeal.τ).loc Cert.InRnnRefIdeal.main_arg1) = m ((c.tc : Thread Cert.InRnnRefIdeal.nD Cert.InRnnRefIdeal.τ).loc Cert.InRnnRefIdeal.main_arg1))
      ∧ r.2.sem = fun _ => 0)

def quiescent_InGate [hInGate : Cert.InGate.Facts] : Prop :=
  ∀ (m : (ℓ : Loc Cert.InGate.nD Cert.InGate.τ Cert.InGate.sig) → Buf (Elt Bits) ℓ) (g : Dev Cert.InGate.nD → PrngReg), Pre_InGate m →
    θ_run (Cert.InGate.defs (F := Bits)) (onTc (τ := Cert.InGate.τ) (Cert.InGate.main (F := Bits))) ⟨m, fun _ => 0, g⟩ (fun r => (∀ c : Dev Cert.InGate.nD,
      r.2.mem ((c.tc : Thread Cert.InGate.nD Cert.InGate.τ).loc Cert.InGate.main_arg0) = m ((c.tc : Thread Cert.InGate.nD Cert.InGate.τ).loc Cert.InGate.main_arg0)
      ∧ r.2.mem ((c.tc : Thread Cert.InGate.nD Cert.InGate.τ).loc Cert.InGate.main_arg1) = m ((c.tc : Thread Cert.InGate.nD Cert.InGate.τ).loc Cert.InGate.main_arg1))
      ∧ r.2.sem = fun _ => 0)

def quiescent_InGateIdeal [hInGateIdeal : Cert.InGateIdeal.Facts] : Prop :=
  ∀ (m : (ℓ : Loc Cert.InGateIdeal.nD Cert.InGateIdeal.τ Cert.InGateIdeal.sig) → Buf (Elt Ideal) ℓ) (g : Dev Cert.InGateIdeal.nD → PrngReg), Pre_InGateIdeal m →
    θ_run (Cert.InGateIdeal.defs (F := Ideal)) (onTc (τ := Cert.InGateIdeal.τ) (Cert.InGateIdeal.main (F := Ideal))) ⟨m, fun _ => 0, g⟩ (fun r => (∀ c : Dev Cert.InGateIdeal.nD,
      r.2.mem ((c.tc : Thread Cert.InGateIdeal.nD Cert.InGateIdeal.τ).loc Cert.InGateIdeal.main_arg0) = m ((c.tc : Thread Cert.InGateIdeal.nD Cert.InGateIdeal.τ).loc Cert.InGateIdeal.main_arg0)
      ∧ r.2.mem ((c.tc : Thread Cert.InGateIdeal.nD Cert.InGateIdeal.τ).loc Cert.InGateIdeal.main_arg1) = m ((c.tc : Thread Cert.InGateIdeal.nD Cert.InGateIdeal.τ).loc Cert.InGateIdeal.main_arg1))
      ∧ r.2.sem = fun _ => 0)

def quiescent_InGateRefIdeal [hInGateRefIdeal : Cert.InGateRefIdeal.Facts] : Prop :=
  ∀ (m : (ℓ : Loc Cert.InGateRefIdeal.nD Cert.InGateRefIdeal.τ Cert.InGateRefIdeal.sig) → Buf (Elt Ideal) ℓ) (g : Dev Cert.InGateRefIdeal.nD → PrngReg), Pre_InGateRefIdeal m →
    θ_run (Cert.InGateRefIdeal.defs (F := Ideal)) (onTc (τ := Cert.InGateRefIdeal.τ) (Cert.InGateRefIdeal.main (F := Ideal))) ⟨m, fun _ => 0, g⟩ (fun r => (∀ c : Dev Cert.InGateRefIdeal.nD,
      r.2.mem ((c.tc : Thread Cert.InGateRefIdeal.nD Cert.InGateRefIdeal.τ).loc Cert.InGateRefIdeal.main_arg0) = m ((c.tc : Thread Cert.InGateRefIdeal.nD Cert.InGateRefIdeal.τ).loc Cert.InGateRefIdeal.main_arg0)
      ∧ r.2.mem ((c.tc : Thread Cert.InGateRefIdeal.nD Cert.InGateRefIdeal.τ).loc Cert.InGateRefIdeal.main_arg1) = m ((c.tc : Thread Cert.InGateRefIdeal.nD Cert.InGateRefIdeal.τ).loc Cert.InGateRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v102) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Mlp2_Mlp2Ideal : Prop :=
  True

def algebraic_Mlp2Ideal_Mlp2RefIdeal [hMlp2Ideal : Cert.Mlp2Ideal.Facts] [hMlp2RefIdeal : Cert.Mlp2RefIdeal.Facts] : Prop :=
  ∀ (m : (ℓ : Loc Cert.Mlp2Ideal.nD Cert.Mlp2Ideal.τ Cert.Mlp2Ideal.sig) → Buf (Elt Ideal) ℓ) (g : Dev Cert.Mlp2Ideal.nD → PrngReg)
    (m' : (ℓ : Loc Cert.Mlp2RefIdeal.nD Cert.Mlp2RefIdeal.τ Cert.Mlp2RefIdeal.sig) → Buf (Elt Ideal) ℓ) (g' : Dev Cert.Mlp2RefIdeal.nD → PrngReg), Pre_Mlp2Ideal m →
    (∀ c : Dev Cert.Mlp2Ideal.nD,
      m' ((c.tc : Thread Cert.Mlp2RefIdeal.nD Cert.Mlp2RefIdeal.τ).loc Cert.Mlp2RefIdeal.main_arg0) = m ((c.tc : Thread Cert.Mlp2Ideal.nD Cert.Mlp2Ideal.τ).loc Cert.Mlp2Ideal.main_arg0)
      ∧ m' ((c.tc : Thread Cert.Mlp2RefIdeal.nD Cert.Mlp2RefIdeal.τ).loc Cert.Mlp2RefIdeal.main_arg1) = m ((c.tc : Thread Cert.Mlp2Ideal.nD Cert.Mlp2Ideal.τ).loc Cert.Mlp2Ideal.main_arg1)
      ∧ m' ((c.tc : Thread Cert.Mlp2RefIdeal.nD Cert.Mlp2RefIdeal.τ).loc Cert.Mlp2RefIdeal.main_arg2) = m ((c.tc : Thread Cert.Mlp2Ideal.nD Cert.Mlp2Ideal.τ).loc Cert.Mlp2Ideal.main_arg2)
      ∧ m' ((c.tc : Thread Cert.Mlp2RefIdeal.nD Cert.Mlp2RefIdeal.τ).loc Cert.Mlp2RefIdeal.main_arg3) = m ((c.tc : Thread Cert.Mlp2Ideal.nD Cert.Mlp2Ideal.τ).loc Cert.Mlp2Ideal.main_arg3)) →
    ∃ (v0 : (c : Dev Cert.Mlp2Ideal.nD) → Buf (Elt Ideal) ((c.tc : Thread Cert.Mlp2Ideal.nD Cert.Mlp2Ideal.τ).loc Cert.Mlp2Ideal.main_v0)),
      θ_run (Cert.Mlp2Ideal.defs (F := Ideal)) (onTc (τ := Cert.Mlp2Ideal.τ) (Cert.Mlp2Ideal.main (F := Ideal))) ⟨m, fun _ => 0, g⟩ (fun r => ∀ c : Dev Cert.Mlp2Ideal.nD,
          r.2.mem ((c.tc : Thread Cert.Mlp2Ideal.nD Cert.Mlp2Ideal.τ).loc Cert.Mlp2Ideal.main_v0) = v0 c
          ∧ r.2.mem ((c.tc : Thread Cert.Mlp2Ideal.nD Cert.Mlp2Ideal.τ).loc Cert.Mlp2Ideal.main_arg0) = m ((c.tc : Thread Cert.Mlp2Ideal.nD Cert.Mlp2Ideal.τ).loc Cert.Mlp2Ideal.main_arg0)
          ∧ r.2.mem ((c.tc : Thread Cert.Mlp2Ideal.nD Cert.Mlp2Ideal.τ).loc Cert.Mlp2Ideal.main_arg1) = m ((c.tc : Thread Cert.Mlp2Ideal.nD Cert.Mlp2Ideal.τ).loc Cert.Mlp2Ideal.main_arg1)
          ∧ r.2.mem ((c.tc : Thread Cert.Mlp2Ideal.nD Cert.Mlp2Ideal.τ).loc Cert.Mlp2Ideal.main_arg2) = m ((c.tc : Thread Cert.Mlp2Ideal.nD Cert.Mlp2Ideal.τ).loc Cert.Mlp2Ideal.main_arg2)
          ∧ r.2.mem ((c.tc : Thread Cert.Mlp2Ideal.nD Cert.Mlp2Ideal.τ).loc Cert.Mlp2Ideal.main_arg3) = m ((c.tc : Thread Cert.Mlp2Ideal.nD Cert.Mlp2Ideal.τ).loc Cert.Mlp2Ideal.main_arg3))
      ∧ θ_run (Cert.Mlp2RefIdeal.defs (F := Ideal)) (onTc (τ := Cert.Mlp2RefIdeal.τ) (Cert.Mlp2RefIdeal.main (F := Ideal))) ⟨m', fun _ => 0, g'⟩ (fun r => ∀ c : Dev Cert.Mlp2RefIdeal.nD,
          r.2.mem ((c.tc : Thread Cert.Mlp2RefIdeal.nD Cert.Mlp2RefIdeal.τ).loc Cert.Mlp2RefIdeal.main_v6) = v0 c
          ∧ r.2.mem ((c.tc : Thread Cert.Mlp2RefIdeal.nD Cert.Mlp2RefIdeal.τ).loc Cert.Mlp2RefIdeal.main_arg0) = m' ((c.tc : Thread Cert.Mlp2RefIdeal.nD Cert.Mlp2RefIdeal.τ).loc Cert.Mlp2RefIdeal.main_arg0)
          ∧ r.2.mem ((c.tc : Thread Cert.Mlp2RefIdeal.nD Cert.Mlp2RefIdeal.τ).loc Cert.Mlp2RefIdeal.main_arg1) = m' ((c.tc : Thread Cert.Mlp2RefIdeal.nD Cert.Mlp2RefIdeal.τ).loc Cert.Mlp2RefIdeal.main_arg1)
          ∧ r.2.mem ((c.tc : Thread Cert.Mlp2RefIdeal.nD Cert.Mlp2RefIdeal.τ).loc Cert.Mlp2RefIdeal.main_arg2) = m' ((c.tc : Thread Cert.Mlp2RefIdeal.nD Cert.Mlp2RefIdeal.τ).loc Cert.Mlp2RefIdeal.main_arg2)
          ∧ r.2.mem ((c.tc : Thread Cert.Mlp2RefIdeal.nD Cert.Mlp2RefIdeal.τ).loc Cert.Mlp2RefIdeal.main_arg3) = m' ((c.tc : Thread Cert.Mlp2RefIdeal.nD Cert.Mlp2RefIdeal.τ).loc Cert.Mlp2RefIdeal.main_arg3))

def preserves_Mlp1_Mlp1Ideal : Prop :=
  True

def algebraic_Mlp1Ideal_Mlp1RefIdeal [hMlp1Ideal : Cert.Mlp1Ideal.Facts] [hMlp1RefIdeal : Cert.Mlp1RefIdeal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg)
    (m' : (ℓ : Loc Cert.Mlp1RefIdeal.nD Cert.Mlp1RefIdeal.τ Cert.Mlp1RefIdeal.sig) → Buf (Elt Ideal) ℓ) (g' : Dev Cert.Mlp1RefIdeal.nD → PrngReg), Pre_Mlp1Ideal m →
    (∀ c : Dev Cert.Mlp1Ideal.nD,
      m' ((c.tc : Thread Cert.Mlp1RefIdeal.nD Cert.Mlp1RefIdeal.τ).loc Cert.Mlp1RefIdeal.main_arg0) = m ((c.tc : Thread Cert.Mlp1Ideal.nD Cert.Mlp1Ideal.τ).loc Cert.Mlp1Ideal.main_arg0)
      ∧ m' ((c.tc : Thread Cert.Mlp1RefIdeal.nD Cert.Mlp1RefIdeal.τ).loc Cert.Mlp1RefIdeal.main_arg1) = m ((c.tc : Thread Cert.Mlp1Ideal.nD Cert.Mlp1Ideal.τ).loc Cert.Mlp1Ideal.main_arg1)) →
    ∃ (v0 : (c : Dev Cert.Mlp1Ideal.nD) → Buf (Elt Ideal) ((c.tc : Thread Cert.Mlp1Ideal.nD Cert.Mlp1Ideal.τ).loc Cert.Mlp1Ideal.main_v0)),
      θ_run (Cert.Mlp1Ideal.defs (F := Ideal)) (onTc (τ := Cert.Mlp1Ideal.τ) (Cert.Mlp1Ideal.main (F := Ideal))) ⟨m, fun _ => 0, g⟩ (fun r => ∀ c : Dev Cert.Mlp1Ideal.nD,
          r.2.mem ((c.tc : Thread Cert.Mlp1Ideal.nD Cert.Mlp1Ideal.τ).loc Cert.Mlp1Ideal.main_v0) = v0 c
          ∧ r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
          ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1))
      ∧ θ_run (Cert.Mlp1RefIdeal.defs (F := Ideal)) (onTc (τ := Cert.Mlp1RefIdeal.τ) (Cert.Mlp1RefIdeal.main (F := Ideal))) ⟨m', fun _ => 0, g'⟩ (fun r => ∀ c : Dev Cert.Mlp1RefIdeal.nD,
          r.2.mem ((c.tc : Thread Cert.Mlp1RefIdeal.nD Cert.Mlp1RefIdeal.τ).loc Cert.Mlp1RefIdeal.main_v3) = v0 c
          ∧ r.2.mem ((c.tc : Thread Cert.Mlp1RefIdeal.nD Cert.Mlp1RefIdeal.τ).loc Cert.Mlp1RefIdeal.main_arg0) = m' ((c.tc : Thread Cert.Mlp1RefIdeal.nD Cert.Mlp1RefIdeal.τ).loc Cert.Mlp1RefIdeal.main_arg0)
          ∧ r.2.mem ((c.tc : Thread Cert.Mlp1RefIdeal.nD Cert.Mlp1RefIdeal.τ).loc Cert.Mlp1RefIdeal.main_arg1) = m' ((c.tc : Thread Cert.Mlp1RefIdeal.nD Cert.Mlp1RefIdeal.τ).loc Cert.Mlp1RefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v6) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v13) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_InQkv_InQkvIdeal : Prop :=
  True

def algebraic_InQkvIdeal_InQkvRefIdeal [hInQkvIdeal : Cert.InQkvIdeal.Facts] [hInQkvRefIdeal : Cert.InQkvRefIdeal.Facts] : Prop :=
  ∀ (m : (ℓ : Loc Cert.InQkvIdeal.nD Cert.InQkvIdeal.τ Cert.InQkvIdeal.sig) → Buf (Elt Ideal) ℓ) (g : Dev Cert.InQkvIdeal.nD → PrngReg)
    (m' : (ℓ : Loc Cert.InQkvRefIdeal.nD Cert.InQkvRefIdeal.τ Cert.InQkvRefIdeal.sig) → Buf (Elt Ideal) ℓ) (g' : Dev Cert.InQkvRefIdeal.nD → PrngReg), Pre_InQkvIdeal m →
    (∀ c : Dev Cert.InQkvIdeal.nD,
      m' ((c.tc : Thread Cert.InQkvRefIdeal.nD Cert.InQkvRefIdeal.τ).loc Cert.InQkvRefIdeal.main_arg0) = m ((c.tc : Thread Cert.InQkvIdeal.nD Cert.InQkvIdeal.τ).loc Cert.InQkvIdeal.main_arg0)
      ∧ m' ((c.tc : Thread Cert.InQkvRefIdeal.nD Cert.InQkvRefIdeal.τ).loc Cert.InQkvRefIdeal.main_arg1) = m ((c.tc : Thread Cert.InQkvIdeal.nD Cert.InQkvIdeal.τ).loc Cert.InQkvIdeal.main_arg1)) →
    ∃ (v0 : (c : Dev Cert.InQkvIdeal.nD) → Buf (Elt Ideal) ((c.tc : Thread Cert.InQkvIdeal.nD Cert.InQkvIdeal.τ).loc Cert.InQkvIdeal.main_v0)),
      θ_run (Cert.InQkvIdeal.defs (F := Ideal)) (onTc (τ := Cert.InQkvIdeal.τ) (Cert.InQkvIdeal.main (F := Ideal))) ⟨m, fun _ => 0, g⟩ (fun r => ∀ c : Dev Cert.InQkvIdeal.nD,
          r.2.mem ((c.tc : Thread Cert.InQkvIdeal.nD Cert.InQkvIdeal.τ).loc Cert.InQkvIdeal.main_v0) = v0 c
          ∧ r.2.mem ((c.tc : Thread Cert.InQkvIdeal.nD Cert.InQkvIdeal.τ).loc Cert.InQkvIdeal.main_arg0) = m ((c.tc : Thread Cert.InQkvIdeal.nD Cert.InQkvIdeal.τ).loc Cert.InQkvIdeal.main_arg0)
          ∧ r.2.mem ((c.tc : Thread Cert.InQkvIdeal.nD Cert.InQkvIdeal.τ).loc Cert.InQkvIdeal.main_arg1) = m ((c.tc : Thread Cert.InQkvIdeal.nD Cert.InQkvIdeal.τ).loc Cert.InQkvIdeal.main_arg1))
      ∧ θ_run (Cert.InQkvRefIdeal.defs (F := Ideal)) (onTc (τ := Cert.InQkvRefIdeal.τ) (Cert.InQkvRefIdeal.main (F := Ideal))) ⟨m', fun _ => 0, g'⟩ (fun r => ∀ c : Dev Cert.InQkvRefIdeal.nD,
          r.2.mem ((c.tc : Thread Cert.InQkvRefIdeal.nD Cert.InQkvRefIdeal.τ).loc Cert.InQkvRefIdeal.main_v0) = v0 c
          ∧ r.2.mem ((c.tc : Thread Cert.InQkvRefIdeal.nD Cert.InQkvRefIdeal.τ).loc Cert.InQkvRefIdeal.main_arg0) = m' ((c.tc : Thread Cert.InQkvRefIdeal.nD Cert.InQkvRefIdeal.τ).loc Cert.InQkvRefIdeal.main_arg0)
          ∧ r.2.mem ((c.tc : Thread Cert.InQkvRefIdeal.nD Cert.InQkvRefIdeal.τ).loc Cert.InQkvRefIdeal.main_arg1) = m' ((c.tc : Thread Cert.InQkvRefIdeal.nD Cert.InQkvRefIdeal.τ).loc Cert.InQkvRefIdeal.main_arg1))

def preserves_InRnn_InRnnIdeal : Prop :=
  True

def algebraic_InRnnIdeal_InRnnRefIdeal [hInRnnIdeal : Cert.InRnnIdeal.Facts] [hInRnnRefIdeal : Cert.InRnnRefIdeal.Facts] : Prop :=
  ∀ (m : (ℓ : Loc Cert.InRnnIdeal.nD Cert.InRnnIdeal.τ Cert.InRnnIdeal.sig) → Buf (Elt Ideal) ℓ) (g : Dev Cert.InRnnIdeal.nD → PrngReg)
    (m' : (ℓ : Loc Cert.InRnnRefIdeal.nD Cert.InRnnRefIdeal.τ Cert.InRnnRefIdeal.sig) → Buf (Elt Ideal) ℓ) (g' : Dev Cert.InRnnRefIdeal.nD → PrngReg), Pre_InRnnIdeal m →
    (∀ c : Dev Cert.InRnnIdeal.nD,
      m' ((c.tc : Thread Cert.InRnnRefIdeal.nD Cert.InRnnRefIdeal.τ).loc Cert.InRnnRefIdeal.main_arg0) = m ((c.tc : Thread Cert.InRnnIdeal.nD Cert.InRnnIdeal.τ).loc Cert.InRnnIdeal.main_arg0)
      ∧ m' ((c.tc : Thread Cert.InRnnRefIdeal.nD Cert.InRnnRefIdeal.τ).loc Cert.InRnnRefIdeal.main_arg1) = m ((c.tc : Thread Cert.InRnnIdeal.nD Cert.InRnnIdeal.τ).loc Cert.InRnnIdeal.main_arg1)) →
    ∃ (v0 : (c : Dev Cert.InRnnIdeal.nD) → Buf (Elt Ideal) ((c.tc : Thread Cert.InRnnIdeal.nD Cert.InRnnIdeal.τ).loc Cert.InRnnIdeal.main_v0)),
      θ_run (Cert.InRnnIdeal.defs (F := Ideal)) (onTc (τ := Cert.InRnnIdeal.τ) (Cert.InRnnIdeal.main (F := Ideal))) ⟨m, fun _ => 0, g⟩ (fun r => ∀ c : Dev Cert.InRnnIdeal.nD,
          r.2.mem ((c.tc : Thread Cert.InRnnIdeal.nD Cert.InRnnIdeal.τ).loc Cert.InRnnIdeal.main_v0) = v0 c
          ∧ r.2.mem ((c.tc : Thread Cert.InRnnIdeal.nD Cert.InRnnIdeal.τ).loc Cert.InRnnIdeal.main_arg0) = m ((c.tc : Thread Cert.InRnnIdeal.nD Cert.InRnnIdeal.τ).loc Cert.InRnnIdeal.main_arg0)
          ∧ r.2.mem ((c.tc : Thread Cert.InRnnIdeal.nD Cert.InRnnIdeal.τ).loc Cert.InRnnIdeal.main_arg1) = m ((c.tc : Thread Cert.InRnnIdeal.nD Cert.InRnnIdeal.τ).loc Cert.InRnnIdeal.main_arg1))
      ∧ θ_run (Cert.InRnnRefIdeal.defs (F := Ideal)) (onTc (τ := Cert.InRnnRefIdeal.τ) (Cert.InRnnRefIdeal.main (F := Ideal))) ⟨m', fun _ => 0, g'⟩ (fun r => ∀ c : Dev Cert.InRnnRefIdeal.nD,
          r.2.mem ((c.tc : Thread Cert.InRnnRefIdeal.nD Cert.InRnnRefIdeal.τ).loc Cert.InRnnRefIdeal.main_v0) = v0 c
          ∧ r.2.mem ((c.tc : Thread Cert.InRnnRefIdeal.nD Cert.InRnnRefIdeal.τ).loc Cert.InRnnRefIdeal.main_arg0) = m' ((c.tc : Thread Cert.InRnnRefIdeal.nD Cert.InRnnRefIdeal.τ).loc Cert.InRnnRefIdeal.main_arg0)
          ∧ r.2.mem ((c.tc : Thread Cert.InRnnRefIdeal.nD Cert.InRnnRefIdeal.τ).loc Cert.InRnnRefIdeal.main_arg1) = m' ((c.tc : Thread Cert.InRnnRefIdeal.nD Cert.InRnnRefIdeal.τ).loc Cert.InRnnRefIdeal.main_arg1))

def preserves_InGate_InGateIdeal : Prop :=
  True

def algebraic_InGateIdeal_InGateRefIdeal [hInGateIdeal : Cert.InGateIdeal.Facts] [hInGateRefIdeal : Cert.InGateRefIdeal.Facts] : Prop :=
  ∀ (m : (ℓ : Loc Cert.InGateIdeal.nD Cert.InGateIdeal.τ Cert.InGateIdeal.sig) → Buf (Elt Ideal) ℓ) (g : Dev Cert.InGateIdeal.nD → PrngReg)
    (m' : (ℓ : Loc Cert.InGateRefIdeal.nD Cert.InGateRefIdeal.τ Cert.InGateRefIdeal.sig) → Buf (Elt Ideal) ℓ) (g' : Dev Cert.InGateRefIdeal.nD → PrngReg), Pre_InGateIdeal m →
    (∀ c : Dev Cert.InGateIdeal.nD,
      m' ((c.tc : Thread Cert.InGateRefIdeal.nD Cert.InGateRefIdeal.τ).loc Cert.InGateRefIdeal.main_arg0) = m ((c.tc : Thread Cert.InGateIdeal.nD Cert.InGateIdeal.τ).loc Cert.InGateIdeal.main_arg0)
      ∧ m' ((c.tc : Thread Cert.InGateRefIdeal.nD Cert.InGateRefIdeal.τ).loc Cert.InGateRefIdeal.main_arg1) = m ((c.tc : Thread Cert.InGateIdeal.nD Cert.InGateIdeal.τ).loc Cert.InGateIdeal.main_arg1)) →
    ∃ (v0 : (c : Dev Cert.InGateIdeal.nD) → Buf (Elt Ideal) ((c.tc : Thread Cert.InGateIdeal.nD Cert.InGateIdeal.τ).loc Cert.InGateIdeal.main_v0)),
      θ_run (Cert.InGateIdeal.defs (F := Ideal)) (onTc (τ := Cert.InGateIdeal.τ) (Cert.InGateIdeal.main (F := Ideal))) ⟨m, fun _ => 0, g⟩ (fun r => ∀ c : Dev Cert.InGateIdeal.nD,
          r.2.mem ((c.tc : Thread Cert.InGateIdeal.nD Cert.InGateIdeal.τ).loc Cert.InGateIdeal.main_v0) = v0 c
          ∧ r.2.mem ((c.tc : Thread Cert.InGateIdeal.nD Cert.InGateIdeal.τ).loc Cert.InGateIdeal.main_arg0) = m ((c.tc : Thread Cert.InGateIdeal.nD Cert.InGateIdeal.τ).loc Cert.InGateIdeal.main_arg0)
          ∧ r.2.mem ((c.tc : Thread Cert.InGateIdeal.nD Cert.InGateIdeal.τ).loc Cert.InGateIdeal.main_arg1) = m ((c.tc : Thread Cert.InGateIdeal.nD Cert.InGateIdeal.τ).loc Cert.InGateIdeal.main_arg1))
      ∧ θ_run (Cert.InGateRefIdeal.defs (F := Ideal)) (onTc (τ := Cert.InGateRefIdeal.τ) (Cert.InGateRefIdeal.main (F := Ideal))) ⟨m', fun _ => 0, g'⟩ (fun r => ∀ c : Dev Cert.InGateRefIdeal.nD,
          r.2.mem ((c.tc : Thread Cert.InGateRefIdeal.nD Cert.InGateRefIdeal.τ).loc Cert.InGateRefIdeal.main_v0) = v0 c
          ∧ r.2.mem ((c.tc : Thread Cert.InGateRefIdeal.nD Cert.InGateRefIdeal.τ).loc Cert.InGateRefIdeal.main_arg0) = m' ((c.tc : Thread Cert.InGateRefIdeal.nD Cert.InGateRefIdeal.τ).loc Cert.InGateRefIdeal.main_arg0)
          ∧ r.2.mem ((c.tc : Thread Cert.InGateRefIdeal.nD Cert.InGateRefIdeal.τ).loc Cert.InGateRefIdeal.main_arg1) = m' ((c.tc : Thread Cert.InGateRefIdeal.nD Cert.InGateRefIdeal.τ).loc Cert.InGateRefIdeal.main_arg1))

def Claim : Prop :=
  ∃ (hKernel : Cert.Kernel.Facts) (hKernelIdeal : Cert.KernelIdeal.Facts) (hReferenceIdeal : Cert.ReferenceIdeal.Facts) (hMlp2 : Cert.Mlp2.Facts) (hMlp2Ideal : Cert.Mlp2Ideal.Facts) (hMlp2RefIdeal : Cert.Mlp2RefIdeal.Facts) (hMlp1 : Cert.Mlp1.Facts) (hMlp1Ideal : Cert.Mlp1Ideal.Facts) (hMlp1RefIdeal : Cert.Mlp1RefIdeal.Facts) (hOutProj : Cert.OutProj.Facts) (hOutProjIdeal : Cert.OutProjIdeal.Facts) (hOutProjRefIdeal : Cert.OutProjRefIdeal.Facts) (hMerge : Cert.Merge.Facts) (hMergeIdeal : Cert.MergeIdeal.Facts) (hMergeRefIdeal : Cert.MergeRefIdeal.Facts) (hInQkv : Cert.InQkv.Facts) (hInQkvIdeal : Cert.InQkvIdeal.Facts) (hInQkvRefIdeal : Cert.InQkvRefIdeal.Facts) (hInRnn : Cert.InRnn.Facts) (hInRnnIdeal : Cert.InRnnIdeal.Facts) (hInRnnRefIdeal : Cert.InRnnRefIdeal.Facts) (hInGate : Cert.InGate.Facts) (hInGateIdeal : Cert.InGateIdeal.Facts) (hInGateRefIdeal : Cert.InGateRefIdeal.Facts),
    quiescent_Kernel (hKernel := hKernel)
    ∧ quiescent_KernelIdeal (hKernelIdeal := hKernelIdeal)
    ∧ quiescent_ReferenceIdeal (hReferenceIdeal := hReferenceIdeal)
    ∧ quiescent_Mlp2 (hMlp2 := hMlp2)
    ∧ quiescent_Mlp2Ideal (hMlp2Ideal := hMlp2Ideal)
    ∧ quiescent_Mlp2RefIdeal (hMlp2RefIdeal := hMlp2RefIdeal)
    ∧ quiescent_Mlp1 (hMlp1 := hMlp1)
    ∧ quiescent_Mlp1Ideal (hMlp1Ideal := hMlp1Ideal)
    ∧ quiescent_Mlp1RefIdeal (hMlp1RefIdeal := hMlp1RefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_InQkv (hInQkv := hInQkv)
    ∧ quiescent_InQkvIdeal (hInQkvIdeal := hInQkvIdeal)
    ∧ quiescent_InQkvRefIdeal (hInQkvRefIdeal := hInQkvRefIdeal)
    ∧ quiescent_InRnn (hInRnn := hInRnn)
    ∧ quiescent_InRnnIdeal (hInRnnIdeal := hInRnnIdeal)
    ∧ quiescent_InRnnRefIdeal (hInRnnRefIdeal := hInRnnRefIdeal)
    ∧ quiescent_InGate (hInGate := hInGate)
    ∧ quiescent_InGateIdeal (hInGateIdeal := hInGateIdeal)
    ∧ quiescent_InGateRefIdeal (hInGateRefIdeal := hInGateRefIdeal)
    ∧ preserves_Kernel_KernelIdeal
    ∧ algebraic_KernelIdeal_ReferenceIdeal (hKernelIdeal := hKernelIdeal) (hReferenceIdeal := hReferenceIdeal)
    ∧ preserves_Mlp2_Mlp2Ideal
    ∧ algebraic_Mlp2Ideal_Mlp2RefIdeal (hMlp2Ideal := hMlp2Ideal) (hMlp2RefIdeal := hMlp2RefIdeal)
    ∧ preserves_Mlp1_Mlp1Ideal
    ∧ algebraic_Mlp1Ideal_Mlp1RefIdeal (hMlp1Ideal := hMlp1Ideal) (hMlp1RefIdeal := hMlp1RefIdeal)
    ∧ preserves_OutProj_OutProjIdeal
    ∧ algebraic_OutProjIdeal_OutProjRefIdeal (hOutProjIdeal := hOutProjIdeal) (hOutProjRefIdeal := hOutProjRefIdeal)
    ∧ preserves_Merge_MergeIdeal
    ∧ algebraic_MergeIdeal_MergeRefIdeal (hMergeIdeal := hMergeIdeal) (hMergeRefIdeal := hMergeRefIdeal)
    ∧ preserves_InQkv_InQkvIdeal
    ∧ algebraic_InQkvIdeal_InQkvRefIdeal (hInQkvIdeal := hInQkvIdeal) (hInQkvRefIdeal := hInQkvRefIdeal)
    ∧ preserves_InRnn_InRnnIdeal
    ∧ algebraic_InRnnIdeal_InRnnRefIdeal (hInRnnIdeal := hInRnnIdeal) (hInRnnRefIdeal := hInRnnRefIdeal)
    ∧ preserves_InGate_InGateIdeal
    ∧ algebraic_InGateIdeal_InGateRefIdeal (hInGateIdeal := hInGateIdeal) (hInGateRefIdeal := hInGateRefIdeal)
-- ==== Kernel.lean ====
abbrev S4x2048x4096 : Shape := ⟨3, ![4, 2048, 4096]⟩
abbrev S4x3x2048 : Shape := ⟨3, ![4, 3, 2048]⟩
abbrev S4x1x2048 : Shape := ⟨3, ![4, 1, 2048]⟩
abbrev S4x2048 : Shape := ⟨2, ![4, 2048]⟩
abbrev S2048 : Shape := ⟨1, ![2048]⟩
abbrev S2x16x128x128 : Shape := ⟨4, ![2, 16, 128, 128]⟩
abbrev S2x2048 : Shape := ⟨2, ![2, 2048]⟩
abbrev S1x2048 : Shape := ⟨2, ![1, 2048]⟩
abbrev S4x2048x2048 : Shape := ⟨3, ![4, 2048, 2048]⟩
abbrev S1x2048x128 : Shape := ⟨3, ![1, 2048, 128]⟩
abbrev S1x3x128 : Shape := ⟨3, ![1, 3, 128]⟩
abbrev S1x1x128 : Shape := ⟨3, ![1, 1, 128]⟩
abbrev S4x128 : Shape := ⟨2, ![4, 128]⟩
abbrev S1x128 : Shape := ⟨2, ![1, 128]⟩
abbrev S2x1x128x128 : Shape := ⟨4, ![2, 1, 128, 128]⟩
abbrev S2x128 : Shape := ⟨2, ![2, 128]⟩
abbrev S2056x128 : Shape := ⟨2, ![2056, 128]⟩
abbrev S2624x128 : Shape := ⟨2, ![2624, 128]⟩
abbrev S2632x128 : Shape := ⟨2, ![2632, 128]⟩
abbrev S8x128 : Shape := ⟨2, ![8, 128]⟩
abbrev S3x128 : Shape := ⟨2, ![3, 128]⟩
abbrev S2048x128 : Shape := ⟨2, ![2048, 128]⟩
abbrev S1x1x128x128 : Shape := ⟨4, ![1, 1, 128, 128]⟩
abbrev S128x128 : Shape := ⟨2, ![128, 128]⟩
abbrev S256x128 : Shape := ⟨2, ![256, 128]⟩
abbrev S32x128 : Shape := ⟨2, ![32, 128]⟩

abbrev nBuf : Space → Nat
  | .hbm => 13
  | .vmem => 28
  | .smem => 0
  | _ => 0

abbrev bufTy : (tb : Table) → Fin (tcTables nBuf tb) → BufTy
  | .hbm, ⟨0, _⟩ => ⟨S4x2048x4096, .f32⟩
  | .hbm, ⟨1, _⟩ => ⟨S4x3x2048, .f32⟩
  | .hbm, ⟨2, _⟩ => ⟨S4x1x2048, .f32⟩
  | .hbm, ⟨3, _⟩ => ⟨S4x2048, .f32⟩
  | .hbm, ⟨4, _⟩ => ⟨S2048, .f32⟩
  | .hbm, ⟨5, _⟩ => ⟨S2x16x128x128, .f32⟩
  | .hbm, ⟨6, _⟩ => ⟨S2x2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S4x2048x2048, .bf16⟩
  | .hbm, ⟨11, _⟩ => ⟨S4x1x2048, .f32⟩
  | .hbm, ⟨12, _⟩ => ⟨S4x3x2048, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x3x128, .f32⟩
  | .local _ .vmem, ⟨5, _⟩ => ⟨S1x3x128, .f32⟩
  | .local _ .vmem, ⟨6, _⟩ => ⟨S1x1x128, .f32⟩
  | .local _ .vmem, ⟨7, _⟩ => ⟨S1x1x128, .f32⟩
  | .local _ .vmem, ⟨8, _⟩ => ⟨S4x128, .f32⟩
  | .local _ .vmem, ⟨9, _⟩ => ⟨S4x128, .f32⟩
  | .local _ .vmem, ⟨10, _⟩ => ⟨S1x128, .f32⟩
  | .local _ .vmem, ⟨11, _⟩ => ⟨S1x128, .f32⟩
  | .local _ .vmem, ⟨12, _⟩ => ⟨S2x1x128x128, .f32⟩
  | .local _ .vmem, ⟨13, _⟩ => ⟨S2x1x128x128, .f32⟩
  | .local _ .vmem, ⟨14, _⟩ => ⟨S2x128, .f32⟩
  | .local _ .vmem, ⟨15, _⟩ => ⟨S2x128, .f32⟩
  | .local _ .vmem, ⟨16, _⟩ => ⟨S1x128, .f32⟩
  | .local _ .vmem, ⟨17, _⟩ => ⟨S1x128, .f32⟩
  | .local _ .vmem, ⟨18, _⟩ => ⟨S1x2048x128, .bf16⟩
  | .local _ .vmem, ⟨19, _⟩ => ⟨S1x2048x128, .bf16⟩
  | .local _ .vmem, ⟨20, _⟩ => ⟨S1x1x128, .f32⟩
  | .local _ .vmem, ⟨21, _⟩ => ⟨S1x1x128, .f32⟩
  | .local _ .vmem, ⟨22, _⟩ => ⟨S1x3x128, .f32⟩
  | .local _ .vmem, ⟨23, _⟩ => ⟨S1x3x128, .f32⟩
  | .local _ .vmem, ⟨24, _⟩ => ⟨S2056x128, .f32⟩
  | .local _ .vmem, ⟨25, _⟩ => ⟨S2624x128, .f32⟩
  | .local _ .vmem, ⟨26, _⟩ => ⟨S2624x128, .f32⟩
  | .local _ .vmem, ⟨27, _⟩ => ⟨S2632x128, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x3x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S4x2048x4096 : Shape := ⟨3, ![4, 2048, 4096]⟩
abbrev S4x3x2048 : Shape := ⟨3, ![4, 3, 2048]⟩
abbrev S4x1x2048 : Shape := ⟨3, ![4, 1, 2048]⟩
abbrev S4x2048 : Shape := ⟨2, ![4, 2048]⟩
abbrev S2048 : Shape := ⟨1, ![2048]⟩
abbrev S2x16x128x128 : Shape := ⟨4, ![2, 16, 128, 128]⟩
abbrev S2x2048 : Shape := ⟨2, ![2, 2048]⟩
abbrev S4x2048x2048 : Shape := ⟨3, ![4, 2048, 2048]⟩
abbrev S4x2051x2048 : Shape := ⟨3, ![4, 2051, 2048]⟩
abbrev S1x2048 : Shape := ⟨2, ![1, 2048]⟩
abbrev S1x1x2048 : Shape := ⟨3, ![1, 1, 2048]⟩
abbrev S4x2048x16x128 : Shape := ⟨4, ![4, 2048, 16, 128]⟩
abbrev S16x2x128x4x2048 : Shape := ⟨5, ![16, 2, 128, 4, 2048]⟩
abbrev S2x4x2048x16x128 : Shape := ⟨5, ![2, 4, 2048, 16, 128]⟩
abbrev S2x4x2048x2048 : Shape := ⟨4, ![2, 4, 2048, 2048]⟩
abbrev S1x4x2048x2048 : Shape := ⟨4, ![1, 4, 2048, 2048]⟩
abbrev S_ : Shape := ⟨0, ![]⟩
abbrev S2048x4x2048 : Shape := ⟨3, ![2048, 4, 2048]⟩
abbrev S1x4x2048 : Shape := ⟨3, ![1, 4, 2048]⟩

abbrev nBuf : Space → Nat
  | .hbm => 158
  | .vmem => 0
  | .smem => 0
  | _ => 0

abbrev hbmTy0_0 (i : Nat) : BufTy := match i % 128 with
  | 0 => ⟨S4x2048x4096, .f32⟩
  | 1 => ⟨S4x3x2048, .f32⟩
  | 2 => ⟨S4x1x2048, .f32⟩
  | 3 => ⟨S4x2048, .f32⟩
  | 4 => ⟨S2048, .f32⟩
  | 5 => ⟨S2x16x128x128, .f32⟩
  | 6 => ⟨S2x2048, .f32⟩
  | 7 => ⟨S2048, .f32⟩
  | 8 => ⟨S4x2048x2048, .f32⟩
  | 9 => ⟨S4x2051x2048, .f32⟩
  | 10 => ⟨S4x2048x2048, .f32⟩
  | 11 => ⟨S1x2048, .f32⟩
  | 12 => ⟨S2048, .f32⟩
  | 13 => ⟨S1x1x2048, .f32⟩
  | 14 => ⟨S4x2048x2048, .f32⟩
  | 15 => ⟨S4x2048x2048, .f32⟩
  | 16 => ⟨S1x1x2048, .f32⟩
  | 17 => ⟨S4x2048x2048, .f32⟩
  | 18 => ⟨S4x2048x2048, .f32⟩
  | 19 => ⟨S4x2048x2048, .f32⟩
  | 20 => ⟨S1x2048, .f32⟩
  | 21 => ⟨S2048, .f32⟩
  | 22 => ⟨S1x1x2048, .f32⟩
  | 23 => ⟨S4x2048x2048, .f32⟩
  | 24 => ⟨S4x2048x2048, .f32⟩
  | 25 => ⟨S4x2048x2048, .f32⟩
  | 26 => ⟨S4x2048x2048, .f32⟩
  | 27 => ⟨S1x2048, .f32⟩
  | 28 => ⟨S2048, .f32⟩
  | 29 => ⟨S1x1x2048, .f32⟩
  | 30 => ⟨S4x2048x2048, .f32⟩
  | 31 => ⟨S4x2048x2048, .f32⟩
  | 32 => ⟨S4x2048x2048, .f32⟩
  | 33 => ⟨S4x2048x2048, .f32⟩
  | 34 => ⟨S1x2048, .f32⟩
  | 35 => ⟨S2048, .f32⟩
  | 36 => ⟨S1x1x2048, .f32⟩
  | 37 => ⟨S4x2048x2048, .f32⟩
  | 38 => ⟨S4x2048x2048, .f32⟩
  | 39 => ⟨S4x2048x2048, .f32⟩
  | 40 => ⟨S4x2048x16x128, .f32⟩
  | 41 => ⟨S16x2x128x4x2048, .f32⟩
  | 42 => ⟨S2x4x2048x16x128, .f32⟩
  | 43 => ⟨S2x4x2048x2048, .f32⟩
  | 44 => ⟨S1x4x2048x2048, .f32⟩
  | 45 => ⟨S4x2048x2048, .f32⟩
  | 46 => ⟨S1x2048, .f32⟩
  | 47 => ⟨S2048, .f32⟩
  | 48 => ⟨S1x1x2048, .f32⟩
  | 49 => ⟨S4x2048x2048, .f32⟩
  | 50 => ⟨S4x2048x2048, .f32⟩
  | 51 => ⟨S4x2048x2048, .f32⟩
  | 52 => ⟨S4x2048x2048, .f32⟩
  | 53 => ⟨S_, .f32⟩
  | 54 => ⟨S4x2048x2048, .f32⟩
  | 55 => ⟨S4x2048x2048, .f32⟩
  | 56 => ⟨S_, .f32⟩
  | 57 => ⟨S4x2048x2048, .f32⟩
  | 58 => ⟨S4x2048x2048, .f32⟩
  | 59 => ⟨S1x4x2048x2048, .f32⟩
  | 60 => ⟨S4x2048x2048, .f32⟩
  | 61 => ⟨S1x2048, .f32⟩
  | 62 => ⟨S2048, .f32⟩
  | 63 => ⟨S1x1x2048, .f32⟩
  | 64 => ⟨S4x2048x2048, .f32⟩
  | 65 => ⟨S4x2048x2048, .f32⟩
  | 66 => ⟨S4x2048x2048, .f32⟩
  | 67 => ⟨S4x2048x2048, .f32⟩
  | 68 => ⟨S_, .f32⟩
  | 69 => ⟨S4x2048x2048, .f32⟩
  | 70 => ⟨S4x2048x2048, .f32⟩
  | 71 => ⟨S_, .f32⟩
  | 72 => ⟨S4x2048x2048, .f32⟩
  | 73 => ⟨S4x2048x2048, .f32⟩
  | 74 => ⟨S_, .f32⟩
  | 75 => ⟨S4x2048x2048, .f32⟩
  | 76 => ⟨S4x2048x2048, .f32⟩
  | 77 => ⟨S2048, .f32⟩
  | 78 => ⟨S_, .f32⟩
  | 79 => ⟨S2048, .f32⟩
  | 80 => ⟨S2048, .f32⟩
  | 81 => ⟨S2048, .f32⟩
  | 82 => ⟨S2048, .f32⟩
  | 83 => ⟨S2048, .i1⟩
  | 84 => ⟨S2048, .f32⟩
  | 85 => ⟨S2048, .f32⟩
  | 86 => ⟨S2048, .f32⟩
  | 87 => ⟨S2048, .f32⟩
  | 88 => ⟨S2048, .f32⟩
  | 89 => ⟨S2048, .f32⟩
  | 90 => ⟨S2048, .f32⟩
  | 91 => ⟨S2048, .f32⟩
  | 92 => ⟨S1x1x2048, .f32⟩
  | 93 => ⟨S4x2048x2048, .f32⟩
  | 94 => ⟨S4x2048x2048, .f32⟩
  | 95 => ⟨S4x2048x2048, .f32⟩
  | 96 => ⟨S_, .f32⟩
  | 97 => ⟨S4x2048x2048, .f32⟩
  | 98 => ⟨S4x2048x2048, .f32⟩
  | 99 => ⟨S4x2048x2048, .f32⟩
  | 100 => ⟨S4x2048x2048, .f32⟩
  | 101 => ⟨S4x2048x2048, .f32⟩
  | 102 => ⟨S4x2048x2048, .f32⟩
  | 103 => ⟨S4x2048x2048, .f32⟩
  | 104 => ⟨S4x2048, .f32⟩
  | 105 => ⟨S2048x4x2048, .f32⟩
  | 106 => ⟨S2048x4x2048, .f32⟩
  | 107 => ⟨S_, .f32⟩
  | 108 => ⟨S2048x4x2048, .f32⟩
  | 109 => ⟨S_, .i32⟩
  | 110 => ⟨S2048x4x2048, .f32⟩
  | 111 => ⟨S2048x4x2048, .f32⟩
  | 112 => ⟨S_, .i32⟩
  | 113 => ⟨S4x2048, .f32⟩
  | 114 => ⟨S2048x4x2048, .f32⟩
  | 115 => ⟨S_, .i32⟩
  | 116 => ⟨S_, .i1⟩
  | 117 => ⟨S_, .i32⟩
  | 118 => ⟨S_, .i32⟩
  | 119 => ⟨S1x4x2048, .f32⟩
  | 120 => ⟨S4x2048, .f32⟩
  | 121 => ⟨S_, .i32⟩
  | 122 => ⟨S_, .i32⟩
  | 123 => ⟨S1x4x2048, .f32⟩
  | 124 => ⟨S4x2048, .f32⟩
  | 125 => ⟨S4x2048, .f32⟩
  | 126 => ⟨S4x2048, .f32⟩
  | 127 => ⟨S1x4x2048, .f32⟩
  | _ => ⟨S4x2048x4096, .f32⟩

abbrev hbmTy0_1 (i : Nat) : BufTy := match i % 128 with
  | 0 => ⟨S_, .i32⟩
  | 1 => ⟨S_, .i32⟩
  | 2 => ⟨S2048x4x2048, .f32⟩
  | 3 => ⟨S_, .i32⟩
  | 4 => ⟨S_, .i32⟩
  | 5 => ⟨S4x2048x2048, .f32⟩
  | 6 => ⟨S4x2048x2048, .f32⟩
  | 7 => ⟨S4x2048x2048, .f32⟩
  | 8 => ⟨S_, .f32⟩
  | 9 => ⟨S4x2048x2048, .f32⟩
  | 10 => ⟨S4x2048x2048, .f32⟩
  | 11 => ⟨S4x2048x2048, .f32⟩
  | 12 => ⟨S_, .f32⟩
  | 13 => ⟨S4x2048x2048, .f32⟩
  | 14 => ⟨S4x2048x2048, .f32⟩
  | 15 => ⟨S4x2048x2048, .f32⟩
  | 16 => ⟨S_, .f32⟩
  | 17 => ⟨S4x2048x2048, .f32⟩
  | 18 => ⟨S4x2048x2048, .f32⟩
  | 19 => ⟨S_, .f32⟩
  | 20 => ⟨S4x2048x2048, .f32⟩
  | 21 => ⟨S4x2048x2048, .f32⟩
  | 22 => ⟨S4x2048x2048, .f32⟩
  | 23 => ⟨S4x2048x2048, .f32⟩
  | 24 => ⟨S4x2048x2048, .f32⟩
  | 25 => ⟨S4x2048x2048, .bf16⟩
  | 26 => ⟨S4x1x2048, .f32⟩
  | 27 => ⟨S4x2048x2048, .f32⟩
  | 28 => ⟨S4x2051x2048, .f32⟩
  | 29 => ⟨S4x3x2048, .f32⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst : Ref sig .tc := ⟨.hbm, 53, rfl⟩
abbrev main_v45 : Ref sig .tc := ⟨.hbm, 54, rfl⟩
abbrev main_v46 : Ref sig .tc := ⟨.hbm, 55, rfl⟩
abbrev main_cst_0 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_1 : Ref sig .tc := ⟨.hbm, 68, rfl⟩
abbrev main_v58 : Ref sig .tc := ⟨.hbm, 69, rfl⟩
abbrev main_v59 : Ref sig .tc := ⟨.hbm, 70, rfl⟩
abbrev main_cst_2 : Ref sig .tc := ⟨.hbm, 71, rfl⟩
abbrev main_v60 : Ref sig .tc := ⟨.hbm, 72, rfl⟩
abbrev main_v61 : Ref sig .tc := ⟨.hbm, 73, rfl⟩
abbrev main_cst_3 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_call0_cst : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_v7 : Ref sig .tc := ⟨.hbm, 86, rfl⟩
abbrev main_call0_v8 : Ref sig .tc := ⟨.hbm, 87, rfl⟩
abbrev main_call0_v9 : Ref sig .tc := ⟨.hbm, 88, rfl⟩
abbrev main_call0_v10 : Ref sig .tc := ⟨.hbm, 89, rfl⟩
abbrev main_call0_v11 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_4 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_5 : Ref sig .tc := ⟨.hbm, 107, rfl⟩
abbrev main_v80 : Ref sig .tc := ⟨.hbm, 108, rfl⟩
abbrev main_c : Ref sig .tc := ⟨.hbm, 109, rfl⟩
abbrev main_v81_0 : Ref sig .tc := ⟨.hbm, 110, rfl⟩
abbrev main_v81_1 : Ref sig .tc := ⟨.hbm, 111, rfl⟩
abbrev main_v81_2 : Ref sig .tc := ⟨.hbm, 112, rfl⟩
abbrev main_v81_3 : Ref sig .tc := ⟨.hbm, 113, rfl⟩
abbrev main_v81_4 : Ref sig .tc := ⟨.hbm, 114, rfl⟩
abbrev main_while0c_c_14 : Ref sig .tc := ⟨.hbm, 115, rfl⟩
abbrev main_while0c_v103 : Ref sig .tc := ⟨.hbm, 116, rfl⟩
abbrev main_while0b_call1_c : Ref sig .tc := ⟨.hbm, 117, rfl⟩
abbrev main_while0b_call1_c_0 : Ref sig .tc := ⟨.hbm, 118, rfl⟩
abbrev main_while0b_call1_v0 : Ref sig .tc := ⟨.hbm, 119, rfl⟩
abbrev main_while0b_v103 : Ref sig .tc := ⟨.hbm, 120, rfl⟩
abbrev main_while0b_call2_c : Ref sig .tc := ⟨.hbm, 121, rfl⟩
abbrev main_while0b_call2_c_0 : Ref sig .tc := ⟨.hbm, 122, rfl⟩
abbrev main_while0b_call2_v0 : Ref sig .tc := ⟨.hbm, 123, rfl⟩
abbrev main_while0b_v104 : Ref sig .tc := ⟨.hbm, 124, rfl⟩
abbrev main_while0b_v105 : Ref sig .tc := ⟨.hbm, 125, rfl⟩
abbrev main_while0b_v106 : Ref sig .tc := ⟨.hbm, 126, rfl⟩
abbrev main_while0b_call3_v0 : Ref sig .tc := ⟨.hbm, 127, rfl⟩
abbrev main_while0b_call3_c : Ref sig .tc := ⟨.hbm, 128, rfl⟩
abbrev main_while0b_call3_c_0 : Ref sig .tc := ⟨.hbm, 129, rfl⟩
abbrev main_while0b_v107 : Ref sig .tc := ⟨.hbm, 130, rfl⟩
abbrev main_while0b_c_14 : Ref sig .tc := ⟨.hbm, 131, rfl⟩
abbrev main_while0b_v108 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_cst_6 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_cst_7 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_cst_8 : Ref sig .tc := ⟨.hbm, 144, rfl⟩
abbrev main_v91 : Ref sig .tc := ⟨.hbm, 145, rfl⟩
abbrev main_v92 : Ref sig .tc := ⟨.hbm, 146, rfl⟩
abbrev main_cst_9 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩

abbrev nD : Nat := 1
abbrev τ : Topo := Topo.v7x

variable {F : FTy → Type} [FloatOps F]

abbrev main_while0_count : Scf.Loop 32 := ⟨0#32, 2048#32, 1#32⟩
-- ==== Mlp2.lean ====
abbrev S8192x16384 : Shape := ⟨2, ![8192, 16384]⟩
abbrev S16384x4096 : Shape := ⟨2, ![16384, 4096]⟩
abbrev S8192x4096 : Shape := ⟨2, ![8192, 4096]⟩
abbrev S4x1x4096 : Shape := ⟨3, ![4, 1, 4096]⟩
abbrev S1024x4096 : Shape := ⟨2, ![1024, 4096]⟩
abbrev S4096x512 : Shape := ⟨2, ![4096, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 5
  | .vmem => 11
  | .smem => 0
  | _ => 0

abbrev bufTy : (tb : Table) → Fin (tcTables nBuf tb) → BufTy
  | .hbm, ⟨0, _⟩ => ⟨S8192x16384, .bf16⟩
  | .hbm, ⟨1, _⟩ => ⟨S16384x4096, .bf16⟩
  | .hbm, ⟨2, _⟩ => ⟨S8192x4096, .f32⟩
  | .hbm, ⟨3, _⟩ => ⟨S4x1x4096, .f32⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Mlp2RefIdeal.lean ====
abbrev S8192x16384 : Shape := ⟨2, ![8192, 16384]⟩
abbrev S16384x4096 : Shape := ⟨2, ![16384, 4096]⟩
abbrev S8192x4096 : Shape := ⟨2, ![8192, 4096]⟩
abbrev S4x1x4096 : Shape := ⟨3, ![4, 1, 4096]⟩
abbrev S4x2048x4096 : Shape := ⟨3, ![4, 2048, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S16384x4096, .bf16⟩
  | .hbm, ⟨2, _⟩ => ⟨S8192x4096, .f32⟩
  | .hbm, ⟨3, _⟩ => ⟨S4x1x4096, .f32⟩
  | .hbm, ⟨4, _⟩ => ⟨S8192x4096, .f32⟩
  | .hbm, ⟨5, _⟩ => ⟨S4x2048x4096, .f32⟩
  | .hbm, ⟨6, _⟩ => ⟨S4x2048x4096, .f32⟩
  | .hbm, ⟨7, _⟩ => ⟨S4x2048x4096, .f32⟩
  | .hbm, ⟨8, _⟩ => ⟨S4x2048x4096, .f32⟩
  | .hbm, ⟨9, _⟩ => ⟨S4x2048x4096, .f32⟩
  | .hbm, ⟨10, _⟩ => ⟨S8192x4096, .f32⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Mlp1.lean ====
abbrev S8192x4096 : Shape := ⟨2, ![8192, 4096]⟩
abbrev S4096x16384 : Shape := ⟨2, ![4096, 16384]⟩
abbrev S8192x16384 : Shape := ⟨2, ![8192, 16384]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .bf16⟩
  | .hbm, ⟨2, _⟩ => ⟨S8192x16384, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mlp1RefIdeal.lean ====
abbrev S8192x4096 : Shape := ⟨2, ![8192, 4096]⟩
abbrev S4096x16384 : Shape := ⟨2, ![4096, 16384]⟩
abbrev S8192x16384 : Shape := ⟨2, ![8192, 16384]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .bf16⟩
  | .hbm, ⟨2, _⟩ => ⟨S8192x16384, .f32⟩
  | .hbm, ⟨3, _⟩ => ⟨S_, .f32⟩
  | .hbm, ⟨4, _⟩ => ⟨S8192x16384, .f32⟩
  | .hbm, ⟨5, _⟩ => ⟨S8192x16384, .f32⟩
  | .hbm, ⟨6, _⟩ => ⟨S8192x16384, .f32⟩
  | .hbm, ⟨7, _⟩ => ⟨S8192x16384, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== OutProj.lean ====
abbrev S8192x4096 : Shape := ⟨2, ![8192, 4096]⟩
abbrev S4096x4096 : Shape := ⟨2, ![4096, 4096]⟩
abbrev S4x1x4096 : Shape := ⟨3, ![4, 1, 4096]⟩
abbrev S1024x4096 : Shape := ⟨2, ![1024, 4096]⟩
abbrev S4096x512 : Shape := ⟨2, ![4096, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S4x1x4096, .f32⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== OutProjRefIdeal.lean ====
abbrev S8192x4096 : Shape := ⟨2, ![8192, 4096]⟩
abbrev S4096x4096 : Shape := ⟨2, ![4096, 4096]⟩
abbrev S4x1x4096 : Shape := ⟨3, ![4, 1, 4096]⟩
abbrev S4x2048x4096 : Shape := ⟨3, ![4, 2048, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S4x1x4096, .f32⟩
  | .hbm, ⟨4, _⟩ => ⟨S8192x4096, .f32⟩
  | .hbm, ⟨5, _⟩ => ⟨S4x2048x4096, .f32⟩
  | .hbm, ⟨6, _⟩ => ⟨S4x2048x4096, .f32⟩
  | .hbm, ⟨7, _⟩ => ⟨S4x2048x4096, .f32⟩
  | .hbm, ⟨8, _⟩ => ⟨S4x2048x4096, .f32⟩
  | .hbm, ⟨9, _⟩ => ⟨S4x2048x4096, .f32⟩
  | .hbm, ⟨10, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Merge.lean ====
abbrev S8192x2048 : Shape := ⟨2, ![8192, 2048]⟩
abbrev S2048x4096 : Shape := ⟨2, ![2048, 4096]⟩
abbrev S8192x8192 : Shape := ⟨2, ![8192, 8192]⟩
abbrev S8192x4096 : Shape := ⟨2, ![8192, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x2048, .bf16⟩
  | .hbm, ⟨3, _⟩ => ⟨S2048x4096, .bf16⟩
  | .hbm, ⟨4, _⟩ => ⟨S8192x8192, .f32⟩
  | .hbm, ⟨5, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x2048, .bf16⟩
  | .local _ .vmem, ⟨5, _⟩ => ⟨S1024x2048, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S8192x2048 : Shape := ⟨2, ![8192, 2048]⟩
abbrev S2048x4096 : Shape := ⟨2, ![2048, 4096]⟩
abbrev S8192x8192 : Shape := ⟨2, ![8192, 8192]⟩
abbrev S_ : Shape := ⟨0, ![]⟩
abbrev S8192x4096 : Shape := ⟨2, ![8192, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x2048, .bf16⟩
  | .hbm, ⟨3, _⟩ => ⟨S2048x4096, .bf16⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== InQkv.lean ====
abbrev S8192x4096 : Shape := ⟨2, ![8192, 4096]⟩
abbrev S4096x5120 : Shape := ⟨2, ![4096, 5120]⟩
abbrev S8192x5120 : Shape := ⟨2, ![8192, 5120]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x5120, .bf16⟩
  | .hbm, ⟨2, _⟩ => ⟨S8192x5120, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InQkvIdeal.lean ====
abbrev S8192x4096 : Shape := ⟨2, ![8192, 4096]⟩
abbrev S4096x5120 : Shape := ⟨2, ![4096, 5120]⟩
abbrev S8192x5120 : Shape := ⟨2, ![8192, 5120]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x5120, .bf16⟩
  | .hbm, ⟨2, _⟩ => ⟨S8192x5120, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InQkvRefIdeal.lean ====
abbrev S8192x4096 : Shape := ⟨2, ![8192, 4096]⟩
abbrev S4096x5120 : Shape := ⟨2, ![4096, 5120]⟩
abbrev S8192x5120 : Shape := ⟨2, ![8192, 5120]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x5120, .bf16⟩
  | .hbm, ⟨2, _⟩ => ⟨S8192x5120, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InRnn.lean ====
abbrev S8192x4096 : Shape := ⟨2, ![8192, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRnnIdeal.lean ====
abbrev S8192x4096 : Shape := ⟨2, ![8192, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRnnRefIdeal.lean ====
abbrev S8192x4096 : Shape := ⟨2, ![8192, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InGate.lean ====
abbrev S8192x4096 : Shape := ⟨2, ![8192, 4096]⟩
abbrev S4096x8192 : Shape := ⟨2, ![4096, 8192]⟩
abbrev S8192x8192 : Shape := ⟨2, ![8192, 8192]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x8192, .bf16⟩
  | .hbm, ⟨2, _⟩ => ⟨S8192x8192, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGateRefIdeal.lean ====
abbrev S8192x4096 : Shape := ⟨2, ![8192, 4096]⟩
abbrev S4096x8192 : Shape := ⟨2, ![4096, 8192]⟩
abbrev S8192x8192 : Shape := ⟨2, ![8192, 8192]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x8192, .bf16⟩
  | .hbm, ⟨2, _⟩ => ⟨S8192x8192, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.RowCanon.lean ====
/- Buffers written and read by rows: what a rank-2 buffer holds on a band of rows after a list of row stores
   (consecutive or strided), and what a row load of it returns. -/
module

public import Idealize.ShloMosaic.Lib.Pipeline.Value

@[expose] public section

namespace Cert.RowCanon

open Idealize.ShloMosaic

variable {R C : ℕ} {e : EltTy} {Val : EltTy → Type} [∀ e, Nonempty (Val e)]

/-- The shape of a buffer of `R` rows and `C` lanes. -/
abbrev Sh (R C : ℕ) : Shape := ⟨2, ![R, C]⟩

/-- The box takes `n` whole rows, the first at `off`, `s` apart. -/
structure IsRows (r : LoadRect (Sh R C)) (off s n : ℕ) : Prop where
  off0 : r.off 0 = off
  off1 : r.off 1 = 0
  stride0 : r.stride 0 = s
  stride1 : r.stride 1 = 1
  size0 : r.size 0 = n
  size1 : r.size 1 = C

/-- An index lies in the box when its row is one of the rows taken. -/
theorem IsRows.mem {r : LoadRect (Sh R C)} {off s n : ℕ} (h : IsRows r off s n) (y : (Sh R C).Idx) :
    y ∈ r.set ↔ ∃ j < n, (y 0).val = off + s * j := by
  rw [r.mem_set]
  constructor
  · intro hy
    have := hy 0
    rw [h.size0, h.off0, h.stride0] at this
    exact this
  · intro hy a
    match a with
    | 0 => show ∃ j < r.size 0, (y 0 : ℕ) = r.off 0 + r.stride 0 * j
           rw [h.size0, h.off0, h.stride0]; exact hy
    | 1 => show ∃ j < r.size 1, (y 1 : ℕ) = r.off 1 + r.stride 1 * j
           rw [h.size1, h.off1, h.stride1]
           exact ⟨(y 1).val, (y 1).isLt, by omega⟩

/-- On the rows from `lo` up to `hi` the written buffer holds `G lane row`. -/
def Holds (L : List (View.Piece Val (Sh R C) e)) (lo hi : ℕ) (G : ℕ → ℕ → Val e) : Prop :=
  ∀ y : (Sh R C).Idx, lo ≤ (y 0).val → (y 0).val < hi → View.canon L y = G (y 1).val (y 0).val

/-- A smaller band of rows. -/
theorem Holds.mono {L : List (View.Piece Val (Sh R C) e)} {lo hi lo' hi' : ℕ} {G : ℕ → ℕ → Val e}
    (h : Holds L lo hi G) (hlo : lo ≤ lo') (hhi : hi' ≤ hi) : Holds L lo' hi' G :=
  fun y h1 h2 => h y (hlo.trans h1) (h2.trans_le hhi)

/-- The row of the buffer that a box's own index names. -/
theorem IsRows.row {r : LoadRect (Sh R C)} {off s n : ℕ} (h : IsRows r off s n) (x : r.shape.Idx) :
    (r.idx x 0).val = off + s * (x 0).val := by
  rw [r.idx_apply, h.off0, h.stride0]

/-- The lane of the buffer that a box's own index names. -/
theorem IsRows.lane {r : LoadRect (Sh R C)} {off s n : ℕ} (h : IsRows r off s n) (x : r.shape.Idx) :
    (r.idx x 1).val = (x 1).val := by
  rw [r.idx_apply, h.off1, h.stride1]; omega

/-- A store of rows hits: at a row it wrote the buffer holds what it wrote. -/
theorem canon_hit {r : Rect (Sh R C)} {off s n : ℕ} (h : IsRows r.toLoadRect off s n) (w : r.shape.Idx → Val e)
    (L : List (View.Piece Val (Sh R C) e)) (G : ℕ → ℕ → Val e)
    (hw : ∀ x : r.shape.Idx, w x = G (x 1).val (off + s * (x 0).val)) (y : (Sh R C).Idx)
    (hy : ∃ j < n, (y 0).val = off + s * j) :
    View.canon (⟨r, w⟩ :: L) y = G (y 1).val (y 0).val := by
  obtain ⟨x, rfl⟩ := r.exists_idx_of_mem ((h.mem y).mpr hy)
  rw [h.row, h.lane]
  exact (View.canon_cons_emb r w L x).trans (hw x)

/-- A store of rows misses: at a row it did not write the buffer holds what it held. -/
theorem canon_miss {r : Rect (Sh R C)} {off s n : ℕ} (h : IsRows r.toLoadRect off s n) (w : r.shape.Idx → Val e)
    (L : List (View.Piece Val (Sh R C) e)) (y : (Sh R C).Idx) (hy : ¬ ∃ j < n, (y 0).val = off + s * j) :
    View.canon (⟨r, w⟩ :: L) y = View.canon L y :=
  View.canon_cons_of_not_mem ⟨r, w⟩ L fun hm => hy ((h.mem y).mp hm)

/-- The band a store of consecutive rows writes. -/
theorem Holds.new {r : Rect (Sh R C)} {off n : ℕ} (h : IsRows r.toLoadRect off 1 n) {w : r.shape.Idx → Val e}
    {L : List (View.Piece Val (Sh R C) e)} {G : ℕ → ℕ → Val e}
    (hw : ∀ x : r.shape.Idx, w x = G (x 1).val (off + (x 0).val)) : Holds (⟨r, w⟩ :: L) off (off + n) G :=
  fun y h1 h2 => canon_hit h w L G (fun x => by rw [hw x, Nat.one_mul]) y
    ⟨(y 0).val - off, by omega, by omega⟩

/-- A band a store of rows leaves alone. -/
theorem Holds.old {r : Rect (Sh R C)} {off s n lo hi : ℕ} (h : IsRows r.toLoadRect off s n) {w : r.shape.Idx → Val e}
    {L : List (View.Piece Val (Sh R C) e)} {G : ℕ → ℕ → Val e} (hL : Holds L lo hi G)
    (hd : hi ≤ off ∨ off + s * (n - 1) < lo) : Holds (⟨r, w⟩ :: L) lo hi G :=
  fun y h1 h2 => (canon_miss h w L y (by
    rintro ⟨j, hj, he⟩
    have : s * j ≤ s * (n - 1) := Nat.mul_le_mul_left _ (by omega)
    omega)).trans (hL y h1 h2)

/-- One row set before a band extends the band downwards. -/
theorem Holds.below {L : List (View.Piece Val (Sh R C) e)} {lo hi : ℕ} {G : ℕ → ℕ → Val e}
    (h0 : Holds L lo (lo + 1) G) (h : Holds L (lo + 1) hi G) : Holds L lo hi G :=
  fun y h1 h2 => by
    by_cases hy : (y 0).val < lo + 1
    · exact h0 y h1 hy
    · exact h y (by omega) h2

/-- Eight interleaved stores, rows `off + 8 j + r` for `r = 0, …, 7`, fill their band. -/
theorem Holds.eight {r0 r1 r2 r3 r4 r5 r6 r7 : Rect (Sh R C)} {off n : ℕ}
    (h0 : IsRows r0.toLoadRect off 8 n) (h1 : IsRows r1.toLoadRect (off + 1) 8 n)
    (h2 : IsRows r2.toLoadRect (off + 2) 8 n) (h3 : IsRows r3.toLoadRect (off + 3) 8 n)
    (h4 : IsRows r4.toLoadRect (off + 4) 8 n) (h5 : IsRows r5.toLoadRect (off + 5) 8 n)
    (h6 : IsRows r6.toLoadRect (off + 6) 8 n) (h7 : IsRows r7.toLoadRect (off + 7) 8 n)
    {w0 : r0.shape.Idx → Val e} {w1 : r1.shape.Idx → Val e} {w2 : r2.shape.Idx → Val e} {w3 : r3.shape.Idx → Val e}
    {w4 : r4.shape.Idx → Val e} {w5 : r5.shape.Idx → Val e} {w6 : r6.shape.Idx → Val e} {w7 : r7.shape.Idx → Val e}
    {L : List (View.Piece Val (Sh R C) e)} {G : ℕ → ℕ → Val e}
    (e0 : ∀ x, w0 x = G (x 1).val (off + 8 * (x 0).val)) (e1 : ∀ x, w1 x = G (x 1).val (off + 1 + 8 * (x 0).val))
    (e2 : ∀ x, w2 x = G (x 1).val (off + 2 + 8 * (x 0).val)) (e3 : ∀ x, w3 x = G (x 1).val (off + 3 + 8 * (x 0).val))
    (e4 : ∀ x, w4 x = G (x 1).val (off + 4 + 8 * (x 0).val)) (e5 : ∀ x, w5 x = G (x 1).val (off + 5 + 8 * (x 0).val))
    (e6 : ∀ x, w6 x = G (x 1).val (off + 6 + 8 * (x 0).val)) (e7 : ∀ x, w7 x = G (x 1).val (off + 7 + 8 * (x 0).val)) :
    Holds (⟨r7, w7⟩ :: ⟨r6, w6⟩ :: ⟨r5, w5⟩ :: ⟨r4, w4⟩ :: ⟨r3, w3⟩ :: ⟨r2, w2⟩ :: ⟨r1, w1⟩ :: ⟨r0, w0⟩ :: L)
      off (off + 8 * n) G := by
  intro y hlo hhi
  obtain ⟨q, c, hc, hq⟩ : ∃ q c, c < 8 ∧ (y 0).val = off + c + 8 * q :=
    ⟨((y 0).val - off) / 8, ((y 0).val - off) % 8, Nat.mod_lt _ (by omega), by omega⟩
  have hqn : q < n := by omega
  by_cases c7 : c = 7
  · exact canon_hit h7 w7 _ G e7 y ⟨q, hqn, by omega⟩
  rw [canon_miss h7 w7 _ y (by rintro ⟨j, _, he⟩; omega)]
  by_cases c6 : c = 6
  · exact canon_hit h6 w6 _ G e6 y ⟨q, hqn, by omega⟩
  rw [canon_miss h6 w6 _ y (by rintro ⟨j, _, he⟩; omega)]
  by_cases c5 : c = 5
  · exact canon_hit h5 w5 _ G e5 y ⟨q, hqn, by omega⟩
  rw [canon_miss h5 w5 _ y (by rintro ⟨j, _, he⟩; omega)]
  by_cases c4 : c = 4
  · exact canon_hit h4 w4 _ G e4 y ⟨q, hqn, by omega⟩
  rw [canon_miss h4 w4 _ y (by rintro ⟨j, _, he⟩; omega)]
  by_cases c3 : c = 3
  · exact canon_hit h3 w3 _ G e3 y ⟨q, hqn, by omega⟩
  rw [canon_miss h3 w3 _ y (by rintro ⟨j, _, he⟩; omega)]
  by_cases c2 : c = 2
  · exact canon_hit h2 w2 _ G e2 y ⟨q, hqn, by omega⟩
  rw [canon_miss h2 w2 _ y (by rintro ⟨j, _, he⟩; omega)]
  by_cases c1 : c = 1
  · exact canon_hit h1 w1 _ G e1 y ⟨q, hqn, by omega⟩
  rw [canon_miss h1 w1 _ y (by rintro ⟨j, _, he⟩; omega)]
  exact canon_hit h0 w0 _ G e0 y ⟨q, hqn, by omega⟩

/-- A load of rows inside a known band. -/
theorem Holds.load {sig : RefSig} {κ : Kind} {sp : Space} (v : View sig κ sp (Sh R C) e)
    {L : List (View.Piece Val (Sh R C) e)} {lo hi : ℕ} {G : ℕ → ℕ → Val e} (hL : Holds L lo hi G)
    {r : LoadRect (Sh R C)} {off s n : ℕ} (h : IsRows r off s n) (hlo : lo ≤ off) (hhi : off + s * (n - 1) < hi)
    (x : r.shape.Idx) : v.readCov L r x = G (x 1).val (off + s * (x 0).val) := by
  rw [View.readCov_eq_canon', ← h.row x, ← h.lane x]
  have hx : (x 0).val ≤ n - 1 := by
    have h1 : (x 0).val < r.size 0 := (x 0).isLt
    rw [h.size0] at h1; omega
  have : s * (x 0).val ≤ s * (n - 1) := Nat.mul_le_mul_left _ hx
  exact hL _ (by rw [h.row]; omega) (by rw [h.row]; omega)

/-- The same, with the value the band gives named. -/
theorem load_eq {sig : RefSig} {κ : Kind} {sp : Space} {v : View sig κ sp (Sh R C) e}
    {L : List (View.Piece Val (Sh R C) e)} {r : LoadRect (Sh R C)} {x : r.shape.Idx} {z : Val e}
    (off s n : ℕ) {lo hi : ℕ} {G : ℕ → ℕ → Val e} (hL : Holds L lo hi G)
    (h : IsRows r off s n) (hlo : lo ≤ off) (hhi : off + s * (n - 1) < hi)
    (hz : G (x 1).val (off + s * (x 0).val) = z) : v.readCov L r x = z :=
  (hL.load v h hlo hhi x).trans hz

end Cert.RowCanon
-- ==== Proof.ScanMath.lean ====
/-
  The mathematics of the gated linear recurrence over the extended reals, apart from any program:
  the recurrence h ↦ a·h + b, its folding eight steps at a time (the kernel's levels), and the two
  spellings of the gate coefficients.
-/
module

public import Idealize.ShloMosaic.PureOps.Ideal

@[expose] public section

noncomputable section

namespace Cert.ScanMath

open Idealize.ShloMosaic

/-- The recurrence: `run a b h t` is the state after `t` steps `h ↦ a t · h + b t` from `h`. -/
def run (a b : ℕ → EReal) (h : EReal) : ℕ → EReal
  | 0 => h
  | t + 1 => a t * run a b h t + b t

/-- The multiplier of the steps `base, …, base + r` taken together. -/
def foldA (a : ℕ → EReal) (base : ℕ) : ℕ → EReal
  | 0 => a base
  | r + 1 => a (base + r + 1) * foldA a base r

/-- The summand of the steps `base, …, base + r` taken together. -/
def foldB (a b : ℕ → EReal) (base : ℕ) : ℕ → EReal
  | 0 => b base
  | r + 1 => a (base + r + 1) * foldB a b base r + b (base + r + 1)

/-- A multiplier that distributes over sums: nonnegative and finite. -/
def Ok (x : EReal) : Prop := 0 ≤ x ∧ x ≠ ⊤

/-- Products of nonnegative values that are not `⊤` are such again. -/
theorem Ok.mul {x y : EReal} (hx : Ok x) (hy : Ok y) : Ok (x * y) := by
  have bx : x ≠ ⊥ := fun h => by have := hx.1; rw [h] at this; exact absurd this (by simp)
  have bY : y ≠ ⊥ := fun h => by have := hy.1; rw [h] at this; exact absurd this (by simp)
  refine ⟨EReal.mul_nonneg hx.1 hy.1, ?_⟩
  lift x to ℝ using ⟨hx.2, bx⟩
  lift y to ℝ using ⟨hy.2, bY⟩
  rw [← EReal.coe_mul]; exact EReal.coe_ne_top _

/-- Running products of decay factors stay nonnegative and finite. -/
theorem foldA_ok {a : ℕ → EReal} (ha : ∀ t, Ok (a t)) (base : ℕ) : ∀ r, Ok (foldA a base r)
  | 0 => ha base
  | r + 1 => (ha _).mul (foldA_ok ha base r)

/-- Several steps taken together are one step of the folded coefficients. -/
theorem run_fold {a : ℕ → EReal} (b : ℕ → EReal) (h : EReal) (ha : ∀ t, Ok (a t)) (base : ℕ) :
    ∀ r, run a b h (base + r + 1) = foldA a base r * run a b h base + foldB a b base r
  | 0 => rfl
  | r + 1 => by
    show a (base + r + 1) * run a b h (base + r + 1) + b (base + r + 1) = _
    rw [run_fold b h ha base r, foldA, foldB,
      EReal.left_distrib_of_nonneg_of_ne_top (ha (base + r + 1)).1 (ha (base + r + 1)).2, add_assoc, mul_assoc]

/-- The next level's multipliers: eight steps at a time. -/
def upA (a : ℕ → EReal) (j : ℕ) : EReal := foldA a (8 * j) 7
/-- The next level's summands. -/
def upB (a b : ℕ → EReal) (j : ℕ) : EReal := foldB a b (8 * j) 7

/-- So does the product over a group of eight. -/
theorem upA_ok {a : ℕ → EReal} (ha : ∀ t, Ok (a t)) (j : ℕ) : Ok (upA a j) := foldA_ok ha _ _

/-- The recurrence of the folded coefficients meets the recurrence at every eighth step. -/
theorem run_up {a : ℕ → EReal} (b : ℕ → EReal) (h : EReal) (ha : ∀ t, Ok (a t)) :
    ∀ j, run (upA a) (upB a b) h j = run a b h (8 * j)
  | 0 => rfl
  | j + 1 => by
    show upA a j * run (upA a) (upB a b) h j + upB a b j = _
    rw [run_up b h ha j, show 8 * (j + 1) = 8 * j + 7 + 1 from by omega, run_fold b h ha]
    rfl

/-- The recurrence depends on the coefficients only. -/
theorem run_congr {a a' b b' : ℕ → EReal} {h h' : EReal} (n : ℕ) (ha : ∀ t < n, a t = a' t) (hb : ∀ t < n, b t = b' t)
    (hh : h = h') : run a b h n = run a' b' h' n := by
  induction n with
  | zero => exact hh
  | succ n ih =>
    show a n * run a b h n + b n = a' n * run a' b' h' n + b' n
    rw [ha n (by omega), hb n (by omega), ih (fun t ht => ha t (by omega)) (fun t ht => hb t (by omega))]

/-! ### The gate coefficients -/

/-- The exponential is nonnegative. -/
theorem exp_nonneg (x : EReal) : 0 ≤ Ideal.exp x := by
  induction x with
  | bot => simp
  | top => simp
  | coe r => rw [Ideal.exp_coe]; exact_mod_cast (Real.exp_pos r).le

/-- The exponential of a nonpositive value is nonnegative and finite. -/
theorem exp_ok {x : EReal} (hx : x ≤ 0) : Ok (Ideal.exp x) := by
  refine ⟨exp_nonneg x, ?_⟩
  induction x with
  | bot => simp
  | top => simp at hx
  | coe r => rw [Ideal.exp_coe]; exact EReal.coe_ne_top _

/-- The logistic function is nonnegative. -/
theorem logistic_nonneg (x : EReal) : 0 ≤ Ideal.logistic x := by
  induction x with
  | bot => simp
  | top => simp
  | coe r => rw [Ideal.logistic_coe]; exact_mod_cast (inv_pos.2 (by positivity)).le

/-- `log (1 + exp x)` is nonnegative. -/
theorem log1p_exp_nonneg (x : EReal) : 0 ≤ Ideal.log1p (Ideal.exp x) := by
  rw [Ideal.log1p]
  induction x with
  | bot =>
    rw [Ideal.exp_bot, add_zero, ← EReal.coe_one, Ideal.log_coe, if_neg (by norm_num), Real.log_one]; simp
  | top => rw [Ideal.exp_top, show (1 : EReal) + ⊤ = ⊤ from rfl]; simp
  | coe r =>
    have h : (0 : ℝ) < Real.exp r := Real.exp_pos r
    rw [Ideal.exp_coe, ← EReal.coe_one, ← EReal.coe_add, Ideal.log_coe, if_neg (by linarith)]
    exact_mod_cast Real.log_nonneg (by linarith)

/-- The softplus, as both programs spell it, is nonnegative. -/
theorem softplus_nonneg (y z : EReal) : 0 ≤ max y 0 + Ideal.log1p (Ideal.exp z) :=
  add_nonneg (le_max_right _ _) (log1p_exp_nonneg z)

/-- The gate's logarithm is nonpositive. -/
theorem logA_nonpos {r s : EReal} (hr : 0 ≤ r) (hs : 0 ≤ s) : ((-8 : ℝ) : EReal) * r * s ≤ 0 := by
  refine EReal.mul_nonpos_iff.2 (Or.inr ⟨EReal.mul_nonpos_iff.2 (Or.inr ⟨?_, hr⟩), hs⟩)
  exact_mod_cast (by norm_num : (-8 : ℝ) ≤ 0)

/-- The two spellings of 1 − a²: −2·tanh x / (1 − tanh x) and −expm1 (2 x), at x ≤ 0. -/
theorem gate_eq {x : EReal} (hx : x ≤ 0) :
    Ideal.div (((-2 : ℝ) : EReal) * Ideal.tanh x) (((1 : ℝ) : EReal) - Ideal.tanh x)
      = -Ideal.expm1 (((2 : ℝ) : EReal) * x) := by
  induction x with
  | bot =>
    have h1 : Ideal.tanh ⊥ = ((-1 : ℝ) : EReal) := by simp
    have h2 : ((2 : ℝ) : EReal) * ⊥ = ⊥ := EReal.coe_mul_bot_of_pos (by norm_num)
    rw [h1, h2, Ideal.expm1, Ideal.exp_bot, ← EReal.coe_mul, ← EReal.coe_sub, Ideal.div_coe (by norm_num),
      ← EReal.coe_mul]
    norm_num
  | top => simp at hx
  | coe r =>
    have hr : r ≤ 0 := by exact_mod_cast hx
    have hp : 0 < Real.exp r := Real.exp_pos r
    have hn : Real.exp (-r) = (Real.exp r)⁻¹ := Real.exp_neg r
    have he : Real.exp (2 * r) = Real.exp r * Real.exp r := by rw [two_mul, Real.exp_add]
    have hne : (1 : ℝ) - Real.tanh r ≠ 0 := by
      have := Real.tanh_lt_one r; linarith
    rw [Ideal.tanh_coe, ← EReal.coe_mul, ← EReal.coe_sub, Ideal.div_coe hne, ← EReal.coe_mul, ← EReal.coe_mul,
      Ideal.expm1, Ideal.exp_coe, ← EReal.coe_one, ← EReal.coe_sub, ← EReal.coe_neg]
    congr 1
    rw [he, mul_one_div, div_eq_iff hne, Real.tanh_eq, hn]
    field_simp
    ring

end Cert.ScanMath

end
-- ==== Proof.KernelScan.lean ====
/- What the recurrence kernel's row buffers hold: the up sweep over tiles of eight rows composes the affine steps, the
   few rows left are run in sequence, and the down sweep replays every tile; the rows the kernel reads back at the end are
   the states of the plain recurrence. -/
module

public import proofs.«01_k».proof.Proof.Gen.KernelIdeal.Value
public import proofs.«01_k».proof.Proof.RowCanon
public import proofs.«01_k».proof.Proof.ScanMath
public import Idealize.ShloMosaic.Lib.ValueLayout
public import Idealize.ShloMosaic.Lib.WholeRead

@[expose] public section

noncomputable section

namespace Cert.KernelScan

open Cert.KernelIdeal Cert.KernelIdeal.Gen Cert.RowCanon Cert.ScanMath
open Idealize.ShloMosaic Idealize.ShloMosaic.TcCoe Idealize.ShloMosaic.ValueIdx

/-- A function of a row and a lane from a rank-2 array: zero outside it. -/
def ext2 {R C : ℕ} (f : (Sh R C).Idx → EReal) (d t : ℕ) : EReal :=
  if h : t < R ∧ d < C then f (ix2 ⟨t, h.1⟩ ⟨d, h.2⟩) else 0

/-- At an index of the array it is the array. -/
theorem ext2_apply {R C : ℕ} (f : (Sh R C).Idx → EReal) (x : (Sh R C).Idx) : ext2 f (x 1).val (x 0).val = f x := by
  have h : (x 0).val < R ∧ (x 1).val < C := ⟨(x 0).isLt, (x 1).isLt⟩
  rw [ext2, dif_pos h]
  congr 1
  funext a
  match a with
  | 0 => rfl
  | 1 => rfl

/-- The kernel's memrefs and the contents of its inputs at one grid point. -/
structure Pt where
  c : Dev nD
  arg2 : Memref sig .tc .vmem S1x2048x128 .f32
  harg2 : arg2.IsWhole
  arg4 : Memref sig .tc .vmem S1x3x128 .f32
  harg4 : arg4.IsWhole
  arg5 : Memref sig .tc .vmem S1x1x128 .f32
  harg5 : arg5.IsWhole
  arg6 : Memref sig .tc .vmem S4x128 .f32
  harg6 : arg6.IsWhole
  arg7 : Memref sig .tc .vmem S1x128 .f32
  harg7 : arg7.IsWhole
  arg8 : Memref sig .tc .vmem S2x1x128x128 .f32
  harg8 : arg8.IsWhole
  arg9 : Memref sig .tc .vmem S2x128 .f32
  harg9 : arg9.IsWhole
  arg10 : Memref sig .tc .vmem S1x128 .f32
  harg10 : arg10.IsWhole
  arg14 : Memref sig .tc .vmem S2056x128 .f32
  arg15 : Memref sig .tc .vmem S2624x128 .f32
  arg16 : Memref sig .tc .vmem S2624x128 .f32
  arg17 : Memref sig .tc .vmem S2632x128 .f32
  x0 : Vec Ideal S1x2048x128 .f32
  x2 : Vec Ideal S1x3x128 .f32
  x3 : Vec Ideal S1x1x128 .f32
  x4 : Vec Ideal S4x128 .f32
  x5 : Vec Ideal S1x128 .f32
  x6 : Vec Ideal S2x1x128x128 .f32
  x7 : Vec Ideal S2x128 .f32
  x8 : Vec Ideal S1x128 .f32

namespace Pt

variable (p : Pt)

/-- The run's `HS0_3` at these memrefs and contents. -/
def HS0_3 := kernelRun0_A.sl.HS0_3 (F := Ideal) p.c p.arg2 p.harg2 p.arg4 p.harg4 p.x0 p.x2
/-- The run's `HS1_1` at these memrefs and contents. -/
def HS1_1 := kernelRun0_A.sl.HS1_1 (F := Ideal) p.c p.arg2 p.harg2 p.arg4 p.harg4 p.arg6 p.harg6 p.arg7 p.harg7 p.arg8 p.harg8 p.arg9 p.harg9 p.arg10 p.harg10 p.arg14 p.x0 p.x2 p.x4 p.x5 p.x6 p.x7 p.x8
/-- The run's `HS1_2` at these memrefs and contents. -/
def HS1_2 := kernelRun0_A.sl.HS1_2 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `HS1_3` at these memrefs and contents. -/
def HS1_3 := kernelRun0_A.sl.HS1_3 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `HS1_4` at these memrefs and contents. -/
def HS1_4 := kernelRun0_A.sl.HS1_4 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `HS2_1` at these memrefs and contents. -/
def HS2_1 := kernelRun0_A.sl.HS2_1 (F := Ideal) p.c p.arg2 p.harg2 p.arg4 p.harg4 p.arg6 p.harg6 p.arg7 p.harg7 p.arg8 p.harg8 p.arg9 p.harg9 p.arg10 p.harg10 p.arg14 p.x0 p.x2 p.x4 p.x5 p.x6 p.x7 p.x8
/-- The run's `HS2_2` at these memrefs and contents. -/
def HS2_2 := kernelRun0_A.sl.HS2_2 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `HS2_3` at these memrefs and contents. -/
def HS2_3 := kernelRun0_A.sl.HS2_3 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `HS2_4` at these memrefs and contents. -/
def HS2_4 := kernelRun0_A.sl.HS2_4 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `HS3_5` at these memrefs and contents. -/
def HS3_5 := kernelRun0_A.sl.HS3_5 (F := Ideal) p.c p.arg2 p.harg2 p.arg4 p.harg4 p.arg5 p.harg5 p.arg6 p.harg6 p.arg7 p.harg7 p.arg8 p.harg8 p.arg9 p.harg9 p.arg10 p.harg10 p.arg14 p.arg15 p.arg16 p.x0 p.x2 p.x3 p.x4 p.x5 p.x6 p.x7 p.x8
/-- The run's `HS3_14` at these memrefs and contents. -/
def HS3_14 := kernelRun0_A.sl.HS3_14 (F := Ideal) p.c p.arg2 p.harg2 p.arg4 p.harg4 p.arg5 p.harg5 p.arg6 p.harg6 p.arg7 p.harg7 p.arg8 p.harg8 p.arg9 p.harg9 p.arg10 p.harg10 p.arg14 p.arg15 p.arg16 p.arg17 p.x0 p.x2 p.x3 p.x4 p.x5 p.x6 p.x7 p.x8
/-- The run's `HS3_23` at these memrefs and contents. -/
def HS3_23 := kernelRun0_A.sl.HS3_23 (F := Ideal) p.c p.arg2 p.harg2 p.arg4 p.harg4 p.arg5 p.harg5 p.arg6 p.harg6 p.arg7 p.harg7 p.arg8 p.harg8 p.arg9 p.harg9 p.arg10 p.harg10 p.arg14 p.arg15 p.arg16 p.arg17 p.x0 p.x2 p.x3 p.x4 p.x5 p.x6 p.x7 p.x8
/-- The run's `HS3_31` at these memrefs and contents. -/
def HS3_31 := kernelRun0_A.sl.HS3_31 (F := Ideal) p.c p.arg2 p.harg2 p.arg4 p.harg4 p.arg5 p.harg5 p.arg6 p.harg6 p.arg7 p.harg7 p.arg8 p.harg8 p.arg9 p.harg9 p.arg10 p.harg10 p.arg14 p.arg15 p.arg16 p.arg17 p.x0 p.x2 p.x3 p.x4 p.x5 p.x6 p.x7 p.x8
/-- The run's `r` at these memrefs and contents. -/
def r := kernelRun0_A.sl.r (F := Ideal) p.c p.arg2 p.harg2 p.arg4 p.harg4 p.arg6 p.harg6 p.arg7 p.harg7 p.arg14 p.x0 p.x2 p.x4 p.x5
/-- The run's `r_1` at these memrefs and contents. -/
def r_1 := kernelRun0_A.sl.r_1 (F := Ideal) p.c p.arg2 p.harg2 p.arg4 p.harg4 p.arg6 p.harg6 p.arg7 p.harg7 p.arg14 p.x0 p.x2 p.x4 p.x5
/-- The run's `r_2` at these memrefs and contents. -/
def r_2 := kernelRun0_A.sl.r_2 (F := Ideal) p.c p.arg2 p.harg2 p.arg4 p.harg4 p.arg6 p.harg6 p.arg7 p.harg7 p.arg8 p.harg8 p.arg9 p.harg9 p.arg14 p.x0 p.x2 p.x4 p.x5 p.x6 p.x7
/-- The run's `r_3` at these memrefs and contents. -/
def r_3 := kernelRun0_A.sl.r_3 (F := Ideal) p.c p.arg2 p.harg2 p.arg4 p.harg4 p.arg6 p.harg6 p.arg7 p.harg7 p.arg8 p.harg8 p.arg9 p.harg9 p.arg14 p.x0 p.x2 p.x4 p.x5 p.x6 p.x7
/-- The run's `r_4` at these memrefs and contents. -/
def r_4 := kernelRun0_A.sl.r_4 (F := Ideal) p.c p.arg10 p.harg10 p.x8
/-- The run's `r_5` at these memrefs and contents. -/
def r_5 := kernelRun0_A.sl.r_5 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `r_6` at these memrefs and contents. -/
def r_6 := kernelRun0_A.sl.r_6 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `r_7` at these memrefs and contents. -/
def r_7 := kernelRun0_A.sl.r_7 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `r_8` at these memrefs and contents. -/
def r_8 := kernelRun0_A.sl.r_8 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `r_9` at these memrefs and contents. -/
def r_9 := kernelRun0_A.sl.r_9 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `r_10` at these memrefs and contents. -/
def r_10 := kernelRun0_A.sl.r_10 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `r_11` at these memrefs and contents. -/
def r_11 := kernelRun0_A.sl.r_11 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `r_12` at these memrefs and contents. -/
def r_12 := kernelRun0_A.sl.r_12 (F := Ideal) p.c p.arg2 p.harg2 p.arg4 p.harg4 p.arg5 p.harg5 p.arg6 p.harg6 p.arg7 p.harg7 p.arg8 p.harg8 p.arg9 p.harg9 p.arg10 p.harg10 p.arg14 p.arg15 p.arg16 p.x0 p.x2 p.x3 p.x4 p.x5 p.x6 p.x7 p.x8
/-- The run's `r_13` at these memrefs and contents. -/
def r_13 := kernelRun0_A.sl.r_13 (F := Ideal) p.c p.arg2 p.harg2 p.arg4 p.harg4 p.arg5 p.harg5 p.arg6 p.harg6 p.arg7 p.harg7 p.arg8 p.harg8 p.arg9 p.harg9 p.arg10 p.harg10 p.arg14 p.arg15 p.arg16 p.arg17 p.x0 p.x2 p.x3 p.x4 p.x5 p.x6 p.x7 p.x8
/-- The run's `r_14` at these memrefs and contents. -/
def r_14 := kernelRun0_A.sl.r_14 (F := Ideal) p.c p.arg5 p.harg5 p.x3
/-- The run's `r_15` at these memrefs and contents. -/
def r_15 := kernelRun0_A.sl.r_15 (F := Ideal) p.c p.arg2 p.harg2 p.arg4 p.harg4 p.arg5 p.harg5 p.arg6 p.harg6 p.arg7 p.harg7 p.arg8 p.harg8 p.arg9 p.harg9 p.arg10 p.harg10 p.arg14 p.arg15 p.arg16 p.arg17 p.x0 p.x2 p.x3 p.x4 p.x5 p.x6 p.x7 p.x8
/-- The run's `r_16` at these memrefs and contents. -/
def r_16 := kernelRun0_A.sl.r_16 (F := Ideal) p.c p.arg5 p.harg5 p.x3
/-- The run's `r_17` at these memrefs and contents. -/
def r_17 := kernelRun0_A.sl.r_17 (F := Ideal) p.c p.arg2 p.harg2 p.arg4 p.harg4 p.arg5 p.harg5 p.arg6 p.harg6 p.arg7 p.harg7 p.arg8 p.harg8 p.arg9 p.harg9 p.arg10 p.harg10 p.arg14 p.arg15 p.arg16 p.arg17 p.x0 p.x2 p.x3 p.x4 p.x5 p.x6 p.x7 p.x8
/-- The run's `r_18` at these memrefs and contents. -/
def r_18 := kernelRun0_A.sl.r_18 (F := Ideal) p.c p.arg2 p.harg2 p.arg4 p.harg4 p.arg5 p.harg5 p.arg6 p.harg6 p.arg7 p.harg7 p.arg8 p.harg8 p.arg9 p.harg9 p.arg10 p.harg10 p.arg14 p.arg15 p.arg16 p.arg17 p.x0 p.x2 p.x3 p.x4 p.x5 p.x6 p.x7 p.x8
/-- The run's `v16` at these memrefs and contents. -/
def v16 := kernelRun0_A.sl.v16 (F := Ideal) p.c p.arg2 p.harg2 p.arg4 p.harg4 p.arg14 p.x0 p.x2
/-- The run's `v22` at these memrefs and contents. -/
def v22 := kernelRun0_A.sl.v22 (F := Ideal) p.c p.arg2 p.harg2 p.arg4 p.harg4 p.arg14 p.x0 p.x2
/-- The run's `v27` at these memrefs and contents. -/
def v27 := kernelRun0_A.sl.v27 (F := Ideal) p.c p.arg2 p.harg2 p.arg4 p.harg4 p.arg14 p.x0 p.x2
/-- The run's `v32` at these memrefs and contents. -/
def v32 := kernelRun0_A.sl.v32 (F := Ideal) p.c p.arg2 p.harg2 p.arg4 p.harg4 p.arg14 p.x0 p.x2
/-- The run's `v37` at these memrefs and contents. -/
def v37 := kernelRun0_A.sl.v37 (F := Ideal) p.c p.arg2 p.harg2 p.arg4 p.harg4 p.arg14 p.x0 p.x2
/-- The run's `v90` at these memrefs and contents. -/
def v90 := kernelRun0_A.sl.v90 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v91` at these memrefs and contents. -/
def v91 := kernelRun0_A.sl.v91 (F := Ideal) p.c p.arg2 p.harg2 p.arg4 p.harg4 p.arg6 p.harg6 p.arg7 p.harg7 p.arg8 p.harg8 p.arg9 p.harg9 p.arg10 p.harg10 p.arg14 p.arg16 p.x0 p.x2 p.x4 p.x5 p.x6 p.x7 p.x8
/-- The run's `v92` at these memrefs and contents. -/
def v92 := kernelRun0_A.sl.v92 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v93` at these memrefs and contents. -/
def v93 := kernelRun0_A.sl.v93 (F := Ideal) p.c p.arg2 p.harg2 p.arg4 p.harg4 p.arg6 p.harg6 p.arg7 p.harg7 p.arg8 p.harg8 p.arg9 p.harg9 p.arg10 p.harg10 p.arg14 p.arg16 p.x0 p.x2 p.x4 p.x5 p.x6 p.x7 p.x8
/-- The run's `v97` at these memrefs and contents. -/
def v97 := kernelRun0_A.sl.v97 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v98` at these memrefs and contents. -/
def v98 := kernelRun0_A.sl.v98 (F := Ideal) p.c p.arg2 p.harg2 p.arg4 p.harg4 p.arg6 p.harg6 p.arg7 p.harg7 p.arg8 p.harg8 p.arg9 p.harg9 p.arg10 p.harg10 p.arg14 p.arg16 p.x0 p.x2 p.x4 p.x5 p.x6 p.x7 p.x8
/-- The run's `v102` at these memrefs and contents. -/
def v102 := kernelRun0_A.sl.v102 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v103` at these memrefs and contents. -/
def v103 := kernelRun0_A.sl.v103 (F := Ideal) p.c p.arg2 p.harg2 p.arg4 p.harg4 p.arg6 p.harg6 p.arg7 p.harg7 p.arg8 p.harg8 p.arg9 p.harg9 p.arg10 p.harg10 p.arg14 p.arg16 p.x0 p.x2 p.x4 p.x5 p.x6 p.x7 p.x8
/-- The run's `v107` at these memrefs and contents. -/
def v107 := kernelRun0_A.sl.v107 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v108` at these memrefs and contents. -/
def v108 := kernelRun0_A.sl.v108 (F := Ideal) p.c p.arg2 p.harg2 p.arg4 p.harg4 p.arg6 p.harg6 p.arg7 p.harg7 p.arg8 p.harg8 p.arg9 p.harg9 p.arg10 p.harg10 p.arg14 p.arg16 p.x0 p.x2 p.x4 p.x5 p.x6 p.x7 p.x8
/-- The run's `v112` at these memrefs and contents. -/
def v112 := kernelRun0_A.sl.v112 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v113` at these memrefs and contents. -/
def v113 := kernelRun0_A.sl.v113 (F := Ideal) p.c p.arg2 p.harg2 p.arg4 p.harg4 p.arg6 p.harg6 p.arg7 p.harg7 p.arg8 p.harg8 p.arg9 p.harg9 p.arg10 p.harg10 p.arg14 p.arg16 p.x0 p.x2 p.x4 p.x5 p.x6 p.x7 p.x8
/-- The run's `v117` at these memrefs and contents. -/
def v117 := kernelRun0_A.sl.v117 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v118` at these memrefs and contents. -/
def v118 := kernelRun0_A.sl.v118 (F := Ideal) p.c p.arg2 p.harg2 p.arg4 p.harg4 p.arg6 p.harg6 p.arg7 p.harg7 p.arg8 p.harg8 p.arg9 p.harg9 p.arg10 p.harg10 p.arg14 p.arg16 p.x0 p.x2 p.x4 p.x5 p.x6 p.x7 p.x8
/-- The run's `v122` at these memrefs and contents. -/
def v122 := kernelRun0_A.sl.v122 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v123` at these memrefs and contents. -/
def v123 := kernelRun0_A.sl.v123 (F := Ideal) p.c p.arg2 p.harg2 p.arg4 p.harg4 p.arg6 p.harg6 p.arg7 p.harg7 p.arg8 p.harg8 p.arg9 p.harg9 p.arg10 p.harg10 p.arg14 p.arg16 p.x0 p.x2 p.x4 p.x5 p.x6 p.x7 p.x8
/-- The run's `v133` at these memrefs and contents. -/
def v133 := kernelRun0_A.sl.v133 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v134` at these memrefs and contents. -/
def v134 := kernelRun0_A.sl.v134 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v135` at these memrefs and contents. -/
def v135 := kernelRun0_A.sl.v135 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v136` at these memrefs and contents. -/
def v136 := kernelRun0_A.sl.v136 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v140` at these memrefs and contents. -/
def v140 := kernelRun0_A.sl.v140 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v141` at these memrefs and contents. -/
def v141 := kernelRun0_A.sl.v141 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v145` at these memrefs and contents. -/
def v145 := kernelRun0_A.sl.v145 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v146` at these memrefs and contents. -/
def v146 := kernelRun0_A.sl.v146 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v150` at these memrefs and contents. -/
def v150 := kernelRun0_A.sl.v150 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v151` at these memrefs and contents. -/
def v151 := kernelRun0_A.sl.v151 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v155` at these memrefs and contents. -/
def v155 := kernelRun0_A.sl.v155 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v156` at these memrefs and contents. -/
def v156 := kernelRun0_A.sl.v156 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v160` at these memrefs and contents. -/
def v160 := kernelRun0_A.sl.v160 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v161` at these memrefs and contents. -/
def v161 := kernelRun0_A.sl.v161 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v165` at these memrefs and contents. -/
def v165 := kernelRun0_A.sl.v165 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v166` at these memrefs and contents. -/
def v166 := kernelRun0_A.sl.v166 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v176` at these memrefs and contents. -/
def v176 := kernelRun0_A.sl.v176 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v177` at these memrefs and contents. -/
def v177 := kernelRun0_A.sl.v177 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v178` at these memrefs and contents. -/
def v178 := kernelRun0_A.sl.v178 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v179` at these memrefs and contents. -/
def v179 := kernelRun0_A.sl.v179 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v183` at these memrefs and contents. -/
def v183 := kernelRun0_A.sl.v183 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v184` at these memrefs and contents. -/
def v184 := kernelRun0_A.sl.v184 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v188` at these memrefs and contents. -/
def v188 := kernelRun0_A.sl.v188 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v189` at these memrefs and contents. -/
def v189 := kernelRun0_A.sl.v189 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v193` at these memrefs and contents. -/
def v193 := kernelRun0_A.sl.v193 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v194` at these memrefs and contents. -/
def v194 := kernelRun0_A.sl.v194 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v198` at these memrefs and contents. -/
def v198 := kernelRun0_A.sl.v198 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v199` at these memrefs and contents. -/
def v199 := kernelRun0_A.sl.v199 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v203` at these memrefs and contents. -/
def v203 := kernelRun0_A.sl.v203 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v204` at these memrefs and contents. -/
def v204 := kernelRun0_A.sl.v204 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v208` at these memrefs and contents. -/
def v208 := kernelRun0_A.sl.v208 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v209` at these memrefs and contents. -/
def v209 := kernelRun0_A.sl.v209 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v221` at these memrefs and contents. -/
def v221 := kernelRun0_A.sl.v221 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v223` at these memrefs and contents. -/
def v223 := kernelRun0_A.sl.v223 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v228` at these memrefs and contents. -/
def v228 := kernelRun0_A.sl.v228 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v230` at these memrefs and contents. -/
def v230 := kernelRun0_A.sl.v230 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v235` at these memrefs and contents. -/
def v235 := kernelRun0_A.sl.v235 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v237` at these memrefs and contents. -/
def v237 := kernelRun0_A.sl.v237 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v242` at these memrefs and contents. -/
def v242 := kernelRun0_A.sl.v242 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v244` at these memrefs and contents. -/
def v244 := kernelRun0_A.sl.v244 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v254` at these memrefs and contents. -/
def v254 := kernelRun0_A.sl.v254 (F := Ideal) p.c p.arg2 p.harg2 p.arg4 p.harg4 p.arg5 p.harg5 p.arg6 p.harg6 p.arg7 p.harg7 p.arg8 p.harg8 p.arg9 p.harg9 p.arg10 p.harg10 p.arg14 p.arg15 p.arg16 p.arg17 p.x0 p.x2 p.x3 p.x4 p.x5 p.x6 p.x7 p.x8
/-- The run's `v255` at these memrefs and contents. -/
def v255 := kernelRun0_A.sl.v255 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v256` at these memrefs and contents. -/
def v256 := kernelRun0_A.sl.v256 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v262` at these memrefs and contents. -/
def v262 := kernelRun0_A.sl.v262 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v263` at these memrefs and contents. -/
def v263 := kernelRun0_A.sl.v263 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v269` at these memrefs and contents. -/
def v269 := kernelRun0_A.sl.v269 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v270` at these memrefs and contents. -/
def v270 := kernelRun0_A.sl.v270 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v276` at these memrefs and contents. -/
def v276 := kernelRun0_A.sl.v276 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v277` at these memrefs and contents. -/
def v277 := kernelRun0_A.sl.v277 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v283` at these memrefs and contents. -/
def v283 := kernelRun0_A.sl.v283 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v284` at these memrefs and contents. -/
def v284 := kernelRun0_A.sl.v284 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v290` at these memrefs and contents. -/
def v290 := kernelRun0_A.sl.v290 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v291` at these memrefs and contents. -/
def v291 := kernelRun0_A.sl.v291 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v297` at these memrefs and contents. -/
def v297 := kernelRun0_A.sl.v297 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v298` at these memrefs and contents. -/
def v298 := kernelRun0_A.sl.v298 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v304` at these memrefs and contents. -/
def v304 := kernelRun0_A.sl.v304 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v305` at these memrefs and contents. -/
def v305 := kernelRun0_A.sl.v305 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v316` at these memrefs and contents. -/
def v316 := kernelRun0_A.sl.v316 (F := Ideal) p.c p.arg2 p.harg2 p.arg4 p.harg4 p.arg5 p.harg5 p.arg6 p.harg6 p.arg7 p.harg7 p.arg8 p.harg8 p.arg9 p.harg9 p.arg10 p.harg10 p.arg14 p.arg15 p.arg16 p.arg17 p.x0 p.x2 p.x3 p.x4 p.x5 p.x6 p.x7 p.x8
/-- The run's `v317` at these memrefs and contents. -/
def v317 := kernelRun0_A.sl.v317 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v318` at these memrefs and contents. -/
def v318 := kernelRun0_A.sl.v318 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v324` at these memrefs and contents. -/
def v324 := kernelRun0_A.sl.v324 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v325` at these memrefs and contents. -/
def v325 := kernelRun0_A.sl.v325 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v331` at these memrefs and contents. -/
def v331 := kernelRun0_A.sl.v331 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v332` at these memrefs and contents. -/
def v332 := kernelRun0_A.sl.v332 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v338` at these memrefs and contents. -/
def v338 := kernelRun0_A.sl.v338 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v339` at these memrefs and contents. -/
def v339 := kernelRun0_A.sl.v339 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v345` at these memrefs and contents. -/
def v345 := kernelRun0_A.sl.v345 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v346` at these memrefs and contents. -/
def v346 := kernelRun0_A.sl.v346 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v352` at these memrefs and contents. -/
def v352 := kernelRun0_A.sl.v352 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v353` at these memrefs and contents. -/
def v353 := kernelRun0_A.sl.v353 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v359` at these memrefs and contents. -/
def v359 := kernelRun0_A.sl.v359 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v360` at these memrefs and contents. -/
def v360 := kernelRun0_A.sl.v360 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v366` at these memrefs and contents. -/
def v366 := kernelRun0_A.sl.v366 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v367` at these memrefs and contents. -/
def v367 := kernelRun0_A.sl.v367 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v378` at these memrefs and contents. -/
def v378 := kernelRun0_A.sl.v378 (F := Ideal) p.c p.arg2 p.harg2 p.arg4 p.harg4 p.arg5 p.harg5 p.arg6 p.harg6 p.arg7 p.harg7 p.arg8 p.harg8 p.arg9 p.harg9 p.arg10 p.harg10 p.arg14 p.arg15 p.arg16 p.arg17 p.x0 p.x2 p.x3 p.x4 p.x5 p.x6 p.x7 p.x8
/-- The run's `v379` at these memrefs and contents. -/
def v379 := kernelRun0_A.sl.v379 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v380` at these memrefs and contents. -/
def v380 := kernelRun0_A.sl.v380 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v386` at these memrefs and contents. -/
def v386 := kernelRun0_A.sl.v386 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v387` at these memrefs and contents. -/
def v387 := kernelRun0_A.sl.v387 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v393` at these memrefs and contents. -/
def v393 := kernelRun0_A.sl.v393 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v394` at these memrefs and contents. -/
def v394 := kernelRun0_A.sl.v394 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v400` at these memrefs and contents. -/
def v400 := kernelRun0_A.sl.v400 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v401` at these memrefs and contents. -/
def v401 := kernelRun0_A.sl.v401 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v407` at these memrefs and contents. -/
def v407 := kernelRun0_A.sl.v407 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v408` at these memrefs and contents. -/
def v408 := kernelRun0_A.sl.v408 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v414` at these memrefs and contents. -/
def v414 := kernelRun0_A.sl.v414 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v415` at these memrefs and contents. -/
def v415 := kernelRun0_A.sl.v415 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v421` at these memrefs and contents. -/
def v421 := kernelRun0_A.sl.v421 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v422` at these memrefs and contents. -/
def v422 := kernelRun0_A.sl.v422 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v428` at these memrefs and contents. -/
def v428 := kernelRun0_A.sl.v428 (F := Ideal) p.c p.arg2 p.harg2 p.arg4 p.harg4 p.arg6 p.harg6 p.arg7 p.harg7 p.arg8 p.harg8 p.arg9 p.harg9 p.arg10 p.harg10 p.arg14 p.arg15 p.x0 p.x2 p.x4 p.x5 p.x6 p.x7 p.x8
/-- The run's `v429` at these memrefs and contents. -/
def v429 := kernelRun0_A.sl.v429 (F := Ideal) p.c p.arg2 p.harg2 p.arg4 p.harg4 p.arg6 p.harg6 p.arg7 p.harg7 p.arg8 p.harg8 p.arg9 p.harg9 p.arg10 p.harg10 p.arg14 p.arg15 p.arg16 p.x0 p.x2 p.x4 p.x5 p.x6 p.x7 p.x8
/-- The run's `v435` at these memrefs and contents. -/
def v435 := kernelRun0_A.sl.v435 (F := Ideal) p.c p.arg2 p.harg2 p.arg4 p.harg4 p.arg5 p.harg5 p.arg6 p.harg6 p.arg7 p.harg7 p.arg8 p.harg8 p.arg9 p.harg9 p.arg10 p.harg10 p.arg14 p.arg15 p.arg16 p.arg17 p.x0 p.x2 p.x3 p.x4 p.x5 p.x6 p.x7 p.x8
/-- The run's `v456` at these memrefs and contents. -/
def v456 := kernelRun0_A.sl.v456 (F := Ideal) p.c p.arg2 p.harg2 p.arg4 p.harg4 p.arg5 p.harg5 p.arg6 p.harg6 p.arg7 p.harg7 p.arg8 p.harg8 p.arg9 p.harg9 p.arg10 p.harg10 p.arg14 p.arg15 p.arg16 p.arg17 p.x0 p.x2 p.x3 p.x4 p.x5 p.x6 p.x7 p.x8

/-- The decay of lane `d` at step `t`: what the first store of the decay buffer writes. -/
def A0 : ℕ → ℕ → EReal := ext2 (R := 2048) (C := 128) (k0_pay11 p.r_3 p.r_4)
/-- The input of lane `d` at step `t`: what the first store of the input buffer writes. -/
def B0 : ℕ → ℕ → EReal := ext2 (R := 2048) (C := 128) (k0_pay12 p.r_1 p.r_2 p.r_3 p.r_4)
/-- Decays over tiles of 8 steps. -/
def A1 (d : ℕ) : ℕ → EReal := upA (p.A0 d)
/-- Inputs over tiles of 8 steps. -/
def B1 (d : ℕ) : ℕ → EReal := upB (p.A0 d) (p.B0 d)
/-- Decays over tiles of 64 steps. -/
def A2 (d : ℕ) : ℕ → EReal := upA (p.A1 d)
/-- Inputs over tiles of 64 steps. -/
def B2 (d : ℕ) : ℕ → EReal := upB (p.A1 d) (p.B1 d)
/-- Decays over tiles of 512 steps. -/
def A3 (d : ℕ) : ℕ → EReal := upA (p.A2 d)
/-- Inputs over tiles of 512 steps. -/
def B3 (d : ℕ) : ℕ → EReal := upB (p.A2 d) (p.B2 d)
/-- The state of lane `d` before the first step. -/
def h0 (d : ℕ) : EReal := ext2 (R := 1) (C := 128) (k0_pay32 p.r_16) d 0

/-- The recurrence over the steps of level 0. -/
def run0 (d : ℕ) : ℕ → EReal := run (p.A0 d) (p.B0 d) (p.h0 d)
/-- The recurrence over the steps of level 1. -/
def run1 (d : ℕ) : ℕ → EReal := run (p.A1 d) (p.B1 d) (p.h0 d)
/-- The recurrence over the steps of level 2. -/
def run2 (d : ℕ) : ℕ → EReal := run (p.A2 d) (p.B2 d) (p.h0 d)
/-- The recurrence over the steps of level 3. -/
def run3 (d : ℕ) : ℕ → EReal := run (p.A3 d) (p.B3 d) (p.h0 d)
/-- Every decay is nonnegative and finite. -/
def OkA : Prop := ∀ d t, Ok (p.A0 d t)

variable {p}

/-- The first store of the decay buffer. -/
theorem a1_0 : Holds p.HS1_1 0 2048 (fun d r => p.A0 d (r - 0)) := by
  unfold HS1_1 kernelRun0_A.sl.HS1_1
  exact (Holds.new (off := 0) (n := 2048) ⟨rfl, rfl, rfl, rfl, rfl, rfl⟩ fun x =>
    (ext2_apply (R := 2048) (C := 128) (k0_pay11 p.r_3 p.r_4) x).symm.trans (congrArg (p.A0 _) (by omega)))
/-- The first store of the input buffer. -/
theorem b1_0 : Holds p.HS2_1 0 2048 (fun d r => p.B0 d (r - 0)) := by
  unfold HS2_1 kernelRun0_A.sl.HS2_1
  exact (Holds.new (off := 0) (n := 2048) ⟨rfl, rfl, rfl, rfl, rfl, rfl⟩ fun x =>
    (ext2_apply (R := 2048) (C := 128) (k0_pay12 p.r_1 p.r_2 p.r_3 p.r_4) x).symm.trans (congrArg (p.B0 _) (by omega)))
/-- The load `v90`: level 0, row 0 of each tile. -/
theorem v90_at (x : S256x128.Idx) : p.v90 x = p.A0 (x 1).val (8 * (x 0).val + 0) := by
  unfold v90 kernelRun0_A.sl.v90
  exact load_eq 0 8 256 a1_0 ⟨rfl, rfl, rfl, rfl, rfl, rfl⟩ (by omega) (by omega) (congrArg (p.A0 _) (by omega))
/-- The load `v91`: level 0, row 0 of each tile. -/
theorem v91_at (x : S256x128.Idx) : p.v91 x = p.B0 (x 1).val (8 * (x 0).val + 0) := by
  unfold v91 kernelRun0_A.sl.v91
  exact load_eq 0 8 256 b1_0 ⟨rfl, rfl, rfl, rfl, rfl, rfl⟩ (by omega) (by omega) (congrArg (p.B0 _) (by omega))
/-- The load `v92`: level 0, row 1 of each tile. -/
theorem v92_at (x : S256x128.Idx) : p.v92 x = p.A0 (x 1).val (8 * (x 0).val + 1) := by
  unfold v92 kernelRun0_A.sl.v92
  exact load_eq 1 8 256 a1_0 ⟨rfl, rfl, rfl, rfl, rfl, rfl⟩ (by omega) (by omega) (congrArg (p.A0 _) (by omega))
/-- The load `v93`: level 0, row 1 of each tile. -/
theorem v93_at (x : S256x128.Idx) : p.v93 x = p.B0 (x 1).val (8 * (x 0).val + 1) := by
  unfold v93 kernelRun0_A.sl.v93
  exact load_eq 1 8 256 b1_0 ⟨rfl, rfl, rfl, rfl, rfl, rfl⟩ (by omega) (by omega) (congrArg (p.B0 _) (by omega))
/-- The load `v97`: level 0, row 2 of each tile. -/
theorem v97_at (x : S256x128.Idx) : p.v97 x = p.A0 (x 1).val (8 * (x 0).val + 2) := by
  unfold v97 kernelRun0_A.sl.v97
  exact load_eq 2 8 256 a1_0 ⟨rfl, rfl, rfl, rfl, rfl, rfl⟩ (by omega) (by omega) (congrArg (p.A0 _) (by omega))
/-- The load `v98`: level 0, row 2 of each tile. -/
theorem v98_at (x : S256x128.Idx) : p.v98 x = p.B0 (x 1).val (8 * (x 0).val + 2) := by
  unfold v98 kernelRun0_A.sl.v98
  exact load_eq 2 8 256 b1_0 ⟨rfl, rfl, rfl, rfl, rfl, rfl⟩ (by omega) (by omega) (congrArg (p.B0 _) (by omega))
/-- The load `v102`: level 0, row 3 of each tile. -/
theorem v102_at (x : S256x128.Idx) : p.v102 x = p.A0 (x 1).val (8 * (x 0).val + 3) := by
  unfold v102 kernelRun0_A.sl.v102
  exact load_eq 3 8 256 a1_0 ⟨rfl, rfl, rfl, rfl, rfl, rfl⟩ (by omega) (by omega) (congrArg (p.A0 _) (by omega))
/-- The load `v103`: level 0, row 3 of each tile. -/
theorem v103_at (x : S256x128.Idx) : p.v103 x = p.B0 (x 1).val (8 * (x 0).val + 3) := by
  unfold v103 kernelRun0_A.sl.v103
  exact load_eq 3 8 256 b1_0 ⟨rfl, rfl, rfl, rfl, rfl, rfl⟩ (by omega) (by omega) (congrArg (p.B0 _) (by omega))
/-- The load `v107`: level 0, row 4 of each tile. -/
theorem v107_at (x : S256x128.Idx) : p.v107 x = p.A0 (x 1).val (8 * (x 0).val + 4) := by
  unfold v107 kernelRun0_A.sl.v107
  exact load_eq 4 8 256 a1_0 ⟨rfl, rfl, rfl, rfl, rfl, rfl⟩ (by omega) (by omega) (congrArg (p.A0 _) (by omega))
/-- The load `v108`: level 0, row 4 of each tile. -/
theorem v108_at (x : S256x128.Idx) : p.v108 x = p.B0 (x 1).val (8 * (x 0).val + 4) := by
  unfold v108 kernelRun0_A.sl.v108
  exact load_eq 4 8 256 b1_0 ⟨rfl, rfl, rfl, rfl, rfl, rfl⟩ (by omega) (by omega) (congrArg (p.B0 _) (by omega))
/-- The load `v112`: level 0, row 5 of each tile. -/
theorem v112_at (x : S256x128.Idx) : p.v112 x = p.A0 (x 1).val (8 * (x 0).val + 5) := by
  unfold v112 kernelRun0_A.sl.v112
  exact load_eq 5 8 256 a1_0 ⟨rfl, rfl, rfl, rfl, rfl, rfl⟩ (by omega) (by omega) (congrArg (p.A0 _) (by omega))
/-- The load `v113`: level 0, row 5 of each tile. -/
theorem v113_at (x : S256x128.Idx) : p.v113 x = p.B0 (x 1).val (8 * (x 0).val + 5) := by
  unfold v113 kernelRun0_A.sl.v113
  exact load_eq 5 8 256 b1_0 ⟨rfl, rfl, rfl, rfl, rfl, rfl⟩ (by omega) (by omega) (congrArg (p.B0 _) (by omega))
/-- The load `v117`: level 0, row 6 of each tile. -/
theorem v117_at (x : S256x128.Idx) : p.v117 x = p.A0 (x 1).val (8 * (x 0).val + 6) := by
  unfold v117 kernelRun0_A.sl.v117
  exact load_eq 6 8 256 a1_0 ⟨rfl, rfl, rfl, rfl, rfl, rfl⟩ (by omega) (by omega) (congrArg (p.A0 _) (by omega))
/-- The load `v118`: level 0, row 6 of each tile. -/
theorem v118_at (x : S256x128.Idx) : p.v118 x = p.B0 (x 1).val (8 * (x 0).val + 6) := by
  unfold v118 kernelRun0_A.sl.v118
  exact load_eq 6 8 256 b1_0 ⟨rfl, rfl, rfl, rfl, rfl, rfl⟩ (by omega) (by omega) (congrArg (p.B0 _) (by omega))
/-- The load `v122`: level 0, row 7 of each tile. -/
theorem v122_at (x : S256x128.Idx) : p.v122 x = p.A0 (x 1).val (8 * (x 0).val + 7) := by
  unfold v122 kernelRun0_A.sl.v122
  exact load_eq 7 8 256 a1_0 ⟨rfl, rfl, rfl, rfl, rfl, rfl⟩ (by omega) (by omega) (congrArg (p.A0 _) (by omega))
/-- The load `v123`: level 0, row 7 of each tile. -/
theorem v123_at (x : S256x128.Idx) : p.v123 x = p.B0 (x 1).val (8 * (x 0).val + 7) := by
  unfold v123 kernelRun0_A.sl.v123
  exact load_eq 7 8 256 b1_0 ⟨rfl, rfl, rfl, rfl, rfl, rfl⟩ (by omega) (by omega) (congrArg (p.B0 _) (by omega))
/-- The up sweep's store of level 1 in the decay buffer. -/
theorem a2_pay (x : S256x128.Idx) : (k0_pay15 p.r_6 p.v97 p.v102 p.v107 p.v112 p.v117 p.v122) x = p.A1 (x 1).val (x 0).val := by
  simp only [r_6, kernelRun0_A.sl.r_6, k0_pay15, k0_pay14, shapeCast_self]
  show p.v122 x * (p.v117 x * (p.v112 x * (p.v107 x * (p.v102 x * (p.v97 x * (p.v92 x * (p.v90 x))))))) = _
  simp only [v90_at, v92_at, v97_at, v102_at, v107_at, v112_at, v117_at, v122_at]
  rfl
/-- … and its band. -/
theorem a2_1 : Holds p.HS1_2 2048 2304 (fun d r => p.A1 d (r - 2048)) := by
  unfold HS1_2 kernelRun0_A.sl.HS1_2
  exact Holds.new (off := 2048) (n := 256) ⟨rfl, rfl, rfl, rfl, rfl, rfl⟩ fun x => (a2_pay x).trans (congrArg (p.A1 _) (by omega))
/-- The earlier band of level 0. -/
theorem a2_0 : Holds p.HS1_2 0 2048 (fun d r => p.A0 d (r - 0)) := by
  unfold HS1_2 kernelRun0_A.sl.HS1_2
  exact Holds.old (off := 2048) (s := 1) (n := 256) ⟨rfl, rfl, rfl, rfl, rfl, rfl⟩ a1_0 (by omega)
/-- The up sweep's store of level 1 in the input buffer. -/
theorem b2_pay (x : S256x128.Idx) : (p.r_7) x = p.B1 (x 1).val (x 0).val := by
  simp only [r_7, kernelRun0_A.sl.r_7, k0_pay16, shapeCast_self]
  show p.v122 x * (p.v117 x * (p.v112 x * (p.v107 x * (p.v102 x * (p.v97 x * (p.v92 x * (p.v91 x) + p.v93 x) + p.v98 x) + p.v103 x) + p.v108 x) + p.v113 x) + p.v118 x) + p.v123 x = _
  simp only [v92_at, v97_at, v102_at, v107_at, v112_at, v117_at, v122_at, v91_at, v93_at, v98_at, v103_at, v108_at, v113_at, v118_at, v123_at]
  rfl
/-- … and its band. -/
theorem b2_1 : Holds p.HS2_2 2048 2304 (fun d r => p.B1 d (r - 2048)) := by
  unfold HS2_2 kernelRun0_A.sl.HS2_2
  exact Holds.new (off := 2048) (n := 256) ⟨rfl, rfl, rfl, rfl, rfl, rfl⟩ fun x => (b2_pay x).trans (congrArg (p.B1 _) (by omega))
/-- The earlier band of level 0. -/
theorem b2_0 : Holds p.HS2_2 0 2048 (fun d r => p.B0 d (r - 0)) := by
  unfold HS2_2 kernelRun0_A.sl.HS2_2
  exact Holds.old (off := 2048) (s := 1) (n := 256) ⟨rfl, rfl, rfl, rfl, rfl, rfl⟩ b1_0 (by omega)
/-- The load `v133`: level 1, row 0 of each tile. -/
theorem v133_at (x : S32x128.Idx) : p.v133 x = p.A1 (x 1).val (8 * (x 0).val + 0) := by
  unfold v133 kernelRun0_A.sl.v133
  exact load_eq 2048 8 32 a2_1 ⟨rfl, rfl, rfl, rfl, rfl, rfl⟩ (by omega) (by omega) (congrArg (p.A1 _) (by omega))
/-- The load `v134`: level 1, row 0 of each tile. -/
theorem v134_at (x : S32x128.Idx) : p.v134 x = p.B1 (x 1).val (8 * (x 0).val + 0) := by
  unfold v134 kernelRun0_A.sl.v134
  exact load_eq 2048 8 32 b2_1 ⟨rfl, rfl, rfl, rfl, rfl, rfl⟩ (by omega) (by omega) (congrArg (p.B1 _) (by omega))
/-- The load `v135`: level 1, row 1 of each tile. -/
theorem v135_at (x : S32x128.Idx) : p.v135 x = p.A1 (x 1).val (8 * (x 0).val + 1) := by
  unfold v135 kernelRun0_A.sl.v135
  exact load_eq 2049 8 32 a2_1 ⟨rfl, rfl, rfl, rfl, rfl, rfl⟩ (by omega) (by omega) (congrArg (p.A1 _) (by omega))
/-- The load `v136`: level 1, row 1 of each tile. -/
theorem v136_at (x : S32x128.Idx) : p.v136 x = p.B1 (x 1).val (8 * (x 0).val + 1) := by
  unfold v136 kernelRun0_A.sl.v136
  exact load_eq 2049 8 32 b2_1 ⟨rfl, rfl, rfl, rfl, rfl, rfl⟩ (by omega) (by omega) (congrArg (p.B1 _) (by omega))
/-- The load `v140`: level 1, row 2 of each tile. -/
theorem v140_at (x : S32x128.Idx) : p.v140 x = p.A1 (x 1).val (8 * (x 0).val + 2) := by
  unfold v140 kernelRun0_A.sl.v140
  exact load_eq 2050 8 32 a2_1 ⟨rfl, rfl, rfl, rfl, rfl, rfl⟩ (by omega) (by omega) (congrArg (p.A1 _) (by omega))
/-- The load `v141`: level 1, row 2 of each tile. -/
theorem v141_at (x : S32x128.Idx) : p.v141 x = p.B1 (x 1).val (8 * (x 0).val + 2) := by
  unfold v141 kernelRun0_A.sl.v141
  exact load_eq 2050 8 32 b2_1 ⟨rfl, rfl, rfl, rfl, rfl, rfl⟩ (by omega) (by omega) (congrArg (p.B1 _) (by omega))
/-- The load `v145`: level 1, row 3 of each tile. -/
theorem v145_at (x : S32x128.Idx) : p.v145 x = p.A1 (x 1).val (8 * (x 0).val + 3) := by
  unfold v145 kernelRun0_A.sl.v145
  exact load_eq 2051 8 32 a2_1 ⟨rfl, rfl, rfl, rfl, rfl, rfl⟩ (by omega) (by omega) (congrArg (p.A1 _) (by omega))
/-- The load `v146`: level 1, row 3 of each tile. -/
theorem v146_at (x : S32x128.Idx) : p.v146 x = p.B1 (x 1).val (8 * (x 0).val + 3) := by
  unfold v146 kernelRun0_A.sl.v146
  exact load_eq 2051 8 32 b2_1 ⟨rfl, rfl, rfl, rfl, rfl, rfl⟩ (by omega) (by omega) (congrArg (p.B1 _) (by omega))
/-- The load `v150`: level 1, row 4 of each tile. -/
theorem v150_at (x : S32x128.Idx) : p.v150 x = p.A1 (x 1).val (8 * (x 0).val + 4) := by
  unfold v150 kernelRun0_A.sl.v150
  exact load_eq 2052 8 32 a2_1 ⟨rfl, rfl, rfl, rfl, rfl, rfl⟩ (by omega) (by omega) (congrArg (p.A1 _) (by omega))
/-- The load `v151`: level 1, row 4 of each tile. -/
theorem v151_at (x : S32x128.Idx) : p.v151 x = p.B1 (x 1).val (8 * (x 0).val + 4) := by
  unfold v151 kernelRun0_A.sl.v151
  exact load_eq 2052 8 32 b2_1 ⟨rfl, rfl, rfl, rfl, rfl, rfl⟩ (by omega) (by omega) (congrArg (p.B1 _) (by omega))
/-- The load `v155`: level 1, row 5 of each tile. -/
theorem v155_at (x : S32x128.Idx) : p.v155 x = p.A1 (x 1).val (8 * (x 0).val + 5) := by
  unfold v155 kernelRun0_A.sl.v155
  exact load_eq 2053 8 32 a2_1 ⟨rfl, rfl, rfl, rfl, rfl, rfl⟩ (by omega) (by omega) (congrArg (p.A1 _) (by omega))
/-- The load `v156`: level 1, row 5 of each tile. -/
theorem v156_at (x : S32x128.Idx) : p.v156 x = p.B1 (x 1).val (8 * (x 0).val + 5) := by
  unfold v156 kernelRun0_A.sl.v156
  exact load_eq 2053 8 32 b2_1 ⟨rfl, rfl, rfl, rfl, rfl, rfl⟩ (by omega) (by omega) (congrArg (p.B1 _) (by omega))
/-- The load `v160`: level 1, row 6 of each tile. -/
theorem v160_at (x : S32x128.Idx) : p.v160 x = p.A1 (x 1).val (8 * (x 0).val + 6) := by
  unfold v160 kernelRun0_A.sl.v160
  exact load_eq 2054 8 32 a2_1 ⟨rfl, rfl, rfl, rfl, rfl, rfl⟩ (by omega) (by omega) (congrArg (p.A1 _) (by omega))
/-- The load `v161`: level 1, row 6 of each tile. -/
theorem v161_at (x : S32x128.Idx) : p.v161 x = p.B1 (x 1).val (8 * (x 0).val + 6) := by
  unfold v161 kernelRun0_A.sl.v161
  exact load_eq 2054 8 32 b2_1 ⟨rfl, rfl, rfl, rfl, rfl, rfl⟩ (by omega) (by omega) (congrArg (p.B1 _) (by omega))
/-- The load `v165`: level 1, row 7 of each tile. -/
theorem v165_at (x : S32x128.Idx) : p.v165 x = p.A1 (x 1).val (8 * (x 0).val + 7) := by
  unfold v165 kernelRun0_A.sl.v165
  exact load_eq 2055 8 32 a2_1 ⟨rfl, rfl, rfl, rfl, rfl, rfl⟩ (by omega) (by omega) (congrArg (p.A1 _) (by omega))
/-- The load `v166`: level 1, row 7 of each tile. -/
theorem v166_at (x : S32x128.Idx) : p.v166 x = p.B1 (x 1).val (8 * (x 0).val + 7) := by
  unfold v166 kernelRun0_A.sl.v166
  exact load_eq 2055 8 32 b2_1 ⟨rfl, rfl, rfl, rfl, rfl, rfl⟩ (by omega) (by omega) (congrArg (p.B1 _) (by omega))
/-- The up sweep's store of level 2 in the decay buffer. -/
theorem a3_pay (x : S32x128.Idx) : (k0_pay19 p.r_8 p.v160 p.v165) x = p.A2 (x 1).val (x 0).val := by
  simp only [r_8, kernelRun0_A.sl.r_8, k0_pay19, k0_pay17, shapeCast_self]
  show p.v165 x * (p.v160 x * (p.v155 x * (p.v150 x * (p.v145 x * (p.v140 x * (p.v135 x * (p.v133 x))))))) = _
  simp only [v133_at, v135_at, v140_at, v145_at, v150_at, v155_at, v160_at, v165_at]
  rfl
/-- … and its band. -/
theorem a3_2 : Holds p.HS1_3 2304 2336 (fun d r => p.A2 d (r - 2304)) := by
  unfold HS1_3 kernelRun0_A.sl.HS1_3
  exact Holds.new (off := 2304) (n := 32) ⟨rfl, rfl, rfl, rfl, rfl, rfl⟩ fun x => (a3_pay x).trans (congrArg (p.A2 _) (by omega))
/-- The earlier band of level 0. -/
theorem a3_0 : Holds p.HS1_3 0 2048 (fun d r => p.A0 d (r - 0)) := by
  unfold HS1_3 kernelRun0_A.sl.HS1_3
  exact Holds.old (off := 2304) (s := 1) (n := 32) ⟨rfl, rfl, rfl, rfl, rfl, rfl⟩ a2_0 (by omega)
/-- The earlier band of level 1. -/
theorem a3_1 : Holds p.HS1_3 2048 2304 (fun d r => p.A1 d (r - 2048)) := by
  unfold HS1_3 kernelRun0_A.sl.HS1_3
  exact Holds.old (off := 2304) (s := 1) (n := 32) ⟨rfl, rfl, rfl, rfl, rfl, rfl⟩ a2_1 (by omega)
/-- The up sweep's store of level 2 in the input buffer. -/
theorem b3_pay (x : S32x128.Idx) : (k0_pay20 p.r_9 p.v165 p.v166) x = p.B2 (x 1).val (x 0).val := by
  simp only [r_9, kernelRun0_A.sl.r_9, k0_pay20, k0_pay18, shapeCast_self]
  show p.v165 x * (p.v160 x * (p.v155 x * (p.v150 x * (p.v145 x * (p.v140 x * (p.v135 x * (p.v134 x) + p.v136 x) + p.v141 x) + p.v146 x) + p.v151 x) + p.v156 x) + p.v161 x) + p.v166 x = _
  simp only [v135_at, v140_at, v145_at, v150_at, v155_at, v160_at, v165_at, v134_at, v136_at, v141_at, v146_at, v151_at, v156_at, v161_at, v166_at]
  rfl
/-- … and its band. -/
theorem b3_2 : Holds p.HS2_3 2304 2336 (fun d r => p.B2 d (r - 2304)) := by
  unfold HS2_3 kernelRun0_A.sl.HS2_3
  exact Holds.new (off := 2304) (n := 32) ⟨rfl, rfl, rfl, rfl, rfl, rfl⟩ fun x => (b3_pay x).trans (congrArg (p.B2 _) (by omega))
/-- The earlier band of level 0. -/
theorem b3_0 : Holds p.HS2_3 0 2048 (fun d r => p.B0 d (r - 0)) := by
  unfold HS2_3 kernelRun0_A.sl.HS2_3
  exact Holds.old (off := 2304) (s := 1) (n := 32) ⟨rfl, rfl, rfl, rfl, rfl, rfl⟩ b2_0 (by omega)
/-- The earlier band of level 1. -/
theorem b3_1 : Holds p.HS2_3 2048 2304 (fun d r => p.B1 d (r - 2048)) := by
  unfold HS2_3 kernelRun0_A.sl.HS2_3
  exact Holds.old (off := 2304) (s := 1) (n := 32) ⟨rfl, rfl, rfl, rfl, rfl, rfl⟩ b2_1 (by omega)
/-- The load `v176`: level 2, row 0 of each tile. -/
theorem v176_at (x : S4x128.Idx) : p.v176 x = p.A2 (x 1).val (8 * (x 0).val + 0) := by
  unfold v176 kernelRun0_A.sl.v176
  exact load_eq 2304 8 4 a3_2 ⟨rfl, rfl, rfl, rfl, rfl, rfl⟩ (by omega) (by omega) (congrArg (p.A2 _) (by omega))
/-- The load `v177`: level 2, row 0 of each tile. -/
theorem v177_at (x : S4x128.Idx) : p.v177 x = p.B2 (x 1).val (8 * (x 0).val + 0) := by
  unfold v177 kernelRun0_A.sl.v177
  exact load_eq 2304 8 4 b3_2 ⟨rfl, rfl, rfl, rfl, rfl, rfl⟩ (by omega) (by omega) (congrArg (p.B2 _) (by omega))
/-- The load `v178`: level 2, row 1 of each tile. -/
theorem v178_at (x : S4x128.Idx) : p.v178 x = p.A2 (x 1).val (8 * (x 0).val + 1) := by
  unfold v178 kernelRun0_A.sl.v178
  exact load_eq 2305 8 4 a3_2 ⟨rfl, rfl, rfl, rfl, rfl, rfl⟩ (by omega) (by omega) (congrArg (p.A2 _) (by omega))
/-- The load `v179`: level 2, row 1 of each tile. -/
theorem v179_at (x : S4x128.Idx) : p.v179 x = p.B2 (x 1).val (8 * (x 0).val + 1) := by
  unfold v179 kernelRun0_A.sl.v179
  exact load_eq 2305 8 4 b3_2 ⟨rfl, rfl, rfl, rfl, rfl, rfl⟩ (by omega) (by omega) (congrArg (p.B2 _) (by omega))
/-- The load `v183`: level 2, row 2 of each tile. -/
theorem v183_at (x : S4x128.Idx) : p.v183 x = p.A2 (x 1).val (8 * (x 0).val + 2) := by
  unfold v183 kernelRun0_A.sl.v183
  exact load_eq 2306 8 4 a3_2 ⟨rfl, rfl, rfl, rfl, rfl, rfl⟩ (by omega) (by omega) (congrArg (p.A2 _) (by omega))
/-- The load `v184`: level 2, row 2 of each tile. -/
theorem v184_at (x : S4x128.Idx) : p.v184 x = p.B2 (x 1).val (8 * (x 0).val + 2) := by
  unfold v184 kernelRun0_A.sl.v184
  exact load_eq 2306 8 4 b3_2 ⟨rfl, rfl, rfl, rfl, rfl, rfl⟩ (by omega) (by omega) (congrArg (p.B2 _) (by omega))
/-- The load `v188`: level 2, row 3 of each tile. -/
theorem v188_at (x : S4x128.Idx) : p.v188 x = p.A2 (x 1).val (8 * (x 0).val + 3) := by
  unfold v188 kernelRun0_A.sl.v188
  exact load_eq 2307 8 4 a3_2 ⟨rfl, rfl, rfl, rfl, rfl, rfl⟩ (by omega) (by omega) (congrArg (p.A2 _) (by omega))
/-- The load `v189`: level 2, row 3 of each tile. -/
theorem v189_at (x : S4x128.Idx) : p.v189 x = p.B2 (x 1).val (8 * (x 0).val + 3) := by
  unfold v189 kernelRun0_A.sl.v189
  exact load_eq 2307 8 4 b3_2 ⟨rfl, rfl, rfl, rfl, rfl, rfl⟩ (by omega) (by omega) (congrArg (p.B2 _) (by omega))
/-- The load `v193`: level 2, row 4 of each tile. -/
theorem v193_at (x : S4x128.Idx) : p.v193 x = p.A2 (x 1).val (8 * (x 0).val + 4) := by
  unfold v193 kernelRun0_A.sl.v193
  exact load_eq 2308 8 4 a3_2 ⟨rfl, rfl, rfl, rfl, rfl, rfl⟩ (by omega) (by omega) (congrArg (p.A2 _) (by omega))
/-- The load `v194`: level 2, row 4 of each tile. -/
theorem v194_at (x : S4x128.Idx) : p.v194 x = p.B2 (x 1).val (8 * (x 0).val + 4) := by
  unfold v194 kernelRun0_A.sl.v194
  exact load_eq 2308 8 4 b3_2 ⟨rfl, rfl, rfl, rfl, rfl, rfl⟩ (by omega) (by omega) (congrArg (p.B2 _) (by omega))
/-- The load `v198`: level 2, row 5 of each tile. -/
theorem v198_at (x : S4x128.Idx) : p.v198 x = p.A2 (x 1).val (8 * (x 0).val + 5) := by
  unfold v198 kernelRun0_A.sl.v198
  exact load_eq 2309 8 4 a3_2 ⟨rfl, rfl, rfl, rfl, rfl, rfl⟩ (by omega) (by omega) (congrArg (p.A2 _) (by omega))
/-- The load `v199`: level 2, row 5 of each tile. -/
theorem v199_at (x : S4x128.Idx) : p.v199 x = p.B2 (x 1).val (8 * (x 0).val + 5) := by
  unfold v199 kernelRun0_A.sl.v199
  exact load_eq 2309 8 4 b3_2 ⟨rfl, rfl, rfl, rfl, rfl, rfl⟩ (by omega) (by omega) (congrArg (p.B2 _) (by omega))
/-- The load `v203`: level 2, row 6 of each tile. -/
theorem v203_at (x : S4x128.Idx) : p.v203 x = p.A2 (x 1).val (8 * (x 0).val + 6) := by
  unfold v203 kernelRun0_A.sl.v203
  exact load_eq 2310 8 4 a3_2 ⟨rfl, rfl, rfl, rfl, rfl, rfl⟩ (by omega) (by omega) (congrArg (p.A2 _) (by omega))
/-- The load `v204`: level 2, row 6 of each tile. -/
theorem v204_at (x : S4x128.Idx) : p.v204 x = p.B2 (x 1).val (8 * (x 0).val + 6) := by
  unfold v204 kernelRun0_A.sl.v204
  exact load_eq 2310 8 4 b3_2 ⟨rfl, rfl, rfl, rfl, rfl, rfl⟩ (by omega) (by omega) (congrArg (p.B2 _) (by omega))
/-- The load `v208`: level 2, row 7 of each tile. -/
theorem v208_at (x : S4x128.Idx) : p.v208 x = p.A2 (x 1).val (8 * (x 0).val + 7) := by
  unfold v208 kernelRun0_A.sl.v208
  exact load_eq 2311 8 4 a3_2 ⟨rfl, rfl, rfl, rfl, rfl, rfl⟩ (by omega) (by omega) (congrArg (p.A2 _) (by omega))
/-- The load `v209`: level 2, row 7 of each tile. -/
theorem v209_at (x : S4x128.Idx) : p.v209 x = p.B2 (x 1).val (8 * (x 0).val + 7) := by
  unfold v209 kernelRun0_A.sl.v209
  exact load_eq 2311 8 4 b3_2 ⟨rfl, rfl, rfl, rfl, rfl, rfl⟩ (by omega) (by omega) (congrArg (p.B2 _) (by omega))
/-- The up sweep's store of level 3 in the decay buffer. -/
theorem a4_pay (x : S4x128.Idx) : (k0_pay23 p.r_11 p.v193 p.v198 p.v203 p.v208) x = p.A3 (x 1).val (x 0).val := by
  simp only [r_11, kernelRun0_A.sl.r_11, k0_pay23, k0_pay22, shapeCast_self]
  show p.v208 x * (p.v203 x * (p.v198 x * (p.v193 x * (p.v188 x * (p.v183 x * (p.v178 x * (p.v176 x))))))) = _
  simp only [v176_at, v178_at, v183_at, v188_at, v193_at, v198_at, v203_at, v208_at]
  rfl
/-- … and its band. -/
theorem a4_3 : Holds p.HS1_4 2336 2340 (fun d r => p.A3 d (r - 2336)) := by
  unfold HS1_4 kernelRun0_A.sl.HS1_4
  exact Holds.new (off := 2336) (n := 4) ⟨rfl, rfl, rfl, rfl, rfl, rfl⟩ fun x => (a4_pay x).trans (congrArg (p.A3 _) (by omega))
/-- The earlier band of level 0. -/
theorem a4_0 : Holds p.HS1_4 0 2048 (fun d r => p.A0 d (r - 0)) := by
  unfold HS1_4 kernelRun0_A.sl.HS1_4
  exact Holds.old (off := 2336) (s := 1) (n := 4) ⟨rfl, rfl, rfl, rfl, rfl, rfl⟩ a3_0 (by omega)
/-- The earlier band of level 1. -/
theorem a4_1 : Holds p.HS1_4 2048 2304 (fun d r => p.A1 d (r - 2048)) := by
  unfold HS1_4 kernelRun0_A.sl.HS1_4
  exact Holds.old (off := 2336) (s := 1) (n := 4) ⟨rfl, rfl, rfl, rfl, rfl, rfl⟩ a3_1 (by omega)
/-- The earlier band of level 2. -/
theorem a4_2 : Holds p.HS1_4 2304 2336 (fun d r => p.A2 d (r - 2304)) := by
  unfold HS1_4 kernelRun0_A.sl.HS1_4
  exact Holds.old (off := 2336) (s := 1) (n := 4) ⟨rfl, rfl, rfl, rfl, rfl, rfl⟩ a3_2 (by omega)
/-- The up sweep's store of level 3 in the input buffer. -/
theorem b4_pay (x : S4x128.Idx) : (k0_pay24 p.r_10 p.v193 p.v194 p.v198 p.v199 p.v203 p.v204 p.v208 p.v209) x = p.B3 (x 1).val (x 0).val := by
  simp only [r_10, kernelRun0_A.sl.r_10, k0_pay24, k0_pay21, shapeCast_self]
  show p.v208 x * (p.v203 x * (p.v198 x * (p.v193 x * (p.v188 x * (p.v183 x * (p.v178 x * (p.v177 x) + p.v179 x) + p.v184 x) + p.v189 x) + p.v194 x) + p.v199 x) + p.v204 x) + p.v209 x = _
  simp only [v178_at, v183_at, v188_at, v193_at, v198_at, v203_at, v208_at, v177_at, v179_at, v184_at, v189_at, v194_at, v199_at, v204_at, v209_at]
  rfl
/-- … and its band. -/
theorem b4_3 : Holds p.HS2_4 2336 2340 (fun d r => p.B3 d (r - 2336)) := by
  unfold HS2_4 kernelRun0_A.sl.HS2_4
  exact Holds.new (off := 2336) (n := 4) ⟨rfl, rfl, rfl, rfl, rfl, rfl⟩ fun x => (b4_pay x).trans (congrArg (p.B3 _) (by omega))
/-- The earlier band of level 0. -/
theorem b4_0 : Holds p.HS2_4 0 2048 (fun d r => p.B0 d (r - 0)) := by
  unfold HS2_4 kernelRun0_A.sl.HS2_4
  exact Holds.old (off := 2336) (s := 1) (n := 4) ⟨rfl, rfl, rfl, rfl, rfl, rfl⟩ b3_0 (by omega)
/-- The earlier band of level 1. -/
theorem b4_1 : Holds p.HS2_4 2048 2304 (fun d r => p.B1 d (r - 2048)) := by
  unfold HS2_4 kernelRun0_A.sl.HS2_4
  exact Holds.old (off := 2336) (s := 1) (n := 4) ⟨rfl, rfl, rfl, rfl, rfl, rfl⟩ b3_1 (by omega)
/-- The earlier band of level 2. -/
theorem b4_2 : Holds p.HS2_4 2304 2336 (fun d r => p.B2 d (r - 2304)) := by
  unfold HS2_4 kernelRun0_A.sl.HS2_4
  exact Holds.old (off := 2336) (s := 1) (n := 4) ⟨rfl, rfl, rfl, rfl, rfl, rfl⟩ b3_2 (by omega)
/-- The load `v221`: level 3, row 0 of each tile. -/
theorem v221_at (x : S1x128.Idx) : p.v221 x = p.A3 (x 1).val ((x 0).val + 0) := by
  unfold v221 kernelRun0_A.sl.v221
  exact load_eq 2336 1 1 a4_3 ⟨rfl, rfl, rfl, rfl, rfl, rfl⟩ (by omega) (by omega) (congrArg (p.A3 _) (by omega))
/-- The load `v223`: level 3, row 0 of each tile. -/
theorem v223_at (x : S1x128.Idx) : p.v223 x = p.B3 (x 1).val ((x 0).val + 0) := by
  unfold v223 kernelRun0_A.sl.v223
  exact load_eq 2336 1 1 b4_3 ⟨rfl, rfl, rfl, rfl, rfl, rfl⟩ (by omega) (by omega) (congrArg (p.B3 _) (by omega))
/-- The load `v228`: level 3, row 1 of each tile. -/
theorem v228_at (x : S1x128.Idx) : p.v228 x = p.A3 (x 1).val ((x 0).val + 1) := by
  unfold v228 kernelRun0_A.sl.v228
  exact load_eq 2337 1 1 a4_3 ⟨rfl, rfl, rfl, rfl, rfl, rfl⟩ (by omega) (by omega) (congrArg (p.A3 _) (by omega))
/-- The load `v230`: level 3, row 1 of each tile. -/
theorem v230_at (x : S1x128.Idx) : p.v230 x = p.B3 (x 1).val ((x 0).val + 1) := by
  unfold v230 kernelRun0_A.sl.v230
  exact load_eq 2337 1 1 b4_3 ⟨rfl, rfl, rfl, rfl, rfl, rfl⟩ (by omega) (by omega) (congrArg (p.B3 _) (by omega))
/-- The load `v235`: level 3, row 2 of each tile. -/
theorem v235_at (x : S1x128.Idx) : p.v235 x = p.A3 (x 1).val ((x 0).val + 2) := by
  unfold v235 kernelRun0_A.sl.v235
  exact load_eq 2338 1 1 a4_3 ⟨rfl, rfl, rfl, rfl, rfl, rfl⟩ (by omega) (by omega) (congrArg (p.A3 _) (by omega))
/-- The load `v237`: level 3, row 2 of each tile. -/
theorem v237_at (x : S1x128.Idx) : p.v237 x = p.B3 (x 1).val ((x 0).val + 2) := by
  unfold v237 kernelRun0_A.sl.v237
  exact load_eq 2338 1 1 b4_3 ⟨rfl, rfl, rfl, rfl, rfl, rfl⟩ (by omega) (by omega) (congrArg (p.B3 _) (by omega))
/-- The load `v242`: level 3, row 3 of each tile. -/
theorem v242_at (x : S1x128.Idx) : p.v242 x = p.A3 (x 1).val ((x 0).val + 3) := by
  unfold v242 kernelRun0_A.sl.v242
  exact load_eq 2339 1 1 a4_3 ⟨rfl, rfl, rfl, rfl, rfl, rfl⟩ (by omega) (by omega) (congrArg (p.A3 _) (by omega))
/-- The load `v244`: level 3, row 3 of each tile. -/
theorem v244_at (x : S1x128.Idx) : p.v244 x = p.B3 (x 1).val ((x 0).val + 3) := by
  unfold v244 kernelRun0_A.sl.v244
  exact load_eq 2339 1 1 b4_3 ⟨rfl, rfl, rfl, rfl, rfl, rfl⟩ (by omega) (by omega) (congrArg (p.B3 _) (by omega))
/-- The load `v255`: level 2, row 0 of each tile. -/
theorem v255_at (x : S4x128.Idx) : p.v255 x = p.A2 (x 1).val (8 * (x 0).val + 0) := by
  unfold v255 kernelRun0_A.sl.v255
  exact load_eq 2304 8 4 a4_2 ⟨rfl, rfl, rfl, rfl, rfl, rfl⟩ (by omega) (by omega) (congrArg (p.A2 _) (by omega))
/-- The load `v256`: level 2, row 0 of each tile. -/
theorem v256_at (x : S4x128.Idx) : p.v256 x = p.B2 (x 1).val (8 * (x 0).val + 0) := by
  unfold v256 kernelRun0_A.sl.v256
  exact load_eq 2304 8 4 b4_2 ⟨rfl, rfl, rfl, rfl, rfl, rfl⟩ (by omega) (by omega) (congrArg (p.B2 _) (by omega))
/-- The load `v262`: level 2, row 1 of each tile. -/
theorem v262_at (x : S4x128.Idx) : p.v262 x = p.A2 (x 1).val (8 * (x 0).val + 1) := by
  unfold v262 kernelRun0_A.sl.v262
  exact load_eq 2305 8 4 a4_2 ⟨rfl, rfl, rfl, rfl, rfl, rfl⟩ (by omega) (by omega) (congrArg (p.A2 _) (by omega))
/-- The load `v263`: level 2, row 1 of each tile. -/
theorem v263_at (x : S4x128.Idx) : p.v263 x = p.B2 (x 1).val (8 * (x 0).val + 1) := by
  unfold v263 kernelRun0_A.sl.v263
  exact load_eq 2305 8 4 b4_2 ⟨rfl, rfl, rfl, rfl, rfl, rfl⟩ (by omega) (by omega) (congrArg (p.B2 _) (by omega))
/-- The load `v269`: level 2, row 2 of each tile. -/
theorem v269_at (x : S4x128.Idx) : p.v269 x = p.A2 (x 1).val (8 * (x 0).val + 2) := by
  unfold v269 kernelRun0_A.sl.v269
  exact load_eq 2306 8 4 a4_2 ⟨rfl, rfl, rfl, rfl, rfl, rfl⟩ (by omega) (by omega) (congrArg (p.A2 _) (by omega))
/-- The load `v270`: level 2, row 2 of each tile. -/
theorem v270_at (x : S4x128.Idx) : p.v270 x = p.B2 (x 1).val (8 * (x 0).val + 2) := by
  unfold v270 kernelRun0_A.sl.v270
  exact load_eq 2306 8 4 b4_2 ⟨rfl, rfl, rfl, rfl, rfl, rfl⟩ (by omega) (by omega) (congrArg (p.B2 _) (by omega))
/-- The load `v276`: level 2, row 3 of each tile. -/
theorem v276_at (x : S4x128.Idx) : p.v276 x = p.A2 (x 1).val (8 * (x 0).val + 3) := by
  unfold v276 kernelRun0_A.sl.v276
  exact load_eq 2307 8 4 a4_2 ⟨rfl, rfl, rfl, rfl, rfl, rfl⟩ (by omega) (by omega) (congrArg (p.A2 _) (by omega))
/-- The load `v277`: level 2, row 3 of each tile. -/
theorem v277_at (x : S4x128.Idx) : p.v277 x = p.B2 (x 1).val (8 * (x 0).val + 3) := by
  unfold v277 kernelRun0_A.sl.v277
  exact load_eq 2307 8 4 b4_2 ⟨rfl, rfl, rfl, rfl, rfl, rfl⟩ (by omega) (by omega) (congrArg (p.B2 _) (by omega))
/-- The load `v283`: level 2, row 4 of each tile. -/
theorem v283_at (x : S4x128.Idx) : p.v283 x = p.A2 (x 1).val (8 * (x 0).val + 4) := by
  unfold v283 kernelRun0_A.sl.v283
  exact load_eq 2308 8 4 a4_2 ⟨rfl, rfl, rfl, rfl, rfl, rfl⟩ (by omega) (by omega) (congrArg (p.A2 _) (by omega))
/-- The load `v284`: level 2, row 4 of each tile. -/
theorem v284_at (x : S4x128.Idx) : p.v284 x = p.B2 (x 1).val (8 * (x 0).val + 4) := by
  unfold v284 kernelRun0_A.sl.v284
  exact load_eq 2308 8 4 b4_2 ⟨rfl, rfl, rfl, rfl, rfl, rfl⟩ (by omega) (by omega) (congrArg (p.B2 _) (by omega))
/-- The load `v290`: level 2, row 5 of each tile. -/
theorem v290_at (x : S4x128.Idx) : p.v290 x = p.A2 (x 1).val (8 * (x 0).val + 5) := by
  unfold v290 kernelRun0_A.sl.v290
  exact load_eq 2309 8 4 a4_2 ⟨rfl, rfl, rfl, rfl, rfl, rfl⟩ (by omega) (by omega) (congrArg (p.A2 _) (by omega))
/-- The load `v291`: level 2, row 5 of each tile. -/
theorem v291_at (x : S4x128.Idx) : p.v291 x = p.B2 (x 1).val (8 * (x 0).val + 5) := by
  unfold v291 kernelRun0_A.sl.v291
  exact load_eq 2309 8 4 b4_2 ⟨rfl, rfl, rfl, rfl, rfl, rfl⟩ (by omega) (by omega) (congrArg (p.B2 _) (by omega))
/-- The load `v297`: level 2, row 6 of each tile. -/
theorem v297_at (x : S4x128.Idx) : p.v297 x = p.A2 (x 1).val (8 * (x 0).val + 6) := by
  unfold v297 kernelRun0_A.sl.v297
  exact load_eq 2310 8 4 a4_2 ⟨rfl, rfl, rfl, rfl, rfl, rfl⟩ (by omega) (by omega) (congrArg (p.A2 _) (by omega))
/-- The load `v298`: level 2, row 6 of each tile. -/
theorem v298_at (x : S4x128.Idx) : p.v298 x = p.B2 (x 1).val (8 * (x 0).val + 6) := by
  unfold v298 kernelRun0_A.sl.v298
  exact load_eq 2310 8 4 b4_2 ⟨rfl, rfl, rfl, rfl, rfl, rfl⟩ (by omega) (by omega) (congrArg (p.B2 _) (by omega))
/-- The load `v304`: level 2, row 7 of each tile. -/
theorem v304_at (x : S4x128.Idx) : p.v304 x = p.A2 (x 1).val (8 * (x 0).val + 7) := by
  unfold v304 kernelRun0_A.sl.v304
  exact load_eq 2311 8 4 a4_2 ⟨rfl, rfl, rfl, rfl, rfl, rfl⟩ (by omega) (by omega) (congrArg (p.A2 _) (by omega))
/-- The load `v305`: level 2, row 7 of each tile. -/
theorem v305_at (x : S4x128.Idx) : p.v305 x = p.B2 (x 1).val (8 * (x 0).val + 7) := by
  unfold v305 kernelRun0_A.sl.v305
  exact load_eq 2311 8 4 b4_2 ⟨rfl, rfl, rfl, rfl, rfl, rfl⟩ (by omega) (by omega) (congrArg (p.B2 _) (by omega))
/-- The load `v317`: level 1, row 0 of each tile. -/
theorem v317_at (x : S32x128.Idx) : p.v317 x = p.A1 (x 1).val (8 * (x 0).val + 0) := by
  unfold v317 kernelRun0_A.sl.v317
  exact load_eq 2048 8 32 a4_1 ⟨rfl, rfl, rfl, rfl, rfl, rfl⟩ (by omega) (by omega) (congrArg (p.A1 _) (by omega))
/-- The load `v318`: level 1, row 0 of each tile. -/
theorem v318_at (x : S32x128.Idx) : p.v318 x = p.B1 (x 1).val (8 * (x 0).val + 0) := by
  unfold v318 kernelRun0_A.sl.v318
  exact load_eq 2048 8 32 b4_1 ⟨rfl, rfl, rfl, rfl, rfl, rfl⟩ (by omega) (by omega) (congrArg (p.B1 _) (by omega))
/-- The load `v324`: level 1, row 1 of each tile. -/
theorem v324_at (x : S32x128.Idx) : p.v324 x = p.A1 (x 1).val (8 * (x 0).val + 1) := by
  unfold v324 kernelRun0_A.sl.v324
  exact load_eq 2049 8 32 a4_1 ⟨rfl, rfl, rfl, rfl, rfl, rfl⟩ (by omega) (by omega) (congrArg (p.A1 _) (by omega))
/-- The load `v325`: level 1, row 1 of each tile. -/
theorem v325_at (x : S32x128.Idx) : p.v325 x = p.B1 (x 1).val (8 * (x 0).val + 1) := by
  unfold v325 kernelRun0_A.sl.v325
  exact load_eq 2049 8 32 b4_1 ⟨rfl, rfl, rfl, rfl, rfl, rfl⟩ (by omega) (by omega) (congrArg (p.B1 _) (by omega))
/-- The load `v331`: level 1, row 2 of each tile. -/
theorem v331_at (x : S32x128.Idx) : p.v331 x = p.A1 (x 1).val (8 * (x 0).val + 2) := by
  unfold v331 kernelRun0_A.sl.v331
  exact load_eq 2050 8 32 a4_1 ⟨rfl, rfl, rfl, rfl, rfl, rfl⟩ (by omega) (by omega) (congrArg (p.A1 _) (by omega))
/-- The load `v332`: level 1, row 2 of each tile. -/
theorem v332_at (x : S32x128.Idx) : p.v332 x = p.B1 (x 1).val (8 * (x 0).val + 2) := by
  unfold v332 kernelRun0_A.sl.v332
  exact load_eq 2050 8 32 b4_1 ⟨rfl, rfl, rfl, rfl, rfl, rfl⟩ (by omega) (by omega) (congrArg (p.B1 _) (by omega))
/-- The load `v338`: level 1, row 3 of each tile. -/
theorem v338_at (x : S32x128.Idx) : p.v338 x = p.A1 (x 1).val (8 * (x 0).val + 3) := by
  unfold v338 kernelRun0_A.sl.v338
  exact load_eq 2051 8 32 a4_1 ⟨rfl, rfl, rfl, rfl, rfl, rfl⟩ (by omega) (by omega) (congrArg (p.A1 _) (by omega))
/-- The load `v339`: level 1, row 3 of each tile. -/
theorem v339_at (x : S32x128.Idx) : p.v339 x = p.B1 (x 1).val (8 * (x 0).val + 3) := by
  unfold v339 kernelRun0_A.sl.v339
  exact load_eq 2051 8 32 b4_1 ⟨rfl, rfl, rfl, rfl, rfl, rfl⟩ (by omega) (by omega) (congrArg (p.B1 _) (by omega))
/-- The load `v345`: level 1, row 4 of each tile. -/
theorem v345_at (x : S32x128.Idx) : p.v345 x = p.A1 (x 1).val (8 * (x 0).val + 4) := by
  unfold v345 kernelRun0_A.sl.v345
  exact load_eq 2052 8 32 a4_1 ⟨rfl, rfl, rfl, rfl, rfl, rfl⟩ (by omega) (by omega) (congrArg (p.A1 _) (by omega))
/-- The load `v346`: level 1, row 4 of each tile. -/
theorem v346_at (x : S32x128.Idx) : p.v346 x = p.B1 (x 1).val (8 * (x 0).val + 4) := by
  unfold v346 kernelRun0_A.sl.v346
  exact load_eq 2052 8 32 b4_1 ⟨rfl, rfl, rfl, rfl, rfl, rfl⟩ (by omega) (by omega) (congrArg (p.B1 _) (by omega))
/-- The load `v352`: level 1, row 5 of each tile. -/
theorem v352_at (x : S32x128.Idx) : p.v352 x = p.A1 (x 1).val (8 * (x 0).val + 5) := by
  unfold v352 kernelRun0_A.sl.v352
  exact load_eq 2053 8 32 a4_1 ⟨rfl, rfl, rfl, rfl, rfl, rfl⟩ (by omega) (by omega) (congrArg (p.A1 _) (by omega))
/-- The load `v353`: level 1, row 5 of each tile. -/
theorem v353_at (x : S32x128.Idx) : p.v353 x = p.B1 (x 1).val (8 * (x 0).val + 5) := by
  unfold v353 kernelRun0_A.sl.v353
  exact load_eq 2053 8 32 b4_1 ⟨rfl, rfl, rfl, rfl, rfl, rfl⟩ (by omega) (by omega) (congrArg (p.B1 _) (by omega))
/-- The load `v359`: level 1, row 6 of each tile. -/
theorem v359_at (x : S32x128.Idx) : p.v359 x = p.A1 (x 1).val (8 * (x 0).val + 6) := by
  unfold v359 kernelRun0_A.sl.v359
  exact load_eq 2054 8 32 a4_1 ⟨rfl, rfl, rfl, rfl, rfl, rfl⟩ (by omega) (by omega) (congrArg (p.A1 _) (by omega))
/-- The load `v360`: level 1, row 6 of each tile. -/
theorem v360_at (x : S32x128.Idx) : p.v360 x = p.B1 (x 1).val (8 * (x 0).val + 6) := by
  unfold v360 kernelRun0_A.sl.v360
  exact load_eq 2054 8 32 b4_1 ⟨rfl, rfl, rfl, rfl, rfl, rfl⟩ (by omega) (by omega) (congrArg (p.B1 _) (by omega))
/-- The load `v366`: level 1, row 7 of each tile. -/
theorem v366_at (x : S32x128.Idx) : p.v366 x = p.A1 (x 1).val (8 * (x 0).val + 7) := by
  unfold v366 kernelRun0_A.sl.v366
  exact load_eq 2055 8 32 a4_1 ⟨rfl, rfl, rfl, rfl, rfl, rfl⟩ (by omega) (by omega) (congrArg (p.A1 _) (by omega))
/-- The load `v367`: level 1, row 7 of each tile. -/
theorem v367_at (x : S32x128.Idx) : p.v367 x = p.B1 (x 1).val (8 * (x 0).val + 7) := by
  unfold v367 kernelRun0_A.sl.v367
  exact load_eq 2055 8 32 b4_1 ⟨rfl, rfl, rfl, rfl, rfl, rfl⟩ (by omega) (by omega) (congrArg (p.B1 _) (by omega))
/-- The load `v379`: level 0, row 0 of each tile. -/
theorem v379_at (x : S256x128.Idx) : p.v379 x = p.A0 (x 1).val (8 * (x 0).val + 0) := by
  unfold v379 kernelRun0_A.sl.v379
  exact load_eq 0 8 256 a4_0 ⟨rfl, rfl, rfl, rfl, rfl, rfl⟩ (by omega) (by omega) (congrArg (p.A0 _) (by omega))
/-- The load `v380`: level 0, row 0 of each tile. -/
theorem v380_at (x : S256x128.Idx) : p.v380 x = p.B0 (x 1).val (8 * (x 0).val + 0) := by
  unfold v380 kernelRun0_A.sl.v380
  exact load_eq 0 8 256 b4_0 ⟨rfl, rfl, rfl, rfl, rfl, rfl⟩ (by omega) (by omega) (congrArg (p.B0 _) (by omega))
/-- The load `v386`: level 0, row 1 of each tile. -/
theorem v386_at (x : S256x128.Idx) : p.v386 x = p.A0 (x 1).val (8 * (x 0).val + 1) := by
  unfold v386 kernelRun0_A.sl.v386
  exact load_eq 1 8 256 a4_0 ⟨rfl, rfl, rfl, rfl, rfl, rfl⟩ (by omega) (by omega) (congrArg (p.A0 _) (by omega))
/-- The load `v387`: level 0, row 1 of each tile. -/
theorem v387_at (x : S256x128.Idx) : p.v387 x = p.B0 (x 1).val (8 * (x 0).val + 1) := by
  unfold v387 kernelRun0_A.sl.v387
  exact load_eq 1 8 256 b4_0 ⟨rfl, rfl, rfl, rfl, rfl, rfl⟩ (by omega) (by omega) (congrArg (p.B0 _) (by omega))
/-- The load `v393`: level 0, row 2 of each tile. -/
theorem v393_at (x : S256x128.Idx) : p.v393 x = p.A0 (x 1).val (8 * (x 0).val + 2) := by
  unfold v393 kernelRun0_A.sl.v393
  exact load_eq 2 8 256 a4_0 ⟨rfl, rfl, rfl, rfl, rfl, rfl⟩ (by omega) (by omega) (congrArg (p.A0 _) (by omega))
/-- The load `v394`: level 0, row 2 of each tile. -/
theorem v394_at (x : S256x128.Idx) : p.v394 x = p.B0 (x 1).val (8 * (x 0).val + 2) := by
  unfold v394 kernelRun0_A.sl.v394
  exact load_eq 2 8 256 b4_0 ⟨rfl, rfl, rfl, rfl, rfl, rfl⟩ (by omega) (by omega) (congrArg (p.B0 _) (by omega))
/-- The load `v400`: level 0, row 3 of each tile. -/
theorem v400_at (x : S256x128.Idx) : p.v400 x = p.A0 (x 1).val (8 * (x 0).val + 3) := by
  unfold v400 kernelRun0_A.sl.v400
  exact load_eq 3 8 256 a4_0 ⟨rfl, rfl, rfl, rfl, rfl, rfl⟩ (by omega) (by omega) (congrArg (p.A0 _) (by omega))
/-- The load `v401`: level 0, row 3 of each tile. -/
theorem v401_at (x : S256x128.Idx) : p.v401 x = p.B0 (x 1).val (8 * (x 0).val + 3) := by
  unfold v401 kernelRun0_A.sl.v401
  exact load_eq 3 8 256 b4_0 ⟨rfl, rfl, rfl, rfl, rfl, rfl⟩ (by omega) (by omega) (congrArg (p.B0 _) (by omega))
/-- The load `v407`: level 0, row 4 of each tile. -/
theorem v407_at (x : S256x128.Idx) : p.v407 x = p.A0 (x 1).val (8 * (x 0).val + 4) := by
  unfold v407 kernelRun0_A.sl.v407
  exact load_eq 4 8 256 a4_0 ⟨rfl, rfl, rfl, rfl, rfl, rfl⟩ (by omega) (by omega) (congrArg (p.A0 _) (by omega))
/-- The load `v408`: level 0, row 4 of each tile. -/
theorem v408_at (x : S256x128.Idx) : p.v408 x = p.B0 (x 1).val (8 * (x 0).val + 4) := by
  unfold v408 kernelRun0_A.sl.v408
  exact load_eq 4 8 256 b4_0 ⟨rfl, rfl, rfl, rfl, rfl, rfl⟩ (by omega) (by omega) (congrArg (p.B0 _) (by omega))
/-- The load `v414`: level 0, row 5 of each tile. -/
theorem v414_at (x : S256x128.Idx) : p.v414 x = p.A0 (x 1).val (8 * (x 0).val + 5) := by
  unfold v414 kernelRun0_A.sl.v414
  exact load_eq 5 8 256 a4_0 ⟨rfl, rfl, rfl, rfl, rfl, rfl⟩ (by omega) (by omega) (congrArg (p.A0 _) (by omega))
/-- The load `v415`: level 0, row 5 of each tile. -/
theorem v415_at (x : S256x128.Idx) : p.v415 x = p.B0 (x 1).val (8 * (x 0).val + 5) := by
  unfold v415 kernelRun0_A.sl.v415
  exact load_eq 5 8 256 b4_0 ⟨rfl, rfl, rfl, rfl, rfl, rfl⟩ (by omega) (by omega) (congrArg (p.B0 _) (by omega))
/-- The load `v421`: level 0, row 6 of each tile. -/
theorem v421_at (x : S256x128.Idx) : p.v421 x = p.A0 (x 1).val (8 * (x 0).val + 6) := by
  unfold v421 kernelRun0_A.sl.v421
  exact load_eq 6 8 256 a4_0 ⟨rfl, rfl, rfl, rfl, rfl, rfl⟩ (by omega) (by omega) (congrArg (p.A0 _) (by omega))
/-- The load `v422`: level 0, row 6 of each tile. -/
theorem v422_at (x : S256x128.Idx) : p.v422 x = p.B0 (x 1).val (8 * (x 0).val + 6) := by
  unfold v422 kernelRun0_A.sl.v422
  exact load_eq 6 8 256 b4_0 ⟨rfl, rfl, rfl, rfl, rfl, rfl⟩ (by omega) (by omega) (congrArg (p.B0 _) (by omega))
/-- The load `v428`: level 0, row 7 of each tile. -/
theorem v428_at (x : S256x128.Idx) : p.v428 x = p.A0 (x 1).val (8 * (x 0).val + 7) := by
  unfold v428 kernelRun0_A.sl.v428
  exact load_eq 7 8 256 a4_0 ⟨rfl, rfl, rfl, rfl, rfl, rfl⟩ (by omega) (by omega) (congrArg (p.A0 _) (by omega))
/-- The load `v429`: level 0, row 7 of each tile. -/
theorem v429_at (x : S256x128.Idx) : p.v429 x = p.B0 (x 1).val (8 * (x 0).val + 7) := by
  unfold v429 kernelRun0_A.sl.v429
  exact load_eq 7 8 256 b4_0 ⟨rfl, rfl, rfl, rfl, rfl, rfl⟩ (by omega) (by omega) (congrArg (p.B0 _) (by omega))
/-- The state before the first step, as each store of it writes it. -/
theorem h0_at (x : S1x128.Idx) : k0_pay32 p.r_16 x = p.h0 (x 1).val := by
  have h : (x 0).val = 0 := by have h1 : (x 0).val < 1 := (x 0).isLt; omega
  refine (ext2_apply (R := 1) (C := 128) (k0_pay32 p.r_16) x).symm.trans ?_
  rw [h]; rfl
/-- The first step at the top level. -/
theorem r_12_at (x : S1x128.Idx) : p.r_12 x = p.run3 (x 1).val 1 := by
  have h : (x 0).val = 0 := by have h1 : (x 0).val < 1 := (x 0).isLt; omega
  have e : p.r_12 x = p.v221 x * k0_pay32 p.r_16 x + p.v223 x := by
    simp only [r_12, kernelRun0_A.sl.r_12, k0_pay25, k0_pay32, shapeCast_self]
    rfl
  rw [e, h0_at, v221_at, v223_at, h]
  rfl
/-- The store of step 1 at the top level. -/
theorem top1 (x : S1x128.Idx) : (k0_pay26 p.r_12 ) x = p.run3 (x 1).val 1 := by
  have h : (x 0).val = 0 := by have h1 : (x 0).val < 1 := (x 0).isLt; omega
  simp only [k0_pay26, k0_pay27, k0_pay28, k0_pay29, k0_pay30, k0_pay31, shapeCast_self]
  show p.r_12 x = _
  simp only [r_12_at, h]
/-- The store of step 2 at the top level. -/
theorem top2 (x : S1x128.Idx) : (k0_pay28 p.r_12 p.v228 p.v230) x = p.run3 (x 1).val 2 := by
  have h : (x 0).val = 0 := by have h1 : (x 0).val < 1 := (x 0).isLt; omega
  simp only [k0_pay26, k0_pay27, k0_pay28, k0_pay29, k0_pay30, k0_pay31, shapeCast_self]
  show p.v228 x * (p.r_12 x) + p.v230 x = _
  simp only [v228_at, v230_at, r_12_at, h]
  rfl
/-- The store of step 3 at the top level. -/
theorem top3 (x : S1x128.Idx) : (k0_pay30 p.r_12 p.v228 p.v230 p.v235 p.v237) x = p.run3 (x 1).val 3 := by
  have h : (x 0).val = 0 := by have h1 : (x 0).val < 1 := (x 0).isLt; omega
  simp only [k0_pay26, k0_pay27, k0_pay28, k0_pay29, k0_pay30, k0_pay31, shapeCast_self]
  show p.v235 x * (p.v228 x * (p.r_12 x) + p.v230 x) + p.v237 x = _
  simp only [v228_at, v230_at, v235_at, v237_at, r_12_at, h]
  rfl
/-- The store of step 4 at the top level. -/
theorem top4 (x : S1x128.Idx) : (k0_pay31 p.r_12 p.v228 p.v230 p.v235 p.v237 p.v242 p.v244) x = p.run3 (x 1).val 4 := by
  have h : (x 0).val = 0 := by have h1 : (x 0).val < 1 := (x 0).isLt; omega
  simp only [k0_pay26, k0_pay27, k0_pay28, k0_pay29, k0_pay30, k0_pay31, shapeCast_self]
  show p.v242 x * (p.v235 x * (p.v228 x * (p.r_12 x) + p.v230 x) + p.v237 x) + p.v244 x = _
  simp only [v228_at, v230_at, v235_at, v237_at, v242_at, v244_at, r_12_at, h]
  rfl
/-- The states of the top level. -/
theorem s5 : Holds p.HS3_5 2343 2347 (fun d r => p.run3 d (r - 2343)) := by
  have hz : ∀ x : S1x128.Idx, (x 0).val = 0 := fun x => by have h1 : (x 0).val < 1 := (x 0).isLt; omega
  unfold HS3_5 kernelRun0_A.sl.HS3_5
  refine Holds.below ?_ (Holds.below ?_ (Holds.below ?_ ?_))
  · exact Holds.new (off := 2343) (n := 1) ⟨rfl, rfl, rfl, rfl, rfl, rfl⟩ fun x => (h0_at x).trans (by rw [hz x]; rfl)
  · exact Holds.old (off := 2343) (s := 1) (n := 1) ⟨rfl, rfl, rfl, rfl, rfl, rfl⟩ (Holds.old (off := 2347) (s := 1) (n := 1) ⟨rfl, rfl, rfl, rfl, rfl, rfl⟩
      (Holds.old (off := 2346) (s := 1) (n := 1) ⟨rfl, rfl, rfl, rfl, rfl, rfl⟩ (Holds.old (off := 2345) (s := 1) (n := 1) ⟨rfl, rfl, rfl, rfl, rfl, rfl⟩
      (Holds.new (off := 2344) (n := 1) ⟨rfl, rfl, rfl, rfl, rfl, rfl⟩ fun x => (top1 x).trans (by rw [hz x])) (by omega)) (by omega)) (by omega)) (by omega)
  · exact Holds.old (off := 2343) (s := 1) (n := 1) ⟨rfl, rfl, rfl, rfl, rfl, rfl⟩ (Holds.old (off := 2347) (s := 1) (n := 1) ⟨rfl, rfl, rfl, rfl, rfl, rfl⟩
      (Holds.old (off := 2346) (s := 1) (n := 1) ⟨rfl, rfl, rfl, rfl, rfl, rfl⟩
      (Holds.new (off := 2345) (n := 1) ⟨rfl, rfl, rfl, rfl, rfl, rfl⟩ fun x => (top2 x).trans (by rw [hz x])) (by omega)) (by omega)) (by omega)
  · exact Holds.old (off := 2343) (s := 1) (n := 1) ⟨rfl, rfl, rfl, rfl, rfl, rfl⟩ (Holds.old (off := 2347) (s := 1) (n := 1) ⟨rfl, rfl, rfl, rfl, rfl, rfl⟩
      (Holds.new (off := 2346) (n := 1) ⟨rfl, rfl, rfl, rfl, rfl, rfl⟩ fun x => (top3 x).trans (by rw [hz x])) (by omega)) (by omega)
/-- The states the down sweep starts the tiles of level 2 from. -/
theorem v254_at (ok : p.OkA) (x : S4x128.Idx) : p.v254 x = p.run2 (x 1).val (8 * (x 0).val) := by
  have e : p.v254 x = p.run3 (x 1).val (x 0).val := by
    unfold v254 kernelRun0_A.sl.v254
    exact load_eq 2343 1 4 s5 ⟨rfl, rfl, rfl, rfl, rfl, rfl⟩ (by omega) (by omega) (congrArg (p.run3 _) (by omega))
  rw [e]
  exact run_up _ _ ((fun t => upA_ok (fun t => upA_ok (ok _) t) t)) _
/-- The down sweep's store of row 0 of each tile, level 2. -/
theorem d2_0 (ok : p.OkA) (x : S4x128.Idx) : (k0_pay34 p.v254 p.v255 p.v256) x = p.run2 (x 1).val (8 * (x 0).val + 1) := by
  simp only [r_13, kernelRun0_A.sl.r_13, k0_pay33, k0_pay34, k0_pay35, k0_pay36, k0_pay37, k0_pay38, k0_pay39, k0_pay40, k0_pay41, k0_pay42, k0_pay43, k0_pay44, k0_pay45, k0_pay46, k0_pay47, shapeCast_self]
  show p.v255 x * (p.v254 x) + p.v256 x = _
  simp only [v254_at ok, v255_at, v256_at]
  rfl
/-- The down sweep's store of row 1 of each tile, level 2. -/
theorem d2_1 (ok : p.OkA) (x : S4x128.Idx) : (k0_pay36 p.v254 p.v255 p.v256 p.v262 p.v263) x = p.run2 (x 1).val (8 * (x 0).val + 2) := by
  simp only [r_13, kernelRun0_A.sl.r_13, k0_pay33, k0_pay34, k0_pay35, k0_pay36, k0_pay37, k0_pay38, k0_pay39, k0_pay40, k0_pay41, k0_pay42, k0_pay43, k0_pay44, k0_pay45, k0_pay46, k0_pay47, shapeCast_self]
  show p.v262 x * (p.v255 x * (p.v254 x) + p.v256 x) + p.v263 x = _
  simp only [v254_at ok, v255_at, v256_at, v262_at, v263_at]
  rfl
/-- The down sweep's store of row 2 of each tile, level 2. -/
theorem d2_2 (ok : p.OkA) (x : S4x128.Idx) : (k0_pay38 p.v254 p.v255 p.v256 p.v262 p.v263 p.v269 p.v270) x = p.run2 (x 1).val (8 * (x 0).val + 3) := by
  simp only [r_13, kernelRun0_A.sl.r_13, k0_pay33, k0_pay34, k0_pay35, k0_pay36, k0_pay37, k0_pay38, k0_pay39, k0_pay40, k0_pay41, k0_pay42, k0_pay43, k0_pay44, k0_pay45, k0_pay46, k0_pay47, shapeCast_self]
  show p.v269 x * (p.v262 x * (p.v255 x * (p.v254 x) + p.v256 x) + p.v263 x) + p.v270 x = _
  simp only [v254_at ok, v255_at, v256_at, v262_at, v263_at, v269_at, v270_at]
  rfl
/-- The down sweep's store of row 3 of each tile, level 2. -/
theorem d2_3 (ok : p.OkA) (x : S4x128.Idx) : (k0_pay40 p.v254 p.v255 p.v256 p.v262 p.v263 p.v269 p.v270 p.v276 p.v277) x = p.run2 (x 1).val (8 * (x 0).val + 4) := by
  simp only [r_13, kernelRun0_A.sl.r_13, k0_pay33, k0_pay34, k0_pay35, k0_pay36, k0_pay37, k0_pay38, k0_pay39, k0_pay40, k0_pay41, k0_pay42, k0_pay43, k0_pay44, k0_pay45, k0_pay46, k0_pay47, shapeCast_self]
  show p.v276 x * (p.v269 x * (p.v262 x * (p.v255 x * (p.v254 x) + p.v256 x) + p.v263 x) + p.v270 x) + p.v277 x = _
  simp only [v254_at ok, v255_at, v256_at, v262_at, v263_at, v269_at, v270_at, v276_at, v277_at]
  rfl
/-- The down sweep's store of row 4 of each tile, level 2. -/
theorem d2_4 (ok : p.OkA) (x : S4x128.Idx) : (k0_pay42 p.r_13 p.v283 p.v284) x = p.run2 (x 1).val (8 * (x 0).val + 5) := by
  simp only [r_13, kernelRun0_A.sl.r_13, k0_pay33, k0_pay34, k0_pay35, k0_pay36, k0_pay37, k0_pay38, k0_pay39, k0_pay40, k0_pay41, k0_pay42, k0_pay43, k0_pay44, k0_pay45, k0_pay46, k0_pay47, shapeCast_self]
  show p.v283 x * (p.v276 x * (p.v269 x * (p.v262 x * (p.v255 x * (p.v254 x) + p.v256 x) + p.v263 x) + p.v270 x) + p.v277 x) + p.v284 x = _
  simp only [v254_at ok, v255_at, v256_at, v262_at, v263_at, v269_at, v270_at, v276_at, v277_at, v283_at, v284_at]
  rfl
/-- The down sweep's store of row 5 of each tile, level 2. -/
theorem d2_5 (ok : p.OkA) (x : S4x128.Idx) : (k0_pay44 p.r_13 p.v283 p.v284 p.v290 p.v291) x = p.run2 (x 1).val (8 * (x 0).val + 6) := by
  simp only [r_13, kernelRun0_A.sl.r_13, k0_pay33, k0_pay34, k0_pay35, k0_pay36, k0_pay37, k0_pay38, k0_pay39, k0_pay40, k0_pay41, k0_pay42, k0_pay43, k0_pay44, k0_pay45, k0_pay46, k0_pay47, shapeCast_self]
  show p.v290 x * (p.v283 x * (p.v276 x * (p.v269 x * (p.v262 x * (p.v255 x * (p.v254 x) + p.v256 x) + p.v263 x) + p.v270 x) + p.v277 x) + p.v284 x) + p.v291 x = _
  simp only [v254_at ok, v255_at, v256_at, v262_at, v263_at, v269_at, v270_at, v276_at, v277_at, v283_at, v284_at, v290_at, v291_at]
  rfl
/-- The down sweep's store of row 6 of each tile, level 2. -/
theorem d2_6 (ok : p.OkA) (x : S4x128.Idx) : (k0_pay46 p.r_13 p.v283 p.v284 p.v290 p.v291 p.v297 p.v298) x = p.run2 (x 1).val (8 * (x 0).val + 7) := by
  simp only [r_13, kernelRun0_A.sl.r_13, k0_pay33, k0_pay34, k0_pay35, k0_pay36, k0_pay37, k0_pay38, k0_pay39, k0_pay40, k0_pay41, k0_pay42, k0_pay43, k0_pay44, k0_pay45, k0_pay46, k0_pay47, shapeCast_self]
  show p.v297 x * (p.v290 x * (p.v283 x * (p.v276 x * (p.v269 x * (p.v262 x * (p.v255 x * (p.v254 x) + p.v256 x) + p.v263 x) + p.v270 x) + p.v277 x) + p.v284 x) + p.v291 x) + p.v298 x = _
  simp only [v254_at ok, v255_at, v256_at, v262_at, v263_at, v269_at, v270_at, v276_at, v277_at, v283_at, v284_at, v290_at, v291_at, v297_at, v298_at]
  rfl
/-- The down sweep's store of row 7 of each tile, level 2. -/
theorem d2_7 (ok : p.OkA) (x : S4x128.Idx) : (k0_pay47 p.r_13 p.v283 p.v284 p.v290 p.v291 p.v297 p.v298 p.v304 p.v305) x = p.run2 (x 1).val (8 * (x 0).val + 8) := by
  simp only [r_13, kernelRun0_A.sl.r_13, k0_pay33, k0_pay34, k0_pay35, k0_pay36, k0_pay37, k0_pay38, k0_pay39, k0_pay40, k0_pay41, k0_pay42, k0_pay43, k0_pay44, k0_pay45, k0_pay46, k0_pay47, shapeCast_self]
  show p.v304 x * (p.v297 x * (p.v290 x * (p.v283 x * (p.v276 x * (p.v269 x * (p.v262 x * (p.v255 x * (p.v254 x) + p.v256 x) + p.v263 x) + p.v270 x) + p.v277 x) + p.v284 x) + p.v291 x) + p.v298 x) + p.v305 x = _
  simp only [v254_at ok, v255_at, v256_at, v262_at, v263_at, v269_at, v270_at, v276_at, v277_at, v283_at, v284_at, v290_at, v291_at, v297_at, v298_at, v304_at, v305_at]
  rfl
/-- The states of level 2. -/
theorem s14 (ok : p.OkA) : Holds p.HS3_14 2311 2344 (fun d r => p.run2 d (r - 2311)) := by
  have hz : ∀ x : S1x128.Idx, (x 0).val = 0 := fun x => by have h1 : (x 0).val < 1 := (x 0).isLt; omega
  unfold HS3_14 kernelRun0_A.sl.HS3_14
  refine Holds.below (Holds.new (off := 2311) (n := 1) ⟨rfl, rfl, rfl, rfl, rfl, rfl⟩ fun x => (h0_at x).trans (by rw [hz x]; rfl))
    (Holds.old (off := 2311) (s := 1) (n := 1) ⟨rfl, rfl, rfl, rfl, rfl, rfl⟩ ?_ (by omega))
  exact Holds.eight (off := 2312) (n := 4) ⟨rfl, rfl, rfl, rfl, rfl, rfl⟩ ⟨rfl, rfl, rfl, rfl, rfl, rfl⟩ ⟨rfl, rfl, rfl, rfl, rfl, rfl⟩ ⟨rfl, rfl, rfl, rfl, rfl, rfl⟩ ⟨rfl, rfl, rfl, rfl, rfl, rfl⟩ ⟨rfl, rfl, rfl, rfl, rfl, rfl⟩ ⟨rfl, rfl, rfl, rfl, rfl, rfl⟩ ⟨rfl, rfl, rfl, rfl, rfl, rfl⟩
    (fun x => (d2_0 ok x).trans (congrArg (p.run2 _) (by omega)))
    (fun x => (d2_1 ok x).trans (congrArg (p.run2 _) (by omega)))
    (fun x => (d2_2 ok x).trans (congrArg (p.run2 _) (by omega)))
    (fun x => (d2_3 ok x).trans (congrArg (p.run2 _) (by omega)))
    (fun x => (d2_4 ok x).trans (congrArg (p.run2 _) (by omega)))
    (fun x => (d2_5 ok x).trans (congrArg (p.run2 _) (by omega)))
    (fun x => (d2_6 ok x).trans (congrArg (p.run2 _) (by omega)))
    (fun x => (d2_7 ok x).trans (congrArg (p.run2 _) (by omega)))
/-- The states the down sweep starts the tiles of level 1 from. -/
theorem v316_at (ok : p.OkA) (x : S32x128.Idx) : p.v316 x = p.run1 (x 1).val (8 * (x 0).val) := by
  have e : p.v316 x = p.run2 (x 1).val (x 0).val := by
    unfold v316 kernelRun0_A.sl.v316
    exact load_eq 2311 1 32 (s14 ok) ⟨rfl, rfl, rfl, rfl, rfl, rfl⟩ (by omega) (by omega) (congrArg (p.run2 _) (by omega))
  rw [e]
  exact run_up _ _ ((fun t => upA_ok (ok _) t)) _
/-- The down sweep's store of row 0 of each tile, level 1. -/
theorem d1_0 (ok : p.OkA) (x : S32x128.Idx) : (k0_pay50 p.v316 p.v317 p.v318) x = p.run1 (x 1).val (8 * (x 0).val + 1) := by
  simp only [r_15, kernelRun0_A.sl.r_15, k0_pay49, k0_pay50, k0_pay51, k0_pay52, k0_pay53, k0_pay54, k0_pay55, k0_pay56, k0_pay57, k0_pay58, k0_pay59, k0_pay60, k0_pay61, k0_pay62, k0_pay63, shapeCast_self]
  show p.v317 x * (p.v316 x) + p.v318 x = _
  simp only [v316_at ok, v317_at, v318_at]
  rfl
/-- The down sweep's store of row 1 of each tile, level 1. -/
theorem d1_1 (ok : p.OkA) (x : S32x128.Idx) : (k0_pay52 p.v316 p.v317 p.v318 p.v324 p.v325) x = p.run1 (x 1).val (8 * (x 0).val + 2) := by
  simp only [r_15, kernelRun0_A.sl.r_15, k0_pay49, k0_pay50, k0_pay51, k0_pay52, k0_pay53, k0_pay54, k0_pay55, k0_pay56, k0_pay57, k0_pay58, k0_pay59, k0_pay60, k0_pay61, k0_pay62, k0_pay63, shapeCast_self]
  show p.v324 x * (p.v317 x * (p.v316 x) + p.v318 x) + p.v325 x = _
  simp only [v316_at ok, v317_at, v318_at, v324_at, v325_at]
  rfl
/-- The down sweep's store of row 2 of each tile, level 1. -/
theorem d1_2 (ok : p.OkA) (x : S32x128.Idx) : (k0_pay54 p.v316 p.v317 p.v318 p.v324 p.v325 p.v331 p.v332) x = p.run1 (x 1).val (8 * (x 0).val + 3) := by
  simp only [r_15, kernelRun0_A.sl.r_15, k0_pay49, k0_pay50, k0_pay51, k0_pay52, k0_pay53, k0_pay54, k0_pay55, k0_pay56, k0_pay57, k0_pay58, k0_pay59, k0_pay60, k0_pay61, k0_pay62, k0_pay63, shapeCast_self]
  show p.v331 x * (p.v324 x * (p.v317 x * (p.v316 x) + p.v318 x) + p.v325 x) + p.v332 x = _
  simp only [v316_at ok, v317_at, v318_at, v324_at, v325_at, v331_at, v332_at]
  rfl
/-- The down sweep's store of row 3 of each tile, level 1. -/
theorem d1_3 (ok : p.OkA) (x : S32x128.Idx) : (k0_pay56 p.v316 p.v317 p.v318 p.v324 p.v325 p.v331 p.v332 p.v338 p.v339) x = p.run1 (x 1).val (8 * (x 0).val + 4) := by
  simp only [r_15, kernelRun0_A.sl.r_15, k0_pay49, k0_pay50, k0_pay51, k0_pay52, k0_pay53, k0_pay54, k0_pay55, k0_pay56, k0_pay57, k0_pay58, k0_pay59, k0_pay60, k0_pay61, k0_pay62, k0_pay63, shapeCast_self]
  show p.v338 x * (p.v331 x * (p.v324 x * (p.v317 x * (p.v316 x) + p.v318 x) + p.v325 x) + p.v332 x) + p.v339 x = _
  simp only [v316_at ok, v317_at, v318_at, v324_at, v325_at, v331_at, v332_at, v338_at, v339_at]
  rfl
/-- The down sweep's store of row 4 of each tile, level 1. -/
theorem d1_4 (ok : p.OkA) (x : S32x128.Idx) : (k0_pay58 p.r_15 p.v345 p.v346) x = p.run1 (x 1).val (8 * (x 0).val + 5) := by
  simp only [r_15, kernelRun0_A.sl.r_15, k0_pay49, k0_pay50, k0_pay51, k0_pay52, k0_pay53, k0_pay54, k0_pay55, k0_pay56, k0_pay57, k0_pay58, k0_pay59, k0_pay60, k0_pay61, k0_pay62, k0_pay63, shapeCast_self]
  show p.v345 x * (p.v338 x * (p.v331 x * (p.v324 x * (p.v317 x * (p.v316 x) + p.v318 x) + p.v325 x) + p.v332 x) + p.v339 x) + p.v346 x = _
  simp only [v316_at ok, v317_at, v318_at, v324_at, v325_at, v331_at, v332_at, v338_at, v339_at, v345_at, v346_at]
  rfl
/-- The down sweep's store of row 5 of each tile, level 1. -/
theorem d1_5 (ok : p.OkA) (x : S32x128.Idx) : (k0_pay60 p.r_15 p.v345 p.v346 p.v352 p.v353) x = p.run1 (x 1).val (8 * (x 0).val + 6) := by
  simp only [r_15, kernelRun0_A.sl.r_15, k0_pay49, k0_pay50, k0_pay51, k0_pay52, k0_pay53, k0_pay54, k0_pay55, k0_pay56, k0_pay57, k0_pay58, k0_pay59, k0_pay60, k0_pay61, k0_pay62, k0_pay63, shapeCast_self]
  show p.v352 x * (p.v345 x * (p.v338 x * (p.v331 x * (p.v324 x * (p.v317 x * (p.v316 x) + p.v318 x) + p.v325 x) + p.v332 x) + p.v339 x) + p.v346 x) + p.v353 x = _
  simp only [v316_at ok, v317_at, v318_at, v324_at, v325_at, v331_at, v332_at, v338_at, v339_at, v345_at, v346_at, v352_at, v353_at]
  rfl
/-- The down sweep's store of row 6 of each tile, level 1. -/
theorem d1_6 (ok : p.OkA) (x : S32x128.Idx) : (k0_pay62 p.r_15 p.v345 p.v346 p.v352 p.v353 p.v359 p.v360) x = p.run1 (x 1).val (8 * (x 0).val + 7) := by
  simp only [r_15, kernelRun0_A.sl.r_15, k0_pay49, k0_pay50, k0_pay51, k0_pay52, k0_pay53, k0_pay54, k0_pay55, k0_pay56, k0_pay57, k0_pay58, k0_pay59, k0_pay60, k0_pay61, k0_pay62, k0_pay63, shapeCast_self]
  show p.v359 x * (p.v352 x * (p.v345 x * (p.v338 x * (p.v331 x * (p.v324 x * (p.v317 x * (p.v316 x) + p.v318 x) + p.v325 x) + p.v332 x) + p.v339 x) + p.v346 x) + p.v353 x) + p.v360 x = _
  simp only [v316_at ok, v317_at, v318_at, v324_at, v325_at, v331_at, v332_at, v338_at, v339_at, v345_at, v346_at, v352_at, v353_at, v359_at, v360_at]
  rfl
/-- The down sweep's store of row 7 of each tile, level 1. -/
theorem d1_7 (ok : p.OkA) (x : S32x128.Idx) : (k0_pay63 p.r_15 p.v345 p.v346 p.v352 p.v353 p.v359 p.v360 p.v366 p.v367) x = p.run1 (x 1).val (8 * (x 0).val + 8) := by
  simp only [r_15, kernelRun0_A.sl.r_15, k0_pay49, k0_pay50, k0_pay51, k0_pay52, k0_pay53, k0_pay54, k0_pay55, k0_pay56, k0_pay57, k0_pay58, k0_pay59, k0_pay60, k0_pay61, k0_pay62, k0_pay63, shapeCast_self]
  show p.v366 x * (p.v359 x * (p.v352 x * (p.v345 x * (p.v338 x * (p.v331 x * (p.v324 x * (p.v317 x * (p.v316 x) + p.v318 x) + p.v325 x) + p.v332 x) + p.v339 x) + p.v346 x) + p.v353 x) + p.v360 x) + p.v367 x = _
  simp only [v316_at ok, v317_at, v318_at, v324_at, v325_at, v331_at, v332_at, v338_at, v339_at, v345_at, v346_at, v352_at, v353_at, v359_at, v360_at, v366_at, v367_at]
  rfl
/-- The states of level 1. -/
theorem s23 (ok : p.OkA) : Holds p.HS3_23 2055 2312 (fun d r => p.run1 d (r - 2055)) := by
  have hz : ∀ x : S1x128.Idx, (x 0).val = 0 := fun x => by have h1 : (x 0).val < 1 := (x 0).isLt; omega
  unfold HS3_23 kernelRun0_A.sl.HS3_23
  refine Holds.below (Holds.new (off := 2055) (n := 1) ⟨rfl, rfl, rfl, rfl, rfl, rfl⟩ fun x => (h0_at x).trans (by rw [hz x]; rfl))
    (Holds.old (off := 2055) (s := 1) (n := 1) ⟨rfl, rfl, rfl, rfl, rfl, rfl⟩ ?_ (by omega))
  exact Holds.eight (off := 2056) (n := 32) ⟨rfl, rfl, rfl, rfl, rfl, rfl⟩ ⟨rfl, rfl, rfl, rfl, rfl, rfl⟩ ⟨rfl, rfl, rfl, rfl, rfl, rfl⟩ ⟨rfl, rfl, rfl, rfl, rfl, rfl⟩ ⟨rfl, rfl, rfl, rfl, rfl, rfl⟩ ⟨rfl, rfl, rfl, rfl, rfl, rfl⟩ ⟨rfl, rfl, rfl, rfl, rfl, rfl⟩ ⟨rfl, rfl, rfl, rfl, rfl, rfl⟩
    (fun x => (d1_0 ok x).trans (congrArg (p.run1 _) (by omega)))
    (fun x => (d1_1 ok x).trans (congrArg (p.run1 _) (by omega)))
    (fun x => (d1_2 ok x).trans (congrArg (p.run1 _) (by omega)))
    (fun x => (d1_3 ok x).trans (congrArg (p.run1 _) (by omega)))
    (fun x => (d1_4 ok x).trans (congrArg (p.run1 _) (by omega)))
    (fun x => (d1_5 ok x).trans (congrArg (p.run1 _) (by omega)))
    (fun x => (d1_6 ok x).trans (congrArg (p.run1 _) (by omega)))
    (fun x => (d1_7 ok x).trans (congrArg (p.run1 _) (by omega)))
/-- The states the down sweep starts the tiles of level 0 from. -/
theorem v378_at (ok : p.OkA) (x : S256x128.Idx) : p.v378 x = p.run0 (x 1).val (8 * (x 0).val) := by
  have e : p.v378 x = p.run1 (x 1).val (x 0).val := by
    unfold v378 kernelRun0_A.sl.v378
    exact load_eq 2055 1 256 (s23 ok) ⟨rfl, rfl, rfl, rfl, rfl, rfl⟩ (by omega) (by omega) (congrArg (p.run1 _) (by omega))
  rw [e]
  exact run_up _ _ ((ok _)) _
/-- The down sweep's store of row 0 of each tile, level 0. -/
theorem d0_0 (ok : p.OkA) (x : S256x128.Idx) : (k0_pay66 p.v378 p.v379 p.v380) x = p.run0 (x 1).val (8 * (x 0).val + 1) := by
  simp only [r_17, kernelRun0_A.sl.r_17, r_18, kernelRun0_A.sl.r_18, k0_pay65, k0_pay66, k0_pay67, k0_pay68, k0_pay69, k0_pay70, k0_pay71, k0_pay72, k0_pay73, k0_pay74, k0_pay75, k0_pay76, k0_pay77, k0_pay78, k0_pay79, k0_pay80, shapeCast_self]
  show p.v379 x * (p.v378 x) + p.v380 x = _
  simp only [v378_at ok, v379_at, v380_at]
  rfl
/-- The down sweep's store of row 1 of each tile, level 0. -/
theorem d0_1 (ok : p.OkA) (x : S256x128.Idx) : (k0_pay68 p.v378 p.v379 p.v380 p.v386 p.v387) x = p.run0 (x 1).val (8 * (x 0).val + 2) := by
  simp only [r_17, kernelRun0_A.sl.r_17, r_18, kernelRun0_A.sl.r_18, k0_pay65, k0_pay66, k0_pay67, k0_pay68, k0_pay69, k0_pay70, k0_pay71, k0_pay72, k0_pay73, k0_pay74, k0_pay75, k0_pay76, k0_pay77, k0_pay78, k0_pay79, k0_pay80, shapeCast_self]
  show p.v386 x * (p.v379 x * (p.v378 x) + p.v380 x) + p.v387 x = _
  simp only [v378_at ok, v379_at, v380_at, v386_at, v387_at]
  rfl
/-- The down sweep's store of row 2 of each tile, level 0. -/
theorem d0_2 (ok : p.OkA) (x : S256x128.Idx) : (k0_pay70 p.v378 p.v379 p.v380 p.v386 p.v387 p.v393 p.v394) x = p.run0 (x 1).val (8 * (x 0).val + 3) := by
  simp only [r_17, kernelRun0_A.sl.r_17, r_18, kernelRun0_A.sl.r_18, k0_pay65, k0_pay66, k0_pay67, k0_pay68, k0_pay69, k0_pay70, k0_pay71, k0_pay72, k0_pay73, k0_pay74, k0_pay75, k0_pay76, k0_pay77, k0_pay78, k0_pay79, k0_pay80, shapeCast_self]
  show p.v393 x * (p.v386 x * (p.v379 x * (p.v378 x) + p.v380 x) + p.v387 x) + p.v394 x = _
  simp only [v378_at ok, v379_at, v380_at, v386_at, v387_at, v393_at, v394_at]
  rfl
/-- The down sweep's store of row 3 of each tile, level 0. -/
theorem d0_3 (ok : p.OkA) (x : S256x128.Idx) : (k0_pay72 p.r_17) x = p.run0 (x 1).val (8 * (x 0).val + 4) := by
  simp only [r_17, kernelRun0_A.sl.r_17, r_18, kernelRun0_A.sl.r_18, k0_pay65, k0_pay66, k0_pay67, k0_pay68, k0_pay69, k0_pay70, k0_pay71, k0_pay72, k0_pay73, k0_pay74, k0_pay75, k0_pay76, k0_pay77, k0_pay78, k0_pay79, k0_pay80, shapeCast_self]
  show p.v400 x * (p.v393 x * (p.v386 x * (p.v379 x * (p.v378 x) + p.v380 x) + p.v387 x) + p.v394 x) + p.v401 x = _
  simp only [v378_at ok, v379_at, v380_at, v386_at, v387_at, v393_at, v394_at, v400_at, v401_at]
  rfl
/-- The down sweep's store of row 4 of each tile, level 0. -/
theorem d0_4 (ok : p.OkA) (x : S256x128.Idx) : (k0_pay74 p.r_17 p.v407 p.v408) x = p.run0 (x 1).val (8 * (x 0).val + 5) := by
  simp only [r_17, kernelRun0_A.sl.r_17, r_18, kernelRun0_A.sl.r_18, k0_pay65, k0_pay66, k0_pay67, k0_pay68, k0_pay69, k0_pay70, k0_pay71, k0_pay72, k0_pay73, k0_pay74, k0_pay75, k0_pay76, k0_pay77, k0_pay78, k0_pay79, k0_pay80, shapeCast_self]
  show p.v407 x * (p.v400 x * (p.v393 x * (p.v386 x * (p.v379 x * (p.v378 x) + p.v380 x) + p.v387 x) + p.v394 x) + p.v401 x) + p.v408 x = _
  simp only [v378_at ok, v379_at, v380_at, v386_at, v387_at, v393_at, v394_at, v400_at, v401_at, v407_at, v408_at]
  rfl
/-- The down sweep's store of row 5 of each tile, level 0. -/
theorem d0_5 (ok : p.OkA) (x : S256x128.Idx) : (k0_pay76 p.r_17 p.v407 p.v408 p.v414 p.v415) x = p.run0 (x 1).val (8 * (x 0).val + 6) := by
  simp only [r_17, kernelRun0_A.sl.r_17, r_18, kernelRun0_A.sl.r_18, k0_pay65, k0_pay66, k0_pay67, k0_pay68, k0_pay69, k0_pay70, k0_pay71, k0_pay72, k0_pay73, k0_pay74, k0_pay75, k0_pay76, k0_pay77, k0_pay78, k0_pay79, k0_pay80, shapeCast_self]
  show p.v414 x * (p.v407 x * (p.v400 x * (p.v393 x * (p.v386 x * (p.v379 x * (p.v378 x) + p.v380 x) + p.v387 x) + p.v394 x) + p.v401 x) + p.v408 x) + p.v415 x = _
  simp only [v378_at ok, v379_at, v380_at, v386_at, v387_at, v393_at, v394_at, v400_at, v401_at, v407_at, v408_at, v414_at, v415_at]
  rfl
/-- The down sweep's store of row 6 of each tile, level 0. -/
theorem d0_6 (ok : p.OkA) (x : S256x128.Idx) : (k0_pay78 p.r_17 p.v407 p.v408 p.v414 p.v415 p.v421 p.v422) x = p.run0 (x 1).val (8 * (x 0).val + 7) := by
  simp only [r_17, kernelRun0_A.sl.r_17, r_18, kernelRun0_A.sl.r_18, k0_pay65, k0_pay66, k0_pay67, k0_pay68, k0_pay69, k0_pay70, k0_pay71, k0_pay72, k0_pay73, k0_pay74, k0_pay75, k0_pay76, k0_pay77, k0_pay78, k0_pay79, k0_pay80, shapeCast_self]
  show p.v421 x * (p.v414 x * (p.v407 x * (p.v400 x * (p.v393 x * (p.v386 x * (p.v379 x * (p.v378 x) + p.v380 x) + p.v387 x) + p.v394 x) + p.v401 x) + p.v408 x) + p.v415 x) + p.v422 x = _
  simp only [v378_at ok, v379_at, v380_at, v386_at, v387_at, v393_at, v394_at, v400_at, v401_at, v407_at, v408_at, v414_at, v415_at, v421_at, v422_at]
  rfl
/-- The down sweep's store of row 7 of each tile, level 0. -/
theorem d0_7 (ok : p.OkA) (x : S256x128.Idx) : (k0_pay80 p.r_18) x = p.run0 (x 1).val (8 * (x 0).val + 8) := by
  simp only [r_17, kernelRun0_A.sl.r_17, r_18, kernelRun0_A.sl.r_18, k0_pay65, k0_pay66, k0_pay67, k0_pay68, k0_pay69, k0_pay70, k0_pay71, k0_pay72, k0_pay73, k0_pay74, k0_pay75, k0_pay76, k0_pay77, k0_pay78, k0_pay79, k0_pay80, shapeCast_self]
  show p.v428 x * (p.v421 x * (p.v414 x * (p.v407 x * (p.v400 x * (p.v393 x * (p.v386 x * (p.v379 x * (p.v378 x) + p.v380 x) + p.v387 x) + p.v394 x) + p.v401 x) + p.v408 x) + p.v415 x) + p.v422 x) + p.v429 x = _
  simp only [v378_at ok, v379_at, v380_at, v386_at, v387_at, v393_at, v394_at, v400_at, v401_at, v407_at, v408_at, v414_at, v415_at, v421_at, v422_at, v428_at, v429_at]
  rfl
/-- The states of every step. -/
theorem s31 (ok : p.OkA) : Holds p.HS3_31 8 2056 (fun d r => p.run0 d (r - 7)) := by
  unfold HS3_31 kernelRun0_A.sl.HS3_31
  exact Holds.eight (off := 8) (n := 256) ⟨rfl, rfl, rfl, rfl, rfl, rfl⟩ ⟨rfl, rfl, rfl, rfl, rfl, rfl⟩ ⟨rfl, rfl, rfl, rfl, rfl, rfl⟩ ⟨rfl, rfl, rfl, rfl, rfl, rfl⟩ ⟨rfl, rfl, rfl, rfl, rfl, rfl⟩ ⟨rfl, rfl, rfl, rfl, rfl, rfl⟩ ⟨rfl, rfl, rfl, rfl, rfl, rfl⟩ ⟨rfl, rfl, rfl, rfl, rfl, rfl⟩
    (fun x => (d0_0 ok x).trans (congrArg (p.run0 _) (by omega)))
    (fun x => (d0_1 ok x).trans (congrArg (p.run0 _) (by omega)))
    (fun x => (d0_2 ok x).trans (congrArg (p.run0 _) (by omega)))
    (fun x => (d0_3 ok x).trans (congrArg (p.run0 _) (by omega)))
    (fun x => (d0_4 ok x).trans (congrArg (p.run0 _) (by omega)))
    (fun x => (d0_5 ok x).trans (congrArg (p.run0 _) (by omega)))
    (fun x => (d0_6 ok x).trans (congrArg (p.run0 _) (by omega)))
    (fun x => (d0_7 ok x).trans (congrArg (p.run0 _) (by omega)))
/-- The rows read back are the states after each step. -/
theorem v435_at (ok : p.OkA) (x : S2048x128.Idx) : p.v435 x = p.run0 (x 1).val ((x 0).val + 1) := by
  unfold v435 kernelRun0_A.sl.v435
  exact load_eq 8 1 2048 (s31 ok) ⟨rfl, rfl, rfl, rfl, rfl, rfl⟩ (by omega) (by omega) (congrArg (p.run0 _) (by omega))
/-- The last row read back is the final state. -/
theorem v456_at (ok : p.OkA) (x : S1x128.Idx) : p.v456 x = p.run0 (x 1).val 2048 := by
  have hz : (x 0).val = 0 := by have h1 : (x 0).val < 1 := (x 0).isLt; omega
  unfold v456 kernelRun0_A.sl.v456
  exact load_eq 2055 1 1 (s31 ok) ⟨rfl, rfl, rfl, rfl, rfl, rfl⟩ (by omega) (by omega) (congrArg (p.run0 _) (by rw [hz]))

end Pt

end Cert.KernelScan
-- ==== Proof.GateSpec.lean ====
/- The gated recurrence of one block of 128 lanes, as mathematics: the causal convolution of four taps, the two block
   gates, the decay and the input of every step, and the states. Both programs are shown to compute these. -/
module

public import Idealize.ShloMosaic.PureOps.Ideal
public import Idealize.ShloMosaic.PureOps.Ideal.Laws
public import Idealize.ShloMosaic.Lib.IdealHost
public import Idealize.ShloMosaic.Lib.ValueLayout
public import proofs.«01_k».proof.Proof.ScanMath

@[expose] public section

noncomputable section

namespace Cert.GateSpec

open Idealize.ShloMosaic Idealize.ShloMosaic.ValueIdx Cert.ScanMath

/-- What the recurrence of one block reads: the rows of the branch under three rows of history, the taps and their
    bias, the two gates' weights and biases, the decay parameter and the state before the first step. -/
@[ext] structure Coef where
  X : ℕ → Fin 128 → EReal
  cw : Fin 4 → Fin 128 → EReal
  cb : Fin 128 → EReal
  wg : Fin 2 → Fin 128 → Fin 128 → EReal
  bg : Fin 2 → Fin 128 → EReal
  lam : Fin 128 → EReal
  h0 : Fin 128 → EReal

namespace Coef

variable (q : Coef)

/-- The convolution. -/
def conv (t : ℕ) (d : Fin 128) : EReal :=
  (((q.cb d + q.X t d * q.cw 0 d) + q.X (t + 1) d * q.cw 1 d) + q.X (t + 2) d * q.cw 2 d) + q.X (t + 3) d * q.cw 3 d

/-- Gate `g`: 0 is the recurrence gate, 1 the input gate. -/
def gate (g : Fin 2) (t : ℕ) (d : Fin 128) : EReal :=
  Ideal.logistic ((∑ k : Fin 128, q.conv t k * q.wg g k d) + q.bg g d)

/-- The softplus of the negated decay parameter. -/
def sp (d : Fin 128) : EReal :=
  max (-q.lam d) 0 + Ideal.log1p (Ideal.exp (-max (-q.lam d) (-(-q.lam d))))

/-- The decay's logarithm. -/
def logA (t : ℕ) (d : Fin 128) : EReal := ((-8 : ℝ) : EReal) * q.gate 0 t d * q.sp d

/-- The decay. -/
def a (t : ℕ) (d : Fin 128) : EReal := Ideal.exp (q.logA t d)

/-- The input of the step. -/
def b (t : ℕ) (d : Fin 128) : EReal :=
  Ideal.sqrt (-Ideal.expm1 (((2 : ℝ) : EReal) * q.logA t d)) * q.gate 1 t d * q.conv t d

/-- The state after `t` steps. -/
def state (d : Fin 128) : ℕ → EReal := run (fun t => q.a t d) (fun t => q.b t d) (q.h0 d)

/-- The decay's logarithm is nonpositive. -/
theorem logA_le (t : ℕ) (d : Fin 128) : q.logA t d ≤ 0 :=
  logA_nonpos (logistic_nonneg _) (softplus_nonneg _ _)

end Coef

/-- The f32 word of −8. -/
theorem ofBits_m8 : Ideal.ofBits .f32 0xC1000000#32 = ((-8 : ℝ) : EReal) := by
  simp [Ideal.ofBits, Ideal.ieee, -EReal.coe_mul]; norm_num
/-- The f32 word of −2. -/
theorem ofBits_m2 : Ideal.ofBits .f32 0xC0000000#32 = ((-2 : ℝ) : EReal) := by
  simp [Ideal.ofBits, Ideal.ieee, -EReal.coe_mul]; norm_num
/-- The f32 word of 2. -/
theorem ofBits_2 : Ideal.ofBits .f32 0x40000000#32 = ((2 : ℝ) : EReal) := by
  simp [Ideal.ofBits, Ideal.ieee, -EReal.coe_mul]; norm_num

/-- The tanh form of the gelu. -/
def gelu (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * (z * (z * z))))))

/-- Column `d` of block `n`. -/
def col (n : Fin 16) (d : Fin 128) : Fin 2048 := ⟨128 * n.val + d.val, by omega⟩
/-- The block of a column. -/
def blk (D : Fin 2048) : Fin 16 := ⟨D.val / 128, by omega⟩
/-- The lane of a column. -/
def lane (D : Fin 2048) : Fin 128 := ⟨D.val % 128, by omega⟩

/-- A column is the lane of its block. -/
theorem col_blk_lane (D : Fin 2048) : col (blk D) (lane D) = D :=
  Fin.ext (by show 128 * (D.val / 128) + D.val % 128 = D.val; omega)

/-- The block of a block's column. -/
theorem blk_col (n : Fin 16) (d : Fin 128) : blk (col n d) = n :=
  Fin.ext (by show (128 * n.val + d.val) / 128 = n.val; omega)

/-- The lane of a block's column. -/
theorem lane_col (n : Fin 16) (d : Fin 128) : lane (col n d) = d :=
  Fin.ext (by show (128 * n.val + d.val) % 128 = d.val; omega)

/-- The layer's arguments: both branches, the history, the state, the taps and bias, the gates and the decay. -/
structure Args where
  z : (⟨3, ![4, 2048, 4096]⟩ : Shape).Idx → EReal
  cv : (⟨3, ![4, 3, 2048]⟩ : Shape).Idx → EReal
  h0 : (⟨3, ![4, 1, 2048]⟩ : Shape).Idx → EReal
  cw : (⟨2, ![4, 2048]⟩ : Shape).Idx → EReal
  cb : (⟨1, ![2048]⟩ : Shape).Idx → EReal
  wg : (⟨4, ![2, 16, 128, 128]⟩ : Shape).Idx → EReal
  bg : (⟨2, ![2, 2048]⟩ : Shape).Idx → EReal
  lam : (⟨1, ![2048]⟩ : Shape).Idx → EReal

namespace Args

variable (A : Args)

/-- The recurrence of batch `c` and block `n`. -/
def coef (c : Fin 4) (n : Fin 16) : Coef where
  X r d := if h : r < 3 then A.cv (ix3 c ⟨r, h⟩ (col n d))
    else if h' : r - 3 < 2048 then A.z (ix3 c ⟨r - 3, h'⟩ ⟨128 * n.val + d.val, by omega⟩) else 0
  cw k d := A.cw (ix2 k (col n d))
  cb d := A.cb (ix1 (col n d))
  wg g k d := A.wg (ix4 g n k d)
  bg g d := A.bg (ix2 g (col n d))
  lam d := A.lam (ix1 (col n d))
  h0 d := A.h0 (ix3 c (0 : Fin 1) (col n d))

/-- The first result: the gated states. -/
def y (i : (⟨3, ![4, 2048, 2048]⟩ : Shape).Idx) : EReal :=
  gelu (A.z (ix3 (i 0) (i 1) ⟨2048 + (i 2).val, by have : (i 2).val < 2048 := (i 2).isLt; omega⟩))
    * (A.coef (i 0) (blk (i 2))).state (lane (i 2)) ((i 1).val + 1)

/-- The second result: the final state. -/
def hLast (i : (⟨3, ![4, 1, 2048]⟩ : Shape).Idx) : EReal := (A.coef (i 0) (blk (i 2))).state (lane (i 2)) 2048

/-- The third result: the last three rows of the padded branch. -/
def cvLast (i : (⟨3, ![4, 3, 2048]⟩ : Shape).Idx) : EReal := (A.coef (i 0) (blk (i 2))).X (2048 + (i 1).val) (lane (i 2))

end Args

end Cert.GateSpec
-- ==== Proof.KernelGates.lean ====
/- The coefficients the recurrence kernel puts into its row buffers are the gated recurrence's, so the rows it reads
   back are that recurrence's states. -/
module

public import proofs.«01_k».proof.Proof.KernelScan
public import proofs.«01_k».proof.Proof.GateSpec
public import Idealize.ShloMosaic.Lib.MatmulPlain

@[expose] public section

noncomputable section

namespace Cert.KernelScan

open Cert.KernelIdeal Cert.KernelIdeal.Gen Cert.RowCanon Cert.ScanMath Cert.GateSpec
open Idealize.ShloMosaic Idealize.ShloMosaic.TcCoe Idealize.ShloMosaic.ValueIdx

/-- A load from a whole memref reads its contents at the box's indices. -/
theorem read_whole {S : Shape} {m : Memref sig .tc .vmem S .f32} (hm : m.IsWhole) (x : Vec Ideal S .f32)
    (r : Rect S) (j : r.shape.Idx) : View.readAt (Elt Ideal) m.view r.toLoadRect (hm.unread x) j = x (r.idx j) := by
  rw [View.readAt_eq_ld, hm.read_unread]

namespace Pt

variable (p : Pt)

/-- The block's inputs as the recurrence reads them. -/
def coef : Coef where
  X r d := if h : r < 3 then p.x2 (ix3 (0 : Fin 1) ⟨r, h⟩ d)
    else if h' : r - 3 < 2048 then p.x0 (ix3 (0 : Fin 1) ⟨r - 3, h'⟩ d) else 0
  cw k d := p.x4 (ix2 k d)
  cb d := p.x5 (ix2 (0 : Fin 1) d)
  wg g k d := p.x6 (ix4 g (0 : Fin 1) k d)
  bg g d := p.x7 (ix2 g d)
  lam d := p.x8 (ix2 (0 : Fin 1) d)
  h0 d := p.x3 (ix3 (0 : Fin 1) (0 : Fin 1) d)

variable {p}

/-- The branch's rows by lane number. -/
def XN (p : Pt) (d r : ℕ) : EReal := if h : d < 128 then p.coef.X r ⟨d, h⟩ else 0

/-- The padded rows as stored are the carried rows followed by the block's rows. -/
theorem XN_eq (d : Fin 128) (r : ℕ) : XN p d.val r = p.coef.X r d := by
  rw [XN, dif_pos d.isLt]

/-- The padded branch: three rows of history at row 5, then the branch. -/
theorem x3_rows : Holds p.HS0_3 5 2056 (fun d r => XN p d (r - 5)) := by
  unfold HS0_3 kernelRun0_A.sl.HS0_3
  have hnew : ∀ x : S2048x128.Idx, k0_pay3 (View.readAt (Elt Ideal) p.arg2.view
      (Rect.unit ![0, 0, 0] S1x2048x128.size inb_S1x2048x128_S1x2048x128_0_0_0).toLoadRect (p.harg2.unread p.x0)) x
      = XN p (x 1).val (8 + (x 0).val - 5) := by
    intro x
    obtain ⟨t, d, rfl⟩ : ∃ t d, x = ix2 t d := ⟨_, _, eq_ix2 x⟩
    simp only [k0_pay3, shapeCast_self]
    refine (shapeCast_1ab_ab_apply _ _ t d).trans ((read_whole p.harg2 p.x0 _ _).trans ?_)
    refine Eq.trans ?_ (XN_eq d _).symm
    show _ = dite _ _ _
    have ht := t.isLt
    rw [dif_neg (show ¬ (8 + t.val - 5 < 3) by omega), dif_pos (show 8 + t.val - 5 - 3 < 2048 by omega)]
    congr 1
    funext a
    apply Fin.ext
    match a with
    | 0 => rfl
    | 1 => show 0 + 1 * t.val = 8 + t.val - 5 - 3; omega
    | 2 => show 0 + 1 * d.val = d.val; omega
  have hhist : ∀ x : S3x128.Idx, k0_pay2 (View.readAt (Elt Ideal) p.arg4.view
      (Rect.unit ![0, 0, 0] S1x3x128.size inb_S1x3x128_S1x3x128_0_0_0).toLoadRect (p.harg4.unread p.x2)) x
      = XN p (x 1).val (5 + (x 0).val - 5) := by
    intro x
    obtain ⟨t, d, rfl⟩ : ∃ t d, x = ix2 t d := ⟨_, _, eq_ix2 x⟩
    simp only [k0_pay2, shapeCast_self]
    refine (shapeCast_1ab_ab_apply _ _ t d).trans ((read_whole p.harg4 p.x2 _ _).trans ?_)
    refine Eq.trans ?_ (XN_eq d _).symm
    show _ = dite _ _ _
    have ht := t.isLt
    rw [dif_pos (show 5 + t.val - 5 < 3 by omega)]
    congr 1
    funext a
    apply Fin.ext
    match a with
    | 0 => rfl
    | 1 => show 0 + 1 * t.val = 5 + t.val - 5; omega
    | 2 => show 0 + 1 * d.val = d.val; omega
  have h8 := Holds.new (Val := Elt Ideal) (e := .f32) (R := 2056) (C := 128)
    (r := Rect.unit ![8, 0] S2048x128.size inb_S2056x128_S2048x128_8_0) (off := 8) (n := 2048)
    (G := fun d r => XN p d (r - 5)) (L := [⟨Rect.unit ![5, 0] S3x128.size inb_S2056x128_S3x128_5_0, k0_pay2
      (View.readAt (Elt Ideal) p.arg4.view (Rect.unit ![0, 0, 0] S1x3x128.size inb_S1x3x128_S1x3x128_0_0_0).toLoadRect
        (p.harg4.unread p.x2))⟩, ⟨Rect.unit ![0, 0] S8x128.size inb_S2056x128_S8x128_0_0, k0_pay1 (F := Ideal)⟩])
    ⟨rfl, rfl, rfl, rfl, rfl, rfl⟩ hnew
  intro y h1 h2
  by_cases hy : 8 ≤ (y 0).val
  · exact h8 y hy h2
  · exact Holds.old (off := 8) (s := 1) (n := 2048) (lo := 5) (hi := 8) ⟨rfl, rfl, rfl, rfl, rfl, rfl⟩
      (Holds.new (Val := Elt Ideal) (e := .f32) (R := 2056) (C := 128)
        (r := Rect.unit ![5, 0] S3x128.size inb_S2056x128_S3x128_5_0) (off := 5) (n := 3) (G := fun d r => XN p d (r - 5)) ⟨rfl, rfl, rfl, rfl, rfl, rfl⟩ hhist) (by omega) y h1 (by omega)

/-- A load of the padded branch. -/
theorem v16_at (t : Fin 2048) (d : Fin 128) : p.v16 (ix2 t d) = p.coef.X (t.val + 3) d := by
  unfold v16 kernelRun0_A.sl.v16
  exact load_eq 8 1 2048 x3_rows ⟨rfl, rfl, rfl, rfl, rfl, rfl⟩ (by omega) (by omega)
    ((congrArg (XN p d.val) (show 8 + 1 * t.val - 5 = t.val + 3 by omega)).trans (XN_eq d _))
/-- The first shifted read of the rows: row `t`. -/
theorem v22_at (t : Fin 2048) (d : Fin 128) : p.v22 (ix2 t d) = p.coef.X t.val d := by
  unfold v22 kernelRun0_A.sl.v22
  exact load_eq 5 1 2048 x3_rows ⟨rfl, rfl, rfl, rfl, rfl, rfl⟩ (by omega) (by omega)
    ((congrArg (XN p d.val) (show 5 + 1 * t.val - 5 = t.val by omega)).trans (XN_eq d _))
/-- The second shifted read of the rows: row `t + 1`. -/
theorem v27_at (t : Fin 2048) (d : Fin 128) : p.v27 (ix2 t d) = p.coef.X (t.val + 1) d := by
  unfold v27 kernelRun0_A.sl.v27
  exact load_eq 6 1 2048 x3_rows ⟨rfl, rfl, rfl, rfl, rfl, rfl⟩ (by omega) (by omega)
    ((congrArg (XN p d.val) (show 6 + 1 * t.val - 5 = t.val + 1 by omega)).trans (XN_eq d _))
/-- The third shifted read of the rows: row `t + 2`. -/
theorem v32_at (t : Fin 2048) (d : Fin 128) : p.v32 (ix2 t d) = p.coef.X (t.val + 2) d := by
  unfold v32 kernelRun0_A.sl.v32
  exact load_eq 7 1 2048 x3_rows ⟨rfl, rfl, rfl, rfl, rfl, rfl⟩ (by omega) (by omega)
    ((congrArg (XN p d.val) (show 7 + 1 * t.val - 5 = t.val + 2 by omega)).trans (XN_eq d _))
/-- The three rows handed on to the next chunk. -/
theorem v37_at (i : Fin 3) (d : Fin 128) : p.v37 (ix2 i d) = p.coef.X (2048 + i.val) d := by
  unfold v37 kernelRun0_A.sl.v37
  exact load_eq 2053 1 3 x3_rows ⟨rfl, rfl, rfl, rfl, rfl, rfl⟩ (by omega) (by omega)
    ((congrArg (XN p d.val) (show 2053 + 1 * i.val - 5 = 2048 + i.val by omega)).trans (XN_eq d _))

/-- A row of a rank-2 input, loaded and read at a lane. -/
theorem row_at {R : ℕ} {m : Memref sig .tc .vmem ⟨2, ![R, 128]⟩ .f32} (hm : m.IsWhole) (x : Vec Ideal ⟨2, ![R, 128]⟩ .f32)
    (k : Fin R) (off : Fin 2 → ℕ) (inb) (h0 : off 0 = k.val) (h1 : off 1 = 0) (d : Fin 128) :
    View.readAt (Elt Ideal) m.view (Rect.unit (s := ⟨2, ![R, 128]⟩) off S1x128.size inb).toLoadRect (hm.unread x) (ix2 (0 : Fin 1) d) = x (ix2 k d) := by
  refine (read_whole hm x _ _).trans (congrArg x (funext fun a => Fin.ext ?_))
  match a with
  | 0 => show off 0 + 1 * 0 = k.val; omega
  | 1 => show off 1 + 1 * d.val = d.val; omega

/-- What the kernel convolves is the convolution. -/
theorem r_1_at (t : Fin 2048) (d : Fin 128) : p.r_1 (ix2 t d) = p.coef.conv t.val d := by
  simp only [r_1, kernelRun0_A.sl.r_1, kernelRun0_A.sl.r, k0_pay4, k0_pay5, shapeCast_self]
  show (((broadcastTo S2048x128 _ _ (ix2 t d) + p.v16 (ix2 t d) * broadcastTo S2048x128 _ _ (ix2 t d))
    + p.v22 (ix2 t d) * broadcastTo S2048x128 _ _ (ix2 t d)) + p.v27 (ix2 t d) * broadcastTo S2048x128 _ _ (ix2 t d))
    + p.v32 (ix2 t d) * broadcastTo S2048x128 _ _ (ix2 t d) = _
  rw [broadcastTo_1b_ab_apply, broadcastTo_1b_ab_apply, broadcastTo_1b_ab_apply, broadcastTo_1b_ab_apply,
    broadcastTo_1b_ab_apply, v16_at, v22_at, v27_at, v32_at,
    row_at p.harg7 p.x5 0 ![0, 0] _ rfl rfl, row_at p.harg6 p.x4 3 ![3, 0] _ rfl rfl, row_at p.harg6 p.x4 0 ![0, 0] _ rfl rfl,
    row_at p.harg6 p.x4 1 ![1, 0] _ rfl rfl, row_at p.harg6 p.x4 2 ![2, 0] _ rfl rfl]
  show (((p.coef.cb d + _ * p.coef.cw 3 d) + _ * p.coef.cw 0 d) + _ * p.coef.cw 1 d) + _ * p.coef.cw 2 d = _
  unfold Coef.conv
  ac_rfl

/-- A gate's weights, loaded and read. -/
theorem wg_at (g : Fin 2) (off : Fin 4 → ℕ) (inb) (h0 : off 0 = g.val) (h1 : off 1 = 0) (h2 : off 2 = 0) (h3 : off 3 = 0)
    (h : S1x1x128x128.ShapeCasts S128x128) (k d : Fin 128) :
    shapeCast S128x128 (View.readAt (Elt Ideal) p.arg8.view (Rect.unit (s := S2x1x128x128) off S1x1x128x128.size inb).toLoadRect
      (p.harg8.unread p.x6)) h (ix2 k d) = p.coef.wg g k d := by
  refine (shapeCast_apply _ h (ix2 k d) (ix4 (0 : Fin 1) (0 : Fin 1) k d) ?_).trans ?_
  · rw [Shape.rowMajor_val_four, Shape.rowMajor_val_two]
    show ((0 * 1 + 0) * 128 + k.val) * 128 + d.val = k.val * 128 + d.val
    omega
  · refine (read_whole p.harg8 p.x6 _ _).trans (congrArg p.x6 (funext fun a => Fin.ext ?_))
    match a with
    | 0 => show off 0 + 1 * 0 = g.val; omega
    | 1 => show off 1 + 1 * 0 = 0; omega
    | 2 => show off 2 + 1 * k.val = k.val; omega
    | 3 => show off 3 + 1 * d.val = d.val; omega

/-- The product under a gate. -/
theorem gate_dot (w : FVec Ideal S128x128 .bf16) (t : Fin 2048) (d : Fin 128) :
    matmul dot_S2048x128_S128x128_S2048x128_1_0_0_1_n_n none (truncf .bf16 p.r_1 bitsLt_bf16_f32) w
      (constant S2048x128 .f32 0x00000000#32) (ix2 t d) = ∑ k : Fin 128, p.coef.conv t.val k * w (ix2 k d) := by
  refine (Ideal.matmul_plain_apply (M := 2048) (K := 128) (N := 128) none _ _ _ t d).trans ?_
  have hz : (constant S2048x128 .f32 0x00000000#32 : FVec Ideal S2048x128 .f32) (ix2 t d) = 0 := Ideal.ofBits_zero_f32
  rw [hz, zero_add]
  exact Finset.sum_congr rfl fun k _ => congrArg (· * w (ix2 k d)) (r_1_at t k)

/-- The input gate. -/
theorem r_2_at (t : Fin 2048) (d : Fin 128) : p.r_2 (ix2 t d) = p.coef.gate 1 t.val d := by
  unfold r_2 kernelRun0_A.sl.r_2 k0_pay8
  show Ideal.logistic (matmul dot_S2048x128_S128x128_S2048x128_1_0_0_1_n_n none (truncf .bf16 p.r_1 bitsLt_bf16_f32) _
      (constant S2048x128 .f32 0x00000000#32) (ix2 t d) + broadcastTo S2048x128 _ _ (ix2 t d)) = _
  rw [gate_dot, broadcastTo_1b_ab_apply, row_at p.harg9 p.x7 1 ![1, 0] _ rfl rfl]
  unfold Coef.gate
  congr 2
  exact Finset.sum_congr rfl fun k _ => congrArg (p.coef.conv t.val k * ·) (wg_at 1 ![1, 0, 0, 0] _ rfl rfl rfl rfl _ k d)

/-- The recurrence gate, times −8. -/
theorem r_3_at (t : Fin 2048) (d : Fin 128) : p.r_3 (ix2 t d) = ((-8 : ℝ) : EReal) * p.coef.gate 0 t.val d := by
  unfold r_3 kernelRun0_A.sl.r_3 k0_pay9
  show Ideal.ofBits .f32 0xC1000000#32 * Ideal.logistic (matmul dot_S2048x128_S128x128_S2048x128_1_0_0_1_n_n none
      (truncf .bf16 p.r_1 bitsLt_bf16_f32) _
      (constant S2048x128 .f32 0x00000000#32) (ix2 t d) + broadcastTo S2048x128 _ _ (ix2 t d)) = _
  rw [gate_dot, broadcastTo_1b_ab_apply, row_at p.harg9 p.x7 0 ![0, 0] _ rfl rfl, ofBits_m8]
  unfold Coef.gate
  congr 3
  exact Finset.sum_congr rfl fun k _ => congrArg (p.coef.conv t.val k * ·) (wg_at 0 ![0, 0, 0, 0] _ rfl rfl rfl rfl _ k d)

/-- The decay's logarithm. -/
theorem pay10_at (t : Fin 2048) (d : Fin 128) : k0_pay10 p.r_3 p.r_4 (ix2 t d) = p.coef.logA t.val d := by
  simp only [k0_pay10, shapeCast_self]
  show p.r_3 (ix2 t d) * broadcastTo S2048x128 _ _ (ix2 t d) = _
  rw [broadcastTo_1b_ab_apply, r_3_at]
  unfold Coef.logA
  congr 1
  have h4 : p.r_4 (ix2 (0 : Fin 1) d) = p.coef.lam d := row_at p.harg10 p.x8 0 ![0, 0] _ rfl rfl d
  show max (Ideal.ofBits .f32 0x00000000#32 - p.r_4 (ix2 (0 : Fin 1) d)) (Ideal.ofBits .f32 0x00000000#32)
    + Ideal.log1p (Ideal.exp (Ideal.ofBits .f32 0x00000000#32
      - max (Ideal.ofBits .f32 0x00000000#32 - p.r_4 (ix2 (0 : Fin 1) d))
        (-(Ideal.ofBits .f32 0x00000000#32 - p.r_4 (ix2 (0 : Fin 1) d))))) = _
  rw [Ideal.ofBits_zero_f32, h4, zero_sub, zero_sub]
  rfl

/-- The decay. -/
theorem A0_at (t : ℕ) (ht : t < 2048) (d : Fin 128) : p.A0 d.val t = p.coef.a t d := by
  refine (ext2_apply (k0_pay11 p.r_3 p.r_4) (ix2 (⟨t, ht⟩ : Fin 2048) d)).trans ?_
  simp only [k0_pay11, shapeCast_self]
  exact congrArg Ideal.exp (pay10_at ⟨t, ht⟩ d)

/-- The step's input. -/
theorem B0_at (t : ℕ) (ht : t < 2048) (d : Fin 128) : p.B0 d.val t = p.coef.b t d := by
  refine (ext2_apply (k0_pay12 p.r_1 p.r_2 p.r_3 p.r_4) (ix2 (⟨t, ht⟩ : Fin 2048) d)).trans ?_
  simp only [k0_pay12, shapeCast_self]
  show Ideal.sqrt (Ideal.div (Ideal.ofBits .f32 0xC0000000#32 * Ideal.tanh (k0_pay10 p.r_3 p.r_4 (ix2 (⟨t, ht⟩ : Fin 2048) d)))
      (Ideal.ofBits .f32 0x3F800000#32 - Ideal.tanh (k0_pay10 p.r_3 p.r_4 (ix2 (⟨t, ht⟩ : Fin 2048) d))))
    * p.r_2 (ix2 (⟨t, ht⟩ : Fin 2048) d) * p.r_1 (ix2 (⟨t, ht⟩ : Fin 2048) d) = _
  rw [pay10_at, r_1_at, r_2_at, ofBits_m2, Ideal.ofBits_one_f32]
  unfold Coef.b
  rw [← gate_eq (p.coef.logA_le t d)]
  rfl

/-- The decays are nonnegative and finite. -/
theorem okA : p.OkA := by
  intro d t
  by_cases h : t < 2048 ∧ d < 128
  · rw [A0_at t h.1 ⟨d, h.2⟩]
    exact exp_ok (p.coef.logA_le _ _)
  · have : p.A0 d t = 0 := dif_neg h
    rw [this]
    exact ⟨le_refl _, EReal.zero_ne_top⟩

/-- The state before the first step. -/
theorem h0_coef (d : Fin 128) : p.h0 d.val = p.coef.h0 d := by
  refine (ext2_apply (k0_pay32 p.r_16) (ix2 (0 : Fin 1) d)).trans ?_
  simp only [k0_pay32, shapeCast_self]
  refine (shapeCast_1ab_ab_apply _ _ (0 : Fin 1) d).trans ((read_whole p.harg5 p.x3 _ _).trans ?_)
  refine congrArg p.x3 (funext fun a => Fin.ext ?_)
  match a with
  | 0 => rfl
  | 1 => rfl
  | 2 => show 0 + 1 * d.val = d.val; omega

/-- The states the kernel reaches. -/
theorem run0_at (d : Fin 128) (n : ℕ) (hn : n ≤ 2048) : p.run0 d.val n = p.coef.state d n :=
  run_congr n (fun t ht => A0_at t (by omega) d) (fun t ht => B0_at t (by omega) d) (h0_coef d)

/-- The rows the kernel multiplies by the other branch. -/
theorem v435_state (t : Fin 2048) (d : Fin 128) : p.v435 (ix2 t d) = p.coef.state d (t.val + 1) :=
  (v435_at okA (ix2 t d)).trans (run0_at d _ (Nat.succ_le_of_lt t.isLt))

/-- The final state. -/
theorem v456_state (d : Fin 128) : p.v456 (ix2 (0 : Fin 1) d) = p.coef.state d 2048 :=
  (v456_at okA (ix2 (0 : Fin 1) d)).trans (run0_at d _ le_rfl)

end Pt

end Cert.KernelScan
-- ==== Proof.KernelOut.lean ====
/- What the recurrence kernel writes back at one grid point, as the block's gated recurrence. -/
module

public import proofs.«01_k».proof.Proof.KernelGates

@[expose] public section

noncomputable section

namespace Cert.KernelScan

open Cert.KernelIdeal Cert.KernelIdeal.Gen Cert.RowCanon Cert.ScanMath Cert.GateSpec
open Idealize.ShloMosaic Idealize.ShloMosaic.TcCoe Idealize.ShloMosaic.ValueIdx

/-- The zero offset of a whole block. -/
theorem zero3 : (![0, 0, 0] : Fin 3 → ℕ) = fun _ => 0 := by
  funext a; match a with | 0 => rfl | 1 => rfl | 2 => rfl

/-- The first store's value at an entry. -/
theorem pay81_at (h : Vec Ideal S2048x128 .f32) (x : Vec Ideal S1x2048x128 .f32) (t : Fin 2048) (d : Fin 128) :
    k0_pay81 (F := Ideal) h x (ix3 (0 : Fin 1) t d) = gelu (x (ix3 (0 : Fin 1) t d)) * h (ix2 t d) := by
  unfold k0_pay81
  refine (shapeCast_ab_1ab_apply _ _ (0 : Fin 1) t d).trans ?_
  rw [← shapeCast_1ab_ab_apply x shapeCasts_S1x2048x128_S2048x128 t d]
  rfl

/-- The second store's value at an entry. -/
theorem pay82_at (h : Vec Ideal S1x128 .f32) (d : Fin 128) :
    k0_pay82 (F := Ideal) h (ix3 (0 : Fin 1) (0 : Fin 1) d) = h (ix2 (0 : Fin 1) d) := by
  unfold k0_pay82
  exact shapeCast_ab_1ab_apply _ _ (0 : Fin 1) (0 : Fin 1) d

/-- The third store's value at an entry. -/
theorem pay6_at (h : Vec Ideal S3x128 .f32) (k : Fin 3) (d : Fin 128) :
    k0_pay6 (F := Ideal) h (ix3 (0 : Fin 1) k d) = h (ix2 k d) := by
  unfold k0_pay6
  exact shapeCast_ab_1ab_apply _ _ (0 : Fin 1) k d

/-- A list of one whole store reads back as its payload. -/
theorem canon_whole {S : Shape} {e : EltTy} {off : Fin S.rank → ℕ} (h : off = fun _ => 0)
    (inb : ∀ a, off a + S.size a ≤ S.size a) (w : S.Idx → Elt Ideal e) {L : List (View.Piece (Elt Ideal) S e)}
    (hL : L = [⟨Rect.unit off S.size inb, w⟩]) {κ sp} (v : View sig κ sp S e) :
    v.read (Elt Ideal) (v.writes (Elt Ideal) v.junk L) = w := by
  rw [View.read_writes_junk_eq_canon, hL]
  exact View.canon_cons_unit_zero h inb w []

variable (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x3x128 .f32) (harg4 : arg4.IsWhole) (arg5 : Memref sig .tc .vmem S1x1x128 .f32) (harg5 : arg5.IsWhole) (arg6 : Memref sig .tc .vmem S4x128 .f32) (harg6 : arg6.IsWhole) (arg7 : Memref sig .tc .vmem S1x128 .f32) (harg7 : arg7.IsWhole) (arg8 : Memref sig .tc .vmem S2x1x128x128 .f32) (harg8 : arg8.IsWhole) (arg9 : Memref sig .tc .vmem S2x128 .f32) (harg9 : arg9.IsWhole) (arg10 : Memref sig .tc .vmem S1x128 .f32) (harg10 : arg10.IsWhole) (arg11 : Memref sig .tc .vmem S1x2048x128 .bf16) (harg11 : arg11.IsWhole) (arg12 : Memref sig .tc .vmem S1x1x128 .f32) (harg12 : arg12.IsWhole) (arg13 : Memref sig .tc .vmem S1x3x128 .f32) (harg13 : arg13.IsWhole) (arg14 : Memref sig .tc .vmem S2056x128 .f32) (harg14 : arg14.IsWhole) (arg15 : Memref sig .tc .vmem S2624x128 .f32) (harg15 : arg15.IsWhole) (arg16 : Memref sig .tc .vmem S2624x128 .f32) (harg16 : arg16.IsWhole) (arg17 : Memref sig .tc .vmem S2632x128 .f32) (harg17 : arg17.IsWhole)
  (x0 : Vec Ideal S1x2048x128 .f32) (x1 : Vec Ideal S1x2048x128 .f32) (x2 : Vec Ideal S1x3x128 .f32) (x3 : Vec Ideal S1x1x128 .f32) (x4 : Vec Ideal S4x128 .f32) (x5 : Vec Ideal S1x128 .f32) (x6 : Vec Ideal S2x1x128x128 .f32) (x7 : Vec Ideal S2x128 .f32) (x8 : Vec Ideal S1x128 .f32)

/-- The point's memrefs and contents. -/
abbrev pt : Pt := ⟨c, arg2, harg2, arg4, harg4, arg5, harg5, arg6, harg6, arg7, harg7, arg8, harg8, arg9, harg9, arg10, harg10, arg14, arg15, arg16, arg17, x0, x2, x3, x4, x5, x6, x7, x8⟩

/-- The other branch's block, as loaded. -/
def ldZ : Vec Ideal S1x2048x128 .f32 := View.readAt (Elt Ideal) arg3.view
  (Rect.unit ![0, 0, 0] S1x2048x128.size inb_S1x2048x128_S1x2048x128_0_0_0).toLoadRect (harg3.unread x1)

omit c i in
/-- The other branch's block, as loaded, is its window. -/
theorem ldZ_at (t : Fin 2048) (d : Fin 128) : ldZ arg3 harg3 x1 (ix3 (0 : Fin 1) t d) = x1 (ix3 (0 : Fin 1) t d) := by
  refine (read_whole harg3 x1 _ _).trans (congrArg x1 (funext fun a => Fin.ext ?_))
  match a with
  | 0 => rfl
  | 1 => show 0 + 1 * t.val = t.val; omega
  | 2 => show 0 + 1 * d.val = d.val; omega

/-- The first output's block, as its store's value. -/
theorem out9_eq : out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 = k0_pay81 (pt c arg2 harg2 arg4 harg4 arg5 harg5 arg6 harg6 arg7 harg7 arg8 harg8 arg9 harg9 arg10 harg10 arg14 arg15 arg16 arg17 x0 x2 x3 x4 x5 x6 x7 x8).v435 (ldZ arg3 harg3 x1) :=
  canon_whole (S := S1x2048x128) (e := .bf16) zero3 inb_S1x2048x128_S1x2048x128_0_0_0
    (k0_pay81 (pt c arg2 harg2 arg4 harg4 arg5 harg5 arg6 harg6 arg7 harg7 arg8 harg8 arg9 harg9 arg10 harg10 arg14 arg15 arg16 arg17 x0 x2 x3 x4 x5 x6 x7 x8).v435 (ldZ arg3 harg3 x1)) rfl VO0_9

/-- The second output's block, as its store's value. -/
theorem out10_eq : out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 = k0_pay82 (pt c arg2 harg2 arg4 harg4 arg5 harg5 arg6 harg6 arg7 harg7 arg8 harg8 arg9 harg9 arg10 harg10 arg14 arg15 arg16 arg17 x0 x2 x3 x4 x5 x6 x7 x8).v456 :=
  canon_whole (S := S1x1x128) (e := .f32) zero3 inb_S1x1x128_S1x1x128_0_0_0 (k0_pay82 (pt c arg2 harg2 arg4 harg4 arg5 harg5 arg6 harg6 arg7 harg7 arg8 harg8 arg9 harg9 arg10 harg10 arg14 arg15 arg16 arg17 x0 x2 x3 x4 x5 x6 x7 x8).v456) rfl VO0_10

/-- The third output's block, as its store's value. -/
theorem out11_eq : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 = k0_pay6 (pt c arg2 harg2 arg4 harg4 arg5 harg5 arg6 harg6 arg7 harg7 arg8 harg8 arg9 harg9 arg10 harg10 arg14 arg15 arg16 arg17 x0 x2 x3 x4 x5 x6 x7 x8).v37 :=
  canon_whole (S := S1x3x128) (e := .f32) zero3 inb_S1x3x128_S1x3x128_0_0_0 (k0_pay6 (pt c arg2 harg2 arg4 harg4 arg5 harg5 arg6 harg6 arg7 harg7 arg8 harg8 arg9 harg9 arg10 harg10 arg14 arg15 arg16 arg17 x0 x2 x3 x4 x5 x6 x7 x8).v37) rfl VO0_11

/-- The first output's block: the other branch's gelu times the state after the step. -/
theorem out9_at (t : Fin 2048) (d : Fin 128) : out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 (ix3 (0 : Fin 1) t d)
    = gelu (x1 (ix3 (0 : Fin 1) t d)) * (pt c arg2 harg2 arg4 harg4 arg5 harg5 arg6 harg6 arg7 harg7 arg8 harg8 arg9 harg9 arg10 harg10 arg14 arg15 arg16 arg17 x0 x2 x3 x4 x5 x6 x7 x8).coef.state d (t.val + 1) := by
  rw [out9_eq, pay81_at, ldZ_at, Pt.v435_state]

/-- The second output's block: the final state. -/
theorem out10_at (d : Fin 128) : out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 (ix3 (0 : Fin 1) (0 : Fin 1) d)
    = (pt c arg2 harg2 arg4 harg4 arg5 harg5 arg6 harg6 arg7 harg7 arg8 harg8 arg9 harg9 arg10 harg10 arg14 arg15 arg16 arg17 x0 x2 x3 x4 x5 x6 x7 x8).coef.state d 2048 := by
  rw [out10_eq, pay82_at, Pt.v456_state]

/-- The third output's block: the last rows of the padded branch. -/
theorem out11_at (k : Fin 3) (d : Fin 128) : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 (ix3 (0 : Fin 1) k d)
    = (pt c arg2 harg2 arg4 harg4 arg5 harg5 arg6 harg6 arg7 harg7 arg8 harg8 arg9 harg9 arg10 harg10 arg14 arg15 arg16 arg17 x0 x2 x3 x4 x5 x6 x7 x8).coef.X (2048 + k.val) d := by
  rw [out11_eq, pay6_at, Pt.v37_at]

end Cert.KernelScan
-- ==== Proof.KernelValue.lean ====
/- The recurrence kernel's three result arrays, as functions of the argument arrays. -/
module

public import Idealize.ShloMosaic.Lib.Pipeline.ValueKit.Geometry
public import proofs.«01_k».proof.Proof.KernelOut
public import proofs.«01_k».proof.Proof.Gen.KernelIdeal.Value

@[expose] public section

noncomputable section

namespace Cert.KernelScan

open Cert.KernelIdeal Cert.KernelIdeal.Gen Cert.KernelIdeal.Value Cert.RowCanon Cert.ScanMath Cert.GateSpec
open Idealize.ShloMosaic Idealize.ShloMosaic.TcCoe Idealize.ShloMosaic.ValueIdx Idealize.SL.Sem

variable (m : (ℓ : Loc nD τ sig) → Buf (Elt Ideal) ℓ) (c : Dev nD)

/-- The argument arrays at launch. -/
def argsOf : Args where
  z := m ((c : Thread nD τ).loc main_arg0)
  cv := m ((c : Thread nD τ).loc main_arg1)
  h0 := m ((c : Thread nD τ).loc main_arg2)
  cw := m ((c : Thread nD τ).loc main_arg3)
  cb := m ((c : Thread nD τ).loc main_arg4)
  wg := m ((c : Thread nD τ).loc main_arg5)
  bg := m ((c : Thread nD τ).loc main_arg6)
  lam := m ((c : Thread nD τ).loc main_arg7)

/-- The batch of a grid point. -/
def bc (t : Fin cfg0.N) : Fin 4 := ⟨t.val / 16, by have : t.val < 64 := t.isLt; omega⟩
/-- The column block of a grid point. -/
def bn (t : Fin cfg0.N) : Fin 16 := ⟨t.val % 16, by omega⟩

/-- Window 0 walks the batches and the column blocks of the first branch. -/
theorem idx0 : ∀ t : Fin cfg0.N, win0_0.index t = ![t.val / 16, 0, t.val % 16] := (by decide +kernel : ∀ t : Fin grid0.N, _)
/-- Window 1 walks the column blocks of the second branch. -/
theorem idx1 : ∀ t : Fin cfg0.N, win0_1.index t = ![t.val / 16, 0, 16 + t.val % 16] := (by decide +kernel : ∀ t : Fin grid0.N, _)
/-- Window 2 walks the history. -/
theorem idx2 : ∀ t : Fin cfg0.N, win0_2.index t = ![t.val / 16, 0, t.val % 16] := (by decide +kernel : ∀ t : Fin grid0.N, _)
/-- Window 3 walks the initial states. -/
theorem idx3 : ∀ t : Fin cfg0.N, win0_3.index t = ![t.val / 16, 0, t.val % 16] := (by decide +kernel : ∀ t : Fin grid0.N, _)
/-- Window 4 walks the taps. -/
theorem idx4 : ∀ t : Fin cfg0.N, win0_4.index t = ![0, t.val % 16] := (by decide +kernel : ∀ t : Fin grid0.N, _)
/-- Window 5 walks the bias. -/
theorem idx5 : ∀ t : Fin cfg0.N, win0_5.index t = ![0, t.val % 16] := (by decide +kernel : ∀ t : Fin grid0.N, _)
/-- Window 6 walks the gates' weights. -/
theorem idx6 : ∀ t : Fin cfg0.N, win0_6.index t = ![0, t.val % 16, 0, 0] := (by decide +kernel : ∀ t : Fin grid0.N, _)
/-- Window 7 walks the gates' biases. -/
theorem idx7 : ∀ t : Fin cfg0.N, win0_7.index t = ![0, t.val % 16] := (by decide +kernel : ∀ t : Fin grid0.N, _)
/-- Window 8 walks the decay. -/
theorem idx8 : ∀ t : Fin cfg0.N, win0_8.index t = ![0, t.val % 16] := (by decide +kernel : ∀ t : Fin grid0.N, _)
/-- Window 9 walks the first result. -/
theorem idx9 : ∀ t : Fin cfg0.N, win0_9.index t = ![t.val / 16, 0, t.val % 16] := (by decide +kernel : ∀ t : Fin grid0.N, _)
/-- Window 10 walks the second result. -/
theorem idx10 : ∀ t : Fin cfg0.N, win0_10.index t = ![t.val / 16, 0, t.val % 16] := (by decide +kernel : ∀ t : Fin grid0.N, _)
/-- Window 11 walks the third result. -/
theorem idx11 : ∀ t : Fin cfg0.N, win0_11.index t = ![t.val / 16, 0, t.val % 16] := (by decide +kernel : ∀ t : Fin grid0.N, _)

/-- The bias row the host makes. -/
theorem V_v0 (j : Fin 2048) : V m c main_v0 (ix2 (0 : Fin 1) j) = (argsOf m c).cb (ix1 j) := by
  entry_read
  refine broadcastInDim_apply (s := S2048) (t := S1x2048) ![1] bcast_S2048_S1x2048_1 (m ((c : Thread nD τ).loc main_arg4)) (ix2 (0 : Fin 1) j) (ix1 j)
    (fun a => by match a with | ⟨0, _⟩ => rfl)

/-- The decay row the host makes. -/
theorem V_v1 (j : Fin 2048) : V m c main_v1 (ix2 (0 : Fin 1) j) = (argsOf m c).lam (ix1 j) := by
  entry_read
  refine broadcastInDim_apply (s := S2048) (t := S1x2048) ![1] bcast_S2048_S1x2048_1 (m ((c : Thread nD τ).loc main_arg7)) (ix2 (0 : Fin 1) j) (ix1 j)
    (fun a => by match a with | ⟨0, _⟩ => rfl)

variable (t : Fin cfg0.N)

/-- The first branch's block. -/
theorem iblk0_at (r : Fin 2048) (d : Fin 128) : iblk m c 0 t (ix3 (0 : Fin 1) r d) = (argsOf m c).z (ix3 (bc t) r ⟨128 * (bn t).val + d.val, by omega⟩) := by
  have e := idx0 t
  refine (congrFun (V_main_arg0 m c) (((cfg0.win 0).blk t).view.emb (ix3 (0 : Fin 1) r d))).trans ?_
  refine congrArg (m ((c : Thread nD τ).loc main_arg0)) (funext fun a => Fin.ext ?_)
  match a with
  | ⟨0, _⟩ => show win0_0.index t 0 * 1 + 1 * 0 = t.val / 16; rw [e]; simp
  | ⟨1, _⟩ => show win0_0.index t 1 * 2048 + 1 * r.val = r.val; rw [e]; simp
  | ⟨2, _⟩ => show win0_0.index t 2 * 128 + 1 * d.val = 128 * (t.val % 16) + d.val; rw [e]; simp; omega

/-- The second branch's block. -/
theorem iblk1_at (r : Fin 2048) (d : Fin 128) : iblk m c 1 t (ix3 (0 : Fin 1) r d) = (argsOf m c).z (ix3 (bc t) r ⟨2048 + (128 * (bn t).val + d.val), by omega⟩) := by
  have e := idx1 t
  refine (congrFun (V_main_arg0 m c) (((cfg0.win 1).blk t).view.emb (ix3 (0 : Fin 1) r d))).trans ?_
  refine congrArg (m ((c : Thread nD τ).loc main_arg0)) (funext fun a => Fin.ext ?_)
  match a with
  | ⟨0, _⟩ => show win0_1.index t 0 * 1 + 1 * 0 = t.val / 16; rw [e]; simp
  | ⟨1, _⟩ => show win0_1.index t 1 * 2048 + 1 * r.val = r.val; rw [e]; simp
  | ⟨2, _⟩ => show win0_1.index t 2 * 128 + 1 * d.val = 2048 + (128 * (t.val % 16) + d.val); rw [e]; simp; omega

/-- The history's block. -/
theorem iblk2_at (r : Fin 3) (d : Fin 128) : iblk m c 2 t (ix3 (0 : Fin 1) r d) = (argsOf m c).cv (ix3 (bc t) r (col (bn t) d)) := by
  have e := idx2 t
  refine (congrFun (V_main_arg1 m c) (((cfg0.win 2).blk t).view.emb (ix3 (0 : Fin 1) r d))).trans ?_
  refine congrArg (m ((c : Thread nD τ).loc main_arg1)) (funext fun a => Fin.ext ?_)
  match a with
  | ⟨0, _⟩ => show win0_2.index t 0 * 1 + 1 * 0 = t.val / 16; rw [e]; simp
  | ⟨1, _⟩ => show win0_2.index t 1 * 3 + 1 * r.val = r.val; rw [e]; simp
  | ⟨2, _⟩ => show win0_2.index t 2 * 128 + 1 * d.val = 128 * (t.val % 16) + d.val; rw [e]; simp; omega

/-- The initial state's block. -/
theorem iblk3_at (d : Fin 128) : iblk m c 3 t (ix3 (0 : Fin 1) (0 : Fin 1) d) = (argsOf m c).h0 (ix3 (bc t) (0 : Fin 1) (col (bn t) d)) := by
  have e := idx3 t
  refine (congrFun (V_main_arg2 m c) (((cfg0.win 3).blk t).view.emb (ix3 (0 : Fin 1) (0 : Fin 1) d))).trans ?_
  refine congrArg (m ((c : Thread nD τ).loc main_arg2)) (funext fun a => Fin.ext ?_)
  match a with
  | ⟨0, _⟩ => show win0_3.index t 0 * 1 + 1 * 0 = t.val / 16; rw [e]; simp
  | ⟨1, _⟩ => show win0_3.index t 1 * 1 + 1 * 0 = 0; rw [e]; simp
  | ⟨2, _⟩ => show win0_3.index t 2 * 128 + 1 * d.val = 128 * (t.val % 16) + d.val; rw [e]; simp; omega

/-- The taps' block. -/
theorem iblk4_at (k : Fin 4) (d : Fin 128) : iblk m c 4 t (ix2 k d) = (argsOf m c).cw (ix2 k (col (bn t) d)) := by
  have e := idx4 t
  refine (congrFun (V_main_arg3 m c) (((cfg0.win 4).blk t).view.emb (ix2 k d))).trans ?_
  refine congrArg (m ((c : Thread nD τ).loc main_arg3)) (funext fun a => Fin.ext ?_)
  match a with
  | ⟨0, _⟩ => show win0_4.index t 0 * 4 + 1 * k.val = k.val; rw [e]; simp
  | ⟨1, _⟩ => show win0_4.index t 1 * 128 + 1 * d.val = 128 * (t.val % 16) + d.val; rw [e]; simp; omega

/-- The bias's block. -/
theorem iblk5_at (d : Fin 128) : iblk m c 5 t (ix2 (0 : Fin 1) d) = (argsOf m c).cb (ix1 (col (bn t) d)) := by
  have e := idx5 t
  refine Eq.trans (congrArg (V m c main_v0) (funext fun a => Fin.ext ?_)) (V_v0 m c (col (bn t) d))
  match a with
  | ⟨0, _⟩ => show win0_5.index t 0 * 1 + 1 * 0 = 0; rw [e]; simp
  | ⟨1, _⟩ => show win0_5.index t 1 * 128 + 1 * d.val = 128 * (t.val % 16) + d.val; rw [e]; simp; omega

/-- The gates' weights' block. -/
theorem iblk6_at (g : Fin 2) (k d : Fin 128) : iblk m c 6 t (ix4 g (0 : Fin 1) k d) = (argsOf m c).wg (ix4 g (bn t) k d) := by
  have e := idx6 t
  refine (congrFun (V_main_arg5 m c) (((cfg0.win 6).blk t).view.emb (ix4 g (0 : Fin 1) k d))).trans ?_
  refine congrArg (m ((c : Thread nD τ).loc main_arg5)) (funext fun a => Fin.ext ?_)
  match a with
  | ⟨0, _⟩ => show win0_6.index t 0 * 2 + 1 * g.val = g.val; rw [e]; simp
  | ⟨1, _⟩ => show win0_6.index t 1 * 1 + 1 * 0 = t.val % 16; rw [e]; simp
  | ⟨2, _⟩ => show win0_6.index t 2 * 128 + 1 * k.val = k.val; rw [e]; simp
  | ⟨3, _⟩ => show win0_6.index t 3 * 128 + 1 * d.val = d.val; rw [e]; simp

/-- The gates' biases' block. -/
theorem iblk7_at (g : Fin 2) (d : Fin 128) : iblk m c 7 t (ix2 g d) = (argsOf m c).bg (ix2 g (col (bn t) d)) := by
  have e := idx7 t
  refine (congrFun (V_main_arg6 m c) (((cfg0.win 7).blk t).view.emb (ix2 g d))).trans ?_
  refine congrArg (m ((c : Thread nD τ).loc main_arg6)) (funext fun a => Fin.ext ?_)
  match a with
  | ⟨0, _⟩ => show win0_7.index t 0 * 2 + 1 * g.val = g.val; rw [e]; simp
  | ⟨1, _⟩ => show win0_7.index t 1 * 128 + 1 * d.val = 128 * (t.val % 16) + d.val; rw [e]; simp; omega

/-- The decay's block. -/
theorem iblk8_at (d : Fin 128) : iblk m c 8 t (ix2 (0 : Fin 1) d) = (argsOf m c).lam (ix1 (col (bn t) d)) := by
  have e := idx8 t
  refine Eq.trans (congrArg (V m c main_v1) (funext fun a => Fin.ext ?_)) (V_v1 m c (col (bn t) d))
  match a with
  | ⟨0, _⟩ => show win0_8.index t 0 * 1 + 1 * 0 = 0; rw [e]; simp
  | ⟨1, _⟩ => show win0_8.index t 1 * 128 + 1 * d.val = 128 * (t.val % 16) + d.val; rw [e]; simp; omega

/-- A point with the blocks of a grid point has that batch's and block's recurrence. -/
theorem coef_eq (p : Pt) (h0 : p.x0 = iblk m c 0 t) (h2 : p.x2 = iblk m c 2 t) (h3 : p.x3 = iblk m c 3 t)
    (h4 : p.x4 = iblk m c 4 t) (h5 : p.x5 = iblk m c 5 t) (h6 : p.x6 = iblk m c 6 t) (h7 : p.x7 = iblk m c 7 t)
    (h8 : p.x8 = iblk m c 8 t) : p.coef = (argsOf m c).coef (bc t) (bn t) := by
  refine Coef.ext ?_ ?_ ?_ ?_ ?_ ?_ ?_
  · funext r d
    show (if h : r < 3 then p.x2 (ix3 (0 : Fin 1) ⟨r, h⟩ d) else if h' : r - 3 < 2048 then p.x0 (ix3 (0 : Fin 1) ⟨r - 3, h'⟩ d) else 0) = _
    rw [h0, h2]
    simp only [iblk0_at, iblk2_at]
    rfl
  · funext k d; exact (congrFun h4 _).trans (iblk4_at m c t k d)
  · funext d; exact (congrFun h5 _).trans (iblk5_at m c t d)
  · funext g k d; exact (congrFun h6 _).trans (iblk6_at m c t g k d)
  · funext g d; exact (congrFun h7 _).trans (iblk7_at m c t g d)
  · funext d; exact (congrFun h8 _).trans (iblk8_at m c t d)
  · funext d; exact (congrFun h3 _).trans (iblk3_at m c t d)

/-- The output block 9 of a grid point, entry by entry. -/
theorem after9_at (r : Fin 2048) (d : Fin 128) : (dats m 0 c).after 9 t (ix3 (0 : Fin 1) r d)
    = gelu ((argsOf m c).z (ix3 (bc t) r ⟨2048 + (128 * (bn t).val + d.val), by omega⟩)) * ((argsOf m c).coef (bc t) (bn t)).state d (r.val + 1) := by
  rw [after0_9]
  unfold outsAt0
  dsimp only
  rw [out9_at, coef_eq m c t]
  · rw [iblk1_at]
  all_goals rfl

/-- The output block 10 of a grid point, entry by entry. -/
theorem after10_at (d : Fin 128) : (dats m 0 c).after 10 t (ix3 (0 : Fin 1) (0 : Fin 1) d)
    = ((argsOf m c).coef (bc t) (bn t)).state d 2048 := by
  rw [after0_10]
  unfold outsAt0
  dsimp only
  rw [out10_at, coef_eq m c t]
  all_goals rfl

/-- The output block 11 of a grid point, entry by entry. -/
theorem after11_at (r : Fin 3) (d : Fin 128) : (dats m 0 c).after 11 t (ix3 (0 : Fin 1) r d)
    = ((argsOf m c).coef (bc t) (bn t)).X (2048 + r.val) d := by
  rw [after0_11]
  unfold outsAt0
  dsimp only
  rw [out11_at, coef_eq m c t]
  all_goals rfl

/-- Where an entry of the first result's block lies. -/
theorem emb9 (r : Fin 2048) (d : Fin 128) : ((cfg0.win 9).blk t).view.emb (ix3 (0 : Fin 1) r d) = ix3 (bc t) r (col (bn t) d) := by
  have e := idx9 t
  funext a; apply Fin.ext
  match a with
  | ⟨0, _⟩ => show win0_9.index t 0 * 1 + 1 * 0 = t.val / 16; rw [e]; simp
  | ⟨1, _⟩ => show win0_9.index t 1 * 2048 + 1 * r.val = r.val; rw [e]; simp
  | ⟨2, _⟩ => show win0_9.index t 2 * 128 + 1 * d.val = 128 * (t.val % 16) + d.val; rw [e]; simp; omega

/-- Where an entry of the second result's block lies. -/
theorem emb10 (r : Fin 1) (d : Fin 128) : ((cfg0.win 10).blk t).view.emb (ix3 (0 : Fin 1) r d) = ix3 (bc t) r (col (bn t) d) := by
  have e := idx10 t
  funext a; apply Fin.ext
  match a with
  | ⟨0, _⟩ => show win0_10.index t 0 * 1 + 1 * 0 = t.val / 16; rw [e]; simp
  | ⟨1, _⟩ => show win0_10.index t 1 * 1 + 1 * r.val = r.val; rw [e]; simp
  | ⟨2, _⟩ => show win0_10.index t 2 * 128 + 1 * d.val = 128 * (t.val % 16) + d.val; rw [e]; simp; omega

/-- Where an entry of the third result's block lies. -/
theorem emb11 (r : Fin 3) (d : Fin 128) : ((cfg0.win 11).blk t).view.emb (ix3 (0 : Fin 1) r d) = ix3 (bc t) r (col (bn t) d) := by
  have e := idx11 t
  funext a; apply Fin.ext
  match a with
  | ⟨0, _⟩ => show win0_11.index t 0 * 1 + 1 * 0 = t.val / 16; rw [e]; simp
  | ⟨1, _⟩ => show win0_11.index t 1 * 3 + 1 * r.val = r.val; rw [e]; simp
  | ⟨2, _⟩ => show win0_11.index t 2 * 128 + 1 * d.val = 128 * (t.val % 16) + d.val; rw [e]; simp; omega

/-- A one-entry leading coordinate is zero. -/
theorem head_zero {A B : ℕ} (y : (⟨3, ![1, A, B]⟩ : Shape).Idx) : y = ix3 (0 : Fin 1) (y 1) (y 2) := by
  rw [eq_ix3 y]; exact congrArg (fun q => ix3 q (y 1) (y 2)) (Fin.ext (by have : (y 0).val < 1 := (y 0).isLt; show (y 0).val = 0; omega))

/-- The first result at a block's entry. -/
theorem y_at (A : Args) (b : Fin 4) (r : Fin 2048) (n : Fin 16) (d : Fin 128) : A.y (ix3 b r (col n d))
    = gelu (A.z (ix3 b r ⟨2048 + (128 * n.val + d.val), by omega⟩)) * (A.coef b n).state d (r.val + 1) := by
  show gelu (A.z (ix3 b r ⟨2048 + (col n d).val, _⟩)) * (A.coef b (blk (col n d))).state (lane (col n d)) (r.val + 1) = _
  rw [blk_col, lane_col]
  rfl

/-- The second result at a block's entry. -/
theorem hLast_at (A : Args) (b : Fin 4) (r : Fin 1) (n : Fin 16) (d : Fin 128) :
    A.hLast (ix3 b r (col n d)) = (A.coef b n).state d 2048 := by
  show (A.coef b (blk (col n d))).state (lane (col n d)) 2048 = _
  rw [blk_col, lane_col]

/-- The third result at a block's entry. -/
theorem cvLast_at (A : Args) (b : Fin 4) (r : Fin 3) (n : Fin 16) (d : Fin 128) :
    A.cvLast (ix3 b r (col n d)) = (A.coef b n).X (2048 + r.val) d := by
  show (A.coef b (blk (col n d))).X (2048 + r.val) (lane (col n d)) = _
  rw [blk_col, lane_col]

/-- The first result array. -/
theorem final9 : (dats m 0 c).arrAt 9 cfg0.N = (argsOf m c).y := by
  refine (dats m 0 c).arrAt_eq_of_covers 9 _ (by decide +kernel) fun t hf y => ?_
  have hy := head_zero (A := 2048) (B := 128) y
  show (dats m 0 c).after 9 t y = (argsOf m c).y (((cfg0.win 9).blk t).view.emb y)
  rw [hy]
  exact (after9_at m c t (y 1) (y 2)).trans
    ((y_at (argsOf m c) (bc t) (y 1) (bn t) (y 2)).symm.trans (congrArg (argsOf m c).y (emb9 t (y 1) (y 2)).symm))

/-- The second result array. -/
theorem final10 : (dats m 0 c).arrAt 10 cfg0.N = (argsOf m c).hLast := by
  refine (dats m 0 c).arrAt_eq_of_covers 10 _ (by decide +kernel) fun t hf y => ?_
  have hy := head_zero (A := 1) (B := 128) y
  have h1 : y 1 = (0 : Fin 1) := Fin.ext (by have : (y 1).val < 1 := (y 1).isLt; show (y 1).val = 0; omega)
  show (dats m 0 c).after 10 t y = (argsOf m c).hLast (((cfg0.win 10).blk t).view.emb y)
  rw [hy, h1]
  exact (after10_at m c t (y 2)).trans
    ((hLast_at (argsOf m c) (bc t) (0 : Fin 1) (bn t) (y 2)).symm.trans (congrArg (argsOf m c).hLast (emb10 t (0 : Fin 1) (y 2)).symm))

/-- The third result array. -/
theorem final11 : (dats m 0 c).arrAt 11 cfg0.N = (argsOf m c).cvLast := by
  refine (dats m 0 c).arrAt_eq_of_covers 11 _ (by decide +kernel) fun t hf y => ?_
  have hy := head_zero (A := 3) (B := 128) y
  show (dats m 0 c).after 11 t y = (argsOf m c).cvLast (((cfg0.win 11).blk t).view.emb y)
  rw [hy]
  exact (after11_at m c t (y 1) (y 2)).trans
    ((cvLast_at (argsOf m c) (bc t) (y 1) (bn t) (y 2)).symm.trans (congrArg (argsOf m c).cvLast (emb11 t (y 1) (y 2)).symm))

/-- The kernel's run with its three results. -/
theorem run (ρ : Dev nD → PrngReg) : θ_run defs (onTc (τ := τ) (main (F := Ideal))) ⟨m, fun _ => 0, ρ⟩ fun r => ∀ c : Dev nD,
      r.2.mem ((c : Thread nD τ).loc main_v2_0) = (argsOf m c).y
      ∧ r.2.mem ((c : Thread nD τ).loc main_v2_1) = (argsOf m c).hLast
      ∧ r.2.mem ((c : Thread nD τ).loc main_v2_2) = (argsOf m c).cvLast :=
  (θ_run defs _ _).mono (fun _ h c => ⟨(h c).1.trans (final9 m c), (h c).2.1.trans (final10 m c),
    (h c).2.2.1.trans (final11 m c)⟩) (run_blocks m ρ)

end Cert.KernelScan
-- ==== Proof.RefPre.lean ====
/- The reference's values before its loop, entry by entry. -/
module

public import Idealize.ShloMosaic.Lib.Pipeline.Value
public import proofs.«01_k».proof.Proof.GateSpec
public import proofs.«01_k».proof.Proof.Gen.ReferenceIdeal.Step

@[expose] public section

noncomputable section

namespace Cert.RefPre

open Idealize.ShloMosaic Idealize.ShloMosaic.TcCoe Idealize.ShloMosaic.ValueIdx
open Cert.ReferenceIdeal Cert.ReferenceIdeal.Gen Cert.ReferenceIdeal.Step Cert.GateSpec Cert.ScanMath

/-- A row spread over batches and rows. -/
theorem row_at (x : S2048.Idx → EReal) (b : Fin 4) (t D : Fin 2048) :
    broadcastInDim S4x2048x2048 ![0, 1, 2] bcast_S1x1x2048_S4x2048x2048_0_1_2
      (broadcastInDim S1x1x2048 ![2] bcast_S2048_S1x1x2048_2 x) (ix3 b t D) = x (ix1 D) := by
  refine (broadcastInDim_apply (s := S1x1x2048) (t := S4x2048x2048) ![0, 1, 2] _ _ (ix3 b t D) (ix3 (0 : Fin 1) (0 : Fin 1) D)
    (fun a => by match a with | ⟨0, _⟩ => rfl | ⟨1, _⟩ => rfl | ⟨2, _⟩ => rfl)).trans ?_
  exact broadcastInDim_apply (s := S2048) (t := S1x1x2048) ![2] _ x (ix3 (0 : Fin 1) (0 : Fin 1) D) (ix1 D)
    (fun a => by match a with | ⟨0, _⟩ => rfl)

/-- Row `k` of a matrix, taken out as a vector. -/
theorem pick_at {R : ℕ} (k : Fin R) (M : (⟨2, ![R, 2048]⟩ : Shape).Idx → EReal)
    (h : (⟨2, ![R, 2048]⟩ : Shape).Slices ![k.val, 0] S1x2048) (h' : S1x2048.ShapeCasts S2048) (D : Fin 2048) :
    shapeCast S2048 (extractStridedSlice S1x2048 ![k.val, 0] M h) h' (ix1 D) = M (ix2 k D) := by
  refine (shapeCast_apply _ h' (ix1 D) (ix2 (0 : Fin 1) D) ?_).trans ?_
  · rw [Shape.rowMajor_val_one, Shape.rowMajor_val_two]
    show 0 * 2048 + D.val = D.val
    omega
  · exact extractStridedSlice_apply _ M h (ix2 (0 : Fin 1) D) (ix2 k D)
      (fun a => by
        match a with
        | ⟨0, _⟩ => show k.val = k.val + 0; omega
        | ⟨1, _⟩ => show D.val = 0 + D.val; omega)

/-- Rows of a batch's array moved by `k`. -/
theorem shift_at (k : ℕ) (M : S4x2051x2048.Idx → EReal) (h : S4x2051x2048.Slices ![0, k, 0] S4x2048x2048) (hk : k ≤ 3)
    (b : Fin 4) (t D : Fin 2048) :
    extractStridedSlice S4x2048x2048 ![0, k, 0] M h (ix3 b t D) = M (ix3 b (⟨t.val + k, by omega⟩ : Fin 2051) D) :=
  extractStridedSlice_apply _ M h (ix3 b t D) (ix3 b (⟨t.val + k, by omega⟩ : Fin 2051) D)
    (fun a => by
      match a with
      | ⟨0, _⟩ => show b.val = 0 + b.val; omega
      | ⟨1, _⟩ => show t.val + k = k + t.val; omega
      | ⟨2, _⟩ => show D.val = 0 + D.val; omega)

variable (A : Args)

/-- The reference's value `v1`. -/
abbrev r1 := A_main_v1 (F := Ideal) A.z A.cv A.h0 A.cw A.cb A.wg A.bg A.lam
/-- The reference's value `v2`. -/
abbrev r2 := A_main_v2 (F := Ideal) A.z A.cv A.h0 A.cw A.cb A.wg A.bg A.lam
/-- The reference's value `v6`. -/
abbrev r6 := A_main_v6 (F := Ideal) A.z A.cv A.h0 A.cw A.cb A.wg A.bg A.lam
/-- The reference's value `v9`. -/
abbrev r9 := A_main_v9 (F := Ideal) A.z A.cv A.h0 A.cw A.cb A.wg A.bg A.lam
/-- The reference's value `v11`. -/
abbrev r11 := A_main_v11 (F := Ideal) A.z A.cv A.h0 A.cw A.cb A.wg A.bg A.lam
/-- The reference's value `v15`. -/
abbrev r15 := A_main_v15 (F := Ideal) A.z A.cv A.h0 A.cw A.cb A.wg A.bg A.lam
/-- The reference's value `v18`. -/
abbrev r18 := A_main_v18 (F := Ideal) A.z A.cv A.h0 A.cw A.cb A.wg A.bg A.lam
/-- The reference's value `v22`. -/
abbrev r22 := A_main_v22 (F := Ideal) A.z A.cv A.h0 A.cw A.cb A.wg A.bg A.lam
/-- The reference's value `v25`. -/
abbrev r25 := A_main_v25 (F := Ideal) A.z A.cv A.h0 A.cw A.cb A.wg A.bg A.lam
/-- The reference's value `v29`. -/
abbrev r29 := A_main_v29 (F := Ideal) A.z A.cv A.h0 A.cw A.cb A.wg A.bg A.lam
/-- The reference's value `v31`. -/
abbrev r31 := A_main_v31 (F := Ideal) A.z A.cv A.h0 A.cw A.cb A.wg A.bg A.lam
/-- The reference's value `v32`. -/
abbrev r32 := A_main_v32 (F := Ideal) A.z A.cv A.h0 A.cw A.cb A.wg A.bg A.lam
/-- The reference's value `v33`. -/
abbrev r33 := A_main_v33 (F := Ideal) A.z A.cv A.h0 A.cw A.cb A.wg A.bg A.lam
/-- The reference's value `v34`. -/
abbrev r34 := A_main_v34 (F := Ideal) A.z A.cv A.h0 A.cw A.cb A.wg A.bg A.lam
/-- The reference's value `v35`. -/
abbrev r35 := A_main_v35 (F := Ideal) A.z A.cv A.h0 A.cw A.cb A.wg A.bg A.lam
/-- The reference's value `v37`. -/
abbrev r37 := A_main_v37 (F := Ideal) A.z A.cv A.h0 A.cw A.cb A.wg A.bg A.lam
/-- The reference's value `v41`. -/
abbrev r41 := A_main_v41 (F := Ideal) A.z A.cv A.h0 A.cw A.cb A.wg A.bg A.lam
/-- The reference's value `v48`. -/
abbrev r48 := A_main_v48 (F := Ideal) A.z A.cv A.h0 A.cw A.cb A.wg A.bg A.lam
/-- The reference's value `v50`. -/
abbrev r50 := A_main_v50 (F := Ideal) A.z A.cv A.h0 A.cw A.cb A.wg A.bg A.lam
/-- The reference's value `v54`. -/
abbrev r54 := A_main_v54 (F := Ideal) A.z A.cv A.h0 A.cw A.cb A.wg A.bg A.lam
/-- The reference's value `v61`. -/
abbrev r61 := A_main_v61 (F := Ideal) A.z A.cv A.h0 A.cw A.cb A.wg A.bg A.lam
/-- The reference's value `v65`. -/
abbrev r65 := A_main_v65 (F := Ideal) A.z A.cv A.h0 A.cw A.cb A.wg A.bg A.lam
/-- The reference's value `v67`. -/
abbrev r67 := A_main_v67 (F := Ideal) A.z A.cv A.h0 A.cw A.cb A.wg A.bg A.lam
/-- The reference's value `v68`. -/
abbrev r68 := A_main_v68 (F := Ideal) A.z A.cv A.h0 A.cw A.cb A.wg A.bg A.lam
/-- The reference's value `v69`. -/
abbrev r69 := A_main_v69 (F := Ideal) A.z A.cv A.h0 A.cw A.cb A.wg A.bg A.lam
/-- The reference's value `v76`. -/
abbrev r76 := A_main_v76 (F := Ideal) A.z A.cv A.h0 A.cw A.cb A.wg A.bg A.lam
/-- The reference's value `v77`. -/
abbrev r77 := A_main_v77 (F := Ideal) A.z A.cv A.h0 A.cw A.cb A.wg A.bg A.lam
/-- The reference's value `v78`. -/
abbrev r78 := A_main_v78 (F := Ideal) A.z A.cv A.h0 A.cw A.cb A.wg A.bg A.lam
/-- The reference's value `v79`. -/
abbrev r79 := A_main_v79 (F := Ideal) A.z A.cv A.h0 A.cw A.cb A.wg A.bg A.lam
/-- The reference's value `v64`. -/
abbrev r64 := A_main_v64 (F := Ideal) A.z A.cv A.h0 A.cw A.cb A.wg A.bg A.lam

/-- The recurrence of a column. -/
abbrev cf (b : Fin 4) (D : Fin 2048) : Coef := A.coef b (blk D)

/-- The history over the branch. -/
theorem r1_at (b : Fin 4) (r : Fin 2051) (D : Fin 2048) : r1 A (ix3 b r D) = (cf A b D).X r.val (lane D) := by
  show _ = if h : r.val < 3 then A.cv (ix3 b ⟨r.val, h⟩ (col (blk D) (lane D)))
    else if h' : r.val - 3 < 2048 then A.z (ix3 b ⟨r.val - 3, h'⟩ ⟨128 * (blk D).val + (lane D).val, _⟩) else 0
  unfold r1 A_main_v1 A_main_v0
  by_cases h : r.val < 3
  · rw [dif_pos h, col_blk_lane]
    exact concatenate_pair_apply_left (s₁ := S4x3x2048) (s₂ := S4x2048x2048) (t := S4x2051x2048) 1 A.cv _ _ (ix3 b r D) rfl
      (ix3 b (⟨r.val, h⟩ : Fin 3) D) (fun a => by match a with | ⟨0, _⟩ => rfl | ⟨1, _⟩ => rfl | ⟨2, _⟩ => rfl)
  · have h' : r.val - 3 < 2048 := by have := r.isLt; omega
    rw [dif_neg h, dif_pos h']
    refine (concatenate_pair_apply_right (s₁ := S4x3x2048) (s₂ := S4x2048x2048) (t := S4x2051x2048) 1 A.cv _ _ (ix3 b r D)
      rfl rfl (ix3 b (⟨r.val - 3, h'⟩ : Fin 2048) D) (fun a ha => ?_) ?_).trans ?_
    · match a with
      | ⟨0, _⟩ => rfl
      | ⟨1, _⟩ => exact absurd rfl ha
      | ⟨2, _⟩ => rfl
    · show r.val - 3 + 3 = r.val; omega
    · refine extractStridedSlice_apply (s := S4x2048x4096) (t := S4x2048x2048) _ A.z _ _ _ (fun a => ?_)
      match a with
      | ⟨0, _⟩ => show b.val = 0 + b.val; omega
      | ⟨1, _⟩ => show r.val - 3 = 0 + (r.val - 3); omega
      | ⟨2, _⟩ => show 128 * (D.val / 128) + D.val % 128 = 0 + D.val; omega

/-- The convolution. -/
theorem r31_at (b : Fin 4) (t D : Fin 2048) : r31 A (ix3 b t D) = (cf A b D).conv t.val (lane D) := by
  have cw : ∀ k, (cf A b D).cw k (lane D) = A.cw (ix2 k D) := fun k => congrArg (fun c => A.cw (ix2 k c)) (col_blk_lane D)
  have cb : (cf A b D).cb (lane D) = A.cb (ix1 D) := congrArg (fun c => A.cb (ix1 c)) (col_blk_lane D)
  have e9 : r9 A (ix3 b t D) = A.cb (ix1 D) := row_at A.cb b t D
  have e6 : r6 A (ix3 b t D) = A.cw (ix2 (0 : Fin 4) D) := (row_at _ b t D).trans (pick_at (0 : Fin 4) A.cw _ _ D)
  have e15 : r15 A (ix3 b t D) = A.cw (ix2 (1 : Fin 4) D) := (row_at _ b t D).trans (pick_at (1 : Fin 4) A.cw _ _ D)
  have e22 : r22 A (ix3 b t D) = A.cw (ix2 (2 : Fin 4) D) := (row_at _ b t D).trans (pick_at (2 : Fin 4) A.cw _ _ D)
  have e29 : r29 A (ix3 b t D) = A.cw (ix2 (3 : Fin 4) D) := (row_at _ b t D).trans (pick_at (3 : Fin 4) A.cw _ _ D)
  have f0 : r2 A (ix3 b t D) = (cf A b D).X (t.val + 0) (lane D) := (shift_at 0 _ _ (by omega) b t D).trans (r1_at A b _ D)
  have f1 : r11 A (ix3 b t D) = (cf A b D).X (t.val + 1) (lane D) := (shift_at 1 _ _ (by omega) b t D).trans (r1_at A b _ D)
  have f2 : r18 A (ix3 b t D) = (cf A b D).X (t.val + 2) (lane D) := (shift_at 2 _ _ (by omega) b t D).trans (r1_at A b _ D)
  have f3 : r25 A (ix3 b t D) = (cf A b D).X (t.val + 3) (lane D) := (shift_at 3 _ _ (by omega) b t D).trans (r1_at A b _ D)
  show (((r9 A (ix3 b t D) + r2 A (ix3 b t D) * r6 A (ix3 b t D)) + r11 A (ix3 b t D) * r15 A (ix3 b t D))
    + r18 A (ix3 b t D) * r22 A (ix3 b t D)) + r25 A (ix3 b t D) * r29 A (ix3 b t D) = _
  rw [e9, e6, e15, e22, e29, f0, f1, f2, f3]
  unfold Coef.conv
  rw [cw, cw, cw, cw, cb]
  rfl

/-- The convolution, its columns by block and lane. -/
theorem r32_at (b : Fin 4) (t : Fin 2048) (n : Fin 16) (d : Fin 128) :
    r32 A (ix4 b t n d) = r31 A (ix3 b t (col n d)) := by
  refine shapeCast_apply (s := S4x2048x2048) (t := S4x2048x16x128) _ _ (ix4 b t n d) (ix3 b t (col n d)) ?_
  rw [Shape.rowMajor_val_three, Shape.rowMajor_val_four]
  show (b.val * 2048 + t.val) * 2048 + (128 * n.val + d.val) = ((b.val * 2048 + t.val) * 16 + n.val) * 128 + d.val
  omega

/-- The gates' products. -/
theorem r33_at (g : Fin 2) (b : Fin 4) (t : Fin 2048) (n : Fin 16) (d : Fin 128) :
    r33 A (ix5 n g d b t) = ∑ k : Fin 128, A.wg (ix4 g n k d) * r32 A (ix4 b t n k) := by
  let D := dot_S2x16x128x128_S4x2048x16x128_S16x2x128x4x2048_2_3_03_01_1_2
  show FloatOps.dotGeneral (F := Ideal) (φ₁ := .f32) (φ₂ := .f32) D none _ A.wg (r32 A) (ix5 n g d b t) = _
  rw [Ideal.dotGeneral_apply, ← Equiv.sum_comp (contrEquiv1 D 128 rfl rfl).symm]
  refine Finset.sum_congr rfl fun k _ => ?_
  have hk := contrEquiv1_symm_val D 128 rfl rfl k
  have l : D.lhsIdx (ix5 n g d b t) ((contrEquiv1 D 128 rfl rfl).symm k) = ix4 g n k d := by
    funext ax; apply Fin.ext
    match ax with
    | ⟨0, _⟩ => rfl
    | ⟨1, _⟩ => rfl
    | ⟨2, _⟩ => exact hk
    | ⟨3, _⟩ => rfl
  have r : D.rhsIdx (ix5 n g d b t) ((contrEquiv1 D 128 rfl rfl).symm k) = ix4 b t n k := by
    funext ax; apply Fin.ext
    match ax with
    | ⟨0, _⟩ => rfl
    | ⟨1, _⟩ => rfl
    | ⟨2, _⟩ => rfl
    | ⟨3, _⟩ => exact hk
  rw [l, r]

/-- The gates' products, laid out by gate, batch, row and column. -/
theorem r35_at (g : Fin 2) (b : Fin 4) (t D : Fin 2048) :
    r35 A (ix4 g b t D) = r33 A (ix5 (blk D) g (lane D) b t) := by
  refine (shapeCast_apply (s := S2x4x2048x16x128) (t := S2x4x2048x2048) _ _ (ix4 g b t D) (ix5 g b t (blk D) (lane D)) ?_).trans ?_
  · rw [Shape.rowMajor_val_five, Shape.rowMajor_val_four]
    show (((g.val * 4 + b.val) * 2048 + t.val) * 16 + D.val / 128) * 128 + D.val % 128 = ((g.val * 4 + b.val) * 2048 + t.val) * 2048 + D.val
    omega
  · refine transpose_apply (s := S16x2x128x4x2048) (t := S2x4x2048x16x128) [1, 3, 4, 0, 2] _ _ _ _ (fun a => ?_)
    match a with
    | ⟨0, _⟩ => rfl
    | ⟨1, _⟩ => rfl
    | ⟨2, _⟩ => rfl
    | ⟨3, _⟩ => rfl
    | ⟨4, _⟩ => rfl

/-- One gate's products. -/
theorem gate_pick (g : Fin 2) (h : S2x4x2048x2048.Slices ![g.val, 0, 0, 0] S1x4x2048x2048)
    (h' : S1x4x2048x2048.ShapeCasts S4x2048x2048) (b : Fin 4) (t D : Fin 2048) :
    shapeCast S4x2048x2048 (extractStridedSlice S1x4x2048x2048 ![g.val, 0, 0, 0] (r35 A) h) h' (ix3 b t D)
      = ∑ k : Fin 128, (cf A b D).conv t.val k * (cf A b D).wg g k (lane D) := by
  refine (shapeCast_apply _ h' (ix3 b t D) (ix4 (0 : Fin 1) b t D) ?_).trans ?_
  · rw [Shape.rowMajor_val_four, Shape.rowMajor_val_three]
    show ((0 * 4 + b.val) * 2048 + t.val) * 2048 + D.val = (b.val * 2048 + t.val) * 2048 + D.val
    omega
  · refine (extractStridedSlice_apply _ (r35 A) h (ix4 (0 : Fin 1) b t D) (ix4 g b t D) (fun a => ?_)).trans ?_
    · match a with
      | ⟨0, _⟩ => show g.val = g.val + 0; omega
      | ⟨1, _⟩ => show b.val = 0 + b.val; omega
      | ⟨2, _⟩ => show t.val = 0 + t.val; omega
      | ⟨3, _⟩ => show D.val = 0 + D.val; omega
    · rw [r35_at, r33_at]
      refine Finset.sum_congr rfl fun k _ => ?_
      rw [r32_at, r31_at, mul_comm]
      show (A.coef b (blk (col (blk D) k))).conv t.val (lane (col (blk D) k)) * _ = _
      rw [blk_col, lane_col]
      rfl

/-- A gate's bias at a column. -/
theorem bg_lane (g : Fin 2) (b : Fin 4) (D : Fin 2048) : (cf A b D).bg g (lane D) = A.bg (ix2 g D) :=
  congrArg (fun c => A.bg (ix2 g c)) (col_blk_lane D)

/-- The recurrence gate. -/
theorem r48_at (b : Fin 4) (t D : Fin 2048) : r48 A (ix3 b t D) = (cf A b D).gate 0 t.val (lane D) := by
  have e : r37 A (ix3 b t D) = _ := gate_pick A (0 : Fin 2) _ _ b t D
  have f : r41 A (ix3 b t D) = A.bg (ix2 (0 : Fin 2) D) := (row_at _ b t D).trans (pick_at (0 : Fin 2) A.bg _ _ D)
  show Ideal.div (Ideal.ofBits .f32 0x3F800000#32) (Ideal.ofBits .f32 0x3F800000#32
    + Ideal.exp (-(r37 A (ix3 b t D) + r41 A (ix3 b t D)))) = _
  rw [e, f, ← bg_lane A 0 b D, Ideal.ofBits_one_f32]
  rfl

/-- The input gate. -/
theorem r61_at (b : Fin 4) (t D : Fin 2048) : r61 A (ix3 b t D) = (cf A b D).gate 1 t.val (lane D) := by
  have e : r50 A (ix3 b t D) = _ := gate_pick A (1 : Fin 2) _ _ b t D
  have f : r54 A (ix3 b t D) = A.bg (ix2 (1 : Fin 2) D) := (row_at _ b t D).trans (pick_at (1 : Fin 2) A.bg _ _ D)
  show Ideal.div (Ideal.ofBits .f32 0x3F800000#32) (Ideal.ofBits .f32 0x3F800000#32
    + Ideal.exp (-(r50 A (ix3 b t D) + r54 A (ix3 b t D)))) = _
  rw [e, f, ← bg_lane A 1 b D, Ideal.ofBits_one_f32]
  rfl

/-- The softplus. -/
theorem r65_at (b : Fin 4) (D : Fin 2048) : r65 A (ix1 D) = (cf A b D).sp (lane D) := by
  have l : (cf A b D).lam (lane D) = A.lam (ix1 D) := congrArg (fun c => A.lam (ix1 c)) (col_blk_lane D)
  unfold Coef.sp
  rw [l]
  have z : Ideal.ofBits .f32 0x00000000#32 = 0 := Ideal.ofBits_zero_f32
  show Scalar.select (BitVec.ofBool (decide ((-A.lam (ix1 D)) - Ideal.ofBits .f32 0x00000000#32 ≠ (-A.lam (ix1 D)) - Ideal.ofBits .f32 0x00000000#32)))
    ((-A.lam (ix1 D)) + Ideal.ofBits .f32 0x00000000#32)
    (max (-A.lam (ix1 D)) (Ideal.ofBits .f32 0x00000000#32) + Ideal.log1p (Ideal.exp (-max ((-A.lam (ix1 D)) - Ideal.ofBits .f32 0x00000000#32)
      (-((-A.lam (ix1 D)) - Ideal.ofBits .f32 0x00000000#32))))) = _
  rw [z, sub_zero, decide_eq_false (fun h => h rfl)]
  rfl

/-- The decay's logarithm. -/
theorem r68_at (b : Fin 4) (t D : Fin 2048) : r68 A (ix3 b t D) = (cf A b D).logA t.val (lane D) := by
  have f : r67 A (ix3 b t D) = _ := (row_at (r65 A) b t D).trans (r65_at A b D)
  show Ideal.ofBits .f32 0xC1000000#32 * r48 A (ix3 b t D) * r67 A (ix3 b t D) = _
  rw [f, r48_at, ofBits_m8]
  rfl

/-- The decay. -/
theorem r78_at (b : Fin 4) (t D : Fin 2048) : r78 A (ix3 t b D) = (cf A b D).a t.val (lane D) := by
  refine (transpose_apply (s := S4x2048x2048) (t := S2048x4x2048) [1, 0, 2] (r69 A) _ (ix3 t b D) (ix3 b t D) (fun a => ?_)).trans ?_
  · match a with
    | ⟨0, _⟩ => rfl
    | ⟨1, _⟩ => rfl
    | ⟨2, _⟩ => rfl
  · show Ideal.exp (r68 A (ix3 b t D)) = _
    rw [r68_at]
    rfl

/-- The input of the step. -/
theorem r79_at (b : Fin 4) (t D : Fin 2048) : r79 A (ix3 t b D) = (cf A b D).b t.val (lane D) := by
  refine (transpose_apply (s := S4x2048x2048) (t := S2048x4x2048) [1, 0, 2] (r76 A) _ (ix3 t b D) (ix3 b t D) (fun a => ?_)).trans ?_
  · match a with
    | ⟨0, _⟩ => rfl
    | ⟨1, _⟩ => rfl
    | ⟨2, _⟩ => rfl
  · show Ideal.sqrt (-Ideal.expm1 (Ideal.ofBits .f32 0x40000000#32 * r68 A (ix3 b t D))) * r61 A (ix3 b t D) * r31 A (ix3 b t D) = _
    rw [r68_at, r61_at, r31_at, ofBits_2]
    rfl

/-- The initial state. -/
theorem r77_at (b : Fin 4) (D : Fin 2048) : r77 A (ix2 b D) = (cf A b D).h0 (lane D) := by
  refine (shapeCast_apply (s := S4x1x2048) (t := S4x2048) A.h0 _ (ix2 b D) (ix3 b (0 : Fin 1) D) ?_).trans ?_
  · rw [Shape.rowMajor_val_three, Shape.rowMajor_val_two]
    show (b.val * 1 + 0) * 2048 + D.val = b.val * 2048 + D.val
    omega
  · exact (congrArg (fun c => A.h0 (ix3 b (0 : Fin 1) c)) (col_blk_lane D)).symm

end Cert.RefPre
-- ==== Proof.RefRun.lean ====
/- The reference's run with its results at the iterated step of its loop. -/
module

public import proofs.«01_k».proof.Proof.GateSpec
public import proofs.«01_k».proof.Proof.Gen.ReferenceIdeal.Run
public import proofs.«01_k».proof.Proof.Gen.ReferenceIdeal.Step

@[expose] public section

noncomputable section

namespace Cert.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable (W : Valuation τ sig (Elt Ideal)) (s : State Ideal) (j : ℕ)

/-- The loop's buffers carry the state `s` before trip `j`. -/
structure Carries : Prop where
  h : W (Proc.devRef .tc main_v81_3) = s.main_v81_3
  rows : W (Proc.devRef .tc main_v81_4) = s.main_v81_4
  a : W (Proc.devRef .tc main_v81_0) = s.main_v81_0
  b : W (Proc.devRef .tc main_v81_1) = s.main_v81_1
  n : W (Proc.devRef .tc main_v81_2) = constantI S_ 32 (BitVec.ofNat 32 j)

variable {W s j}

set_option maxRecDepth 8192 in
/-- One trip's new state. -/
theorem Carries.new_h (e : Carries W s j) : res_main_while0b_v106 W = b9 j s := by
  unfold res_main_while0b_v106
  rw [e.h, e.a, e.b, e.n]
  rfl

set_option maxRecDepth 8192 in
/-- One trip's stacked rows. -/
theorem Carries.new_rows (e : Carries W s j) : Value.step_main_v81_4 W = (Step.step j s).main_v81_4 := by
  unfold Value.step_main_v81_4
  rw [e.new_h, e.rows, e.n]
  rfl

/-- One trip keeps carrying, with the step taken. -/
theorem Carries.step (e : Carries W s j) : Carries (STEP W) (Step.step j s) (j + 1) where
  h := (STEP_main_v81_3 W).trans (by unfold Value.step_main_v81_3; exact e.new_h)
  rows := (STEP_main_v81_4 W).trans e.new_rows
  a := (STEP_main_v81_0 W).trans e.a
  b := (STEP_main_v81_1 W).trans e.b
  n := (STEP_main_v81_2 W).trans (by
    unfold Value.step_main_v81_2
    rw [e.n]
    funext i
    show BitVec.ofNat 32 j + 1#32 = BitVec.ofNat 32 (j + 1)
    rw [BitVec.ofNat_add])

variable (m : (ℓ : Loc nD τ sig) → Buf (Elt Ideal) ℓ) (c : Dev nD)

/-- The state before the first trip. -/
abbrev start : State Ideal :=
  init (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

set_option maxRecDepth 65536 in
set_option maxHeartbeats 1000000 in
/-- What the operations before the loop leave. -/
theorem carries_start : Carries (entryContents preI m c) (start m c) 0 := by
  constructor <;> (simp only [entryContents, afterL_cons, afterL_nil]; after_reads_simp) <;> rfl

/-- The state before trip `k`. -/
def states : ℕ → State Ideal
  | 0 => start m c
  | k + 1 => Step.step k (states k)

/-- Every trip carries its state. -/
theorem carries_states (k : ℕ) : Carries (STEP^[k] (entryContents preI m c)) (states m c k) k := by
  induction k with
  | zero => exact carries_start m c
  | succ k ih => rw [Function.iterate_succ_apply']; exact ih.step

set_option maxRecDepth 8192 in
/-- The results are the last state's. -/
theorem results :
    out_main_v98 (STEP^[2048] (entryContents preI m c)) = R_main_v98 (states m c 2048) (m ((c : Thread nD τ).loc main_arg0))
    ∧ out_main_v99 (STEP^[2048] (entryContents preI m c)) = R_main_v99 (states m c 2048)
    ∧ out_main_v102 (STEP^[2048] (entryContents preI m c))
      = R_main_v102 (states m c 2048) (m ((c : Thread nD τ).loc main_arg0)) (m ((c : Thread nD τ).loc main_arg1)) := by
  have e := carries_states m c 2048
  have a0 := iter_main_arg0 m c 2048
  have a1 := iter_main_arg1 m c 2048
  generalize STEP^[2048] (entryContents preI m c) = W at e a0 a1 ⊢
  refine ⟨?_, ?_, ?_⟩
  · unfold out_main_v98
    rw [e.rows, a0]
    rfl
  · unfold out_main_v99
    rw [e.h]
    rfl
  · unfold out_main_v102
    rw [a0, a1]
    rfl

end Cert.RefRun
-- ==== Proof.RefValue.lean ====
/- The reference's results: its loop is the recurrence, column by column. -/
module

public import Idealize.ShloMosaic.Lib.WordCmp
public import Idealize.ShloMosaic.Lib.DynamicIndex
public import proofs.«01_k».proof.Proof.RefPre
public import proofs.«01_k».proof.Proof.RefRun

@[expose] public section

noncomputable section

namespace Cert.RefValue

open Idealize.ShloMosaic Idealize.ShloMosaic.TcCoe Idealize.ShloMosaic.ValueIdx Idealize.SL.Sem
open Cert.ReferenceIdeal Cert.ReferenceIdeal.Gen Cert.ReferenceIdeal.Step Cert.GateSpec Cert.ScanMath Cert.RefPre

/-- A trip's number, read as a signed word. -/
theorem trip_toInt (j : ℕ) (hj : j < 2048) : (BitVec.ofNat 32 j).toInt = (j : ℤ) := by
  rw [BitVec.toInt_eq_toNat_of_lt (by rw [BitVec.toNat_ofNat]; omega), BitVec.toNat_ofNat]
  congr 1
  omega

/-- A trip's slice at an entry. -/
theorem slice_at (x : S2048x4x2048.Idx → EReal) (j : ℕ) (hj : j < 2048)
    (st : Fin 3 → Int) (h0 : st 0 = (j : ℤ)) (h1 : st 1 = 0) (h2 : st 2 = 0)
    (h : S2048x4x2048.Slices (fun _ => 0) S1x4x2048) (h' : S1x4x2048.ShapeCasts S4x2048) (b : Fin 4) (D : Fin 2048) :
    shapeCast S4x2048 (Host.dynamicSlice S1x4x2048 x st h) h' (ix2 b D) = x (ix3 (⟨j, hj⟩ : Fin 2048) b D) := by
  have hs : S2048x4x2048.Slices ![j, 0, 0] S1x4x2048 := ⟨rfl, fun a => by
    match a with
    | ⟨0, _⟩ => show j + 1 ≤ 2048; omega
    | ⟨1, _⟩ => show 0 + 4 ≤ 4; omega
    | ⟨2, _⟩ => show 0 + 2048 ≤ 2048; omega⟩
  rw [Host.dynamicSlice_eq_extractStridedSlice S1x4x2048 x st ![j, 0, 0] h hs (fun a => by
    match a with
    | ⟨0, _⟩ => exact h0
    | ⟨1, _⟩ => exact h1
    | ⟨2, _⟩ => exact h2)]
  refine (shapeCast_apply _ h' (ix2 b D) (ix3 (0 : Fin 1) b D) ?_).trans ?_
  · rw [Shape.rowMajor_val_three, Shape.rowMajor_val_two]
    show (0 * 4 + b.val) * 2048 + D.val = b.val * 2048 + D.val
    omega
  · exact extractStridedSlice_apply _ x hs (ix3 (0 : Fin 1) b D) (ix3 (⟨j, hj⟩ : Fin 2048) b D) (fun a => by
      match a with
      | ⟨0, _⟩ => show j = j + 0; omega
      | ⟨1, _⟩ => show b.val = 0 + b.val; omega
      | ⟨2, _⟩ => show D.val = 0 + D.val; omega)

/-- A trip's update at an entry. -/
theorem update_at (x : S2048x4x2048.Idx → EReal) (u : S1x4x2048.Idx → EReal) (j : ℕ) (hj : j < 2048)
    (st : Fin 3 → Int) (h0 : st 0 = (j : ℤ)) (h1 : st 1 = 0) (h2 : st 2 = 0)
    (h : S2048x4x2048.Slices (fun _ => 0) S1x4x2048) (t : Fin 2048) (b : Fin 4) (D : Fin 2048) :
    Host.dynamicUpdateSlice x u st h (ix3 t b D) = if t.val = j then u (ix3 (0 : Fin 1) b D) else x (ix3 t b D) := by
  have hs : S2048x4x2048.Slices ![j, 0, 0] S1x4x2048 := ⟨rfl, fun a => by
    match a with
    | ⟨0, _⟩ => show j + 1 ≤ 2048; omega
    | ⟨1, _⟩ => show 0 + 4 ≤ 4; omega
    | ⟨2, _⟩ => show 0 + 2048 ≤ 2048; omega⟩
  rw [WordCmp.dynamicUpdateSlice_eq_update x u st h ![j, 0, 0] hs (fun a => by
    match a with
    | ⟨0, _⟩ => exact h0
    | ⟨1, _⟩ => exact h1
    | ⟨2, _⟩ => exact h2)]
  unfold updateSlice
  by_cases e : t.val = j
  · rw [if_pos e, dif_pos (fun a => by
      match a with
      | ⟨0, _⟩ => show j ≤ t.val ∧ t.val < j + 1; omega
      | ⟨1, _⟩ => show 0 ≤ b.val ∧ b.val < 0 + 4; have := b.isLt; omega
      | ⟨2, _⟩ => show 0 ≤ D.val ∧ D.val < 0 + 2048; have := D.isLt; omega)]
    refine congrArg u (funext fun a => Fin.ext ?_)
    match a with
    | ⟨0, _⟩ => show t.val - j = 0; omega
    | ⟨1, _⟩ => rfl
    | ⟨2, _⟩ => rfl
  · rw [if_neg e, dif_neg (fun hin => e (by
      have := hin ⟨0, by decide⟩
      have : j ≤ t.val ∧ t.val < j + 1 := this
      omega))]

variable (A : Args)

/-- A state of the loop in step with the recurrence: after `j` trips. -/
structure At (s : State Ideal) (j : ℕ) : Prop where
  a : ∀ (t : Fin 2048) b D, s.main_v81_0 (ix3 t b D) = (cf A b D).a t.val (lane D)
  b : ∀ (t : Fin 2048) b D, s.main_v81_1 (ix3 t b D) = (cf A b D).b t.val (lane D)
  h : ∀ b D, s.main_v81_3 (ix2 b D) = (cf A b D).state (lane D) j
  rows : ∀ (t : Fin 2048) b D, t.val < j → s.main_v81_4 (ix3 t b D) = (cf A b D).state (lane D) (t.val + 1)

variable {A}

/-- One trip's new state. -/
theorem At.new {s : State Ideal} {j : ℕ} (e : At A s j) (hj : j < 2048) (b : Fin 4) (D : Fin 2048) :
    b9 j s (ix2 b D) = (cf A b D).state (lane D) (j + 1) := by
  have ea : b3 j s (ix2 b D) = (cf A b D).a j (lane D) :=
    (slice_at s.main_v81_0 j hj _ (trip_toInt j hj) rfl rfl _ _ b D).trans (e.a ⟨j, hj⟩ b D)
  have eb : b7 j s (ix2 b D) = (cf A b D).b j (lane D) :=
    (slice_at s.main_v81_1 j hj _ (trip_toInt j hj) rfl rfl _ _ b D).trans (e.b ⟨j, hj⟩ b D)
  show b3 j s (ix2 b D) * s.main_v81_3 (ix2 b D) + b7 j s (ix2 b D) = _
  rw [ea, eb, e.h b D]
  rfl

/-- One trip keeps the state in step. -/
theorem At.step {s : State Ideal} {j : ℕ} (e : At A s j) (hj : j < 2048) : At A (Step.step j s) (j + 1) where
  a := e.a
  b := e.b
  h := fun b D => e.new hj b D
  rows := fun t b D ht => by
    refine (update_at s.main_v81_4 (b10 j s) j hj _ (trip_toInt j hj) rfl rfl updateFits_S2048x4x2048_S1x4x2048 t b D).trans ?_
    by_cases h : t.val = j
    · rw [if_pos h, h]
      refine Eq.trans ?_ (e.new hj b D)
      exact broadcastInDim_apply (s := S4x2048) (t := S1x4x2048) ![1, 2] _ (b9 j s) (ix3 (0 : Fin 1) b D) (ix2 b D)
        (fun a => by match a with | ⟨0, _⟩ => rfl | ⟨1, _⟩ => rfl)
    · rw [if_neg h]
      exact e.rows t b D (by omega)

variable (m : (ℓ : Loc nD τ sig) → Buf (Elt Ideal) ℓ) (c : Dev nD)

/-- The argument arrays at launch. -/
def argsOf : Args where
  z := m ((c : Thread nD τ).loc main_arg0)
  cv := m ((c : Thread nD τ).loc main_arg1)
  h0 := m ((c : Thread nD τ).loc main_arg2)
  cw := m ((c : Thread nD τ).loc main_arg3)
  cb := m ((c : Thread nD τ).loc main_arg4)
  wg := m ((c : Thread nD τ).loc main_arg5)
  bg := m ((c : Thread nD τ).loc main_arg6)
  lam := m ((c : Thread nD τ).loc main_arg7)

/-- The loop is in step with the recurrence throughout. -/
theorem at_states (k : ℕ) (hk : k ≤ 2048) : At (argsOf m c) (RefRun.states m c k) k := by
  induction k with
  | zero => exact ⟨fun t b D => r78_at (argsOf m c) b t D, fun t b D => r79_at (argsOf m c) b t D,
      fun b D => r77_at (argsOf m c) b D, fun t b D h => absurd h (by omega)⟩
  | succ k ih => exact (ih (by omega)).step (by omega)

variable {s : State Ideal}

/-- The first result. -/
theorem y_eq (e : At A s 2048) : R_main_v98 s A.z = A.y := by
  funext i
  rw [eq_ix3 i]
  obtain ⟨b, t, D, h0, h1, h2⟩ : ∃ (b : Fin 4) (t : Fin 2048) (D : Fin 2048), i 0 = b ∧ i 1 = t ∧ i 2 = D :=
    ⟨i 0, i 1, i 2, rfl, rfl, rfl⟩
  rw [h0, h1, h2]
  have e4 : transpose S4x2048x2048 [1, 0, 2] s.main_v81_4 transposes_S2048x4x2048_S4x2048x2048_1_0_2 (ix3 b t D)
      = (cf A b D).state (lane D) (t.val + 1) :=
    (transpose_apply (s := S2048x4x2048) (t := S4x2048x2048) [1, 0, 2] s.main_v81_4 _ (ix3 b t D) (ix3 t b D) (fun a => by
      match a with
      | ⟨0, _⟩ => rfl
      | ⟨1, _⟩ => rfl
      | ⟨2, _⟩ => rfl)).trans (e.rows t b D t.isLt)
  have ez : extractStridedSlice S4x2048x2048 ![0, 0, 2048] A.z slices_S4x2048x4096_S4x2048x2048_0_0_2048 (ix3 b t D)
      = A.z (ix3 b t ⟨2048 + D.val, by omega⟩) :=
    extractStridedSlice_apply (s := S4x2048x4096) (t := S4x2048x2048) _ A.z _ (ix3 b t D) _ (fun a => by
      match a with
      | ⟨0, _⟩ => show b.val = 0 + b.val; omega
      | ⟨1, _⟩ => show t.val = 0 + t.val; omega
      | ⟨2, _⟩ => rfl)
  show (extractStridedSlice S4x2048x2048 ![0, 0, 2048] A.z slices_S4x2048x4096_S4x2048x2048_0_0_2048 (ix3 b t D)
      * (Ideal.ofBits .f32 0x3F000000#32 * (Ideal.ofBits .f32 0x3F800000#32 + Ideal.tanh (Ideal.ofBits .f32 0x3F4C422A#32
        * (extractStridedSlice S4x2048x2048 ![0, 0, 2048] A.z slices_S4x2048x4096_S4x2048x2048_0_0_2048 (ix3 b t D)
          + Ideal.ofBits .f32 0x3D372713#32
            * ((extractStridedSlice S4x2048x2048 ![0, 0, 2048] A.z slices_S4x2048x4096_S4x2048x2048_0_0_2048 (ix3 b t D)
              * extractStridedSlice S4x2048x2048 ![0, 0, 2048] A.z slices_S4x2048x4096_S4x2048x2048_0_0_2048 (ix3 b t D))
              * extractStridedSlice S4x2048x2048 ![0, 0, 2048] A.z slices_S4x2048x4096_S4x2048x2048_0_0_2048 (ix3 b t D)))))))
      * transpose S4x2048x2048 [1, 0, 2] s.main_v81_4 transposes_S2048x4x2048_S4x2048x2048_1_0_2 (ix3 b t D)
    = gelu (A.z (ix3 b t ⟨2048 + D.val, _⟩)) * (cf A b D).state (lane D) (t.val + 1)
  rw [e4, ez]
  unfold gelu
  rw [mul_comm (A.z _ * A.z _) (A.z _)]

/-- The second result. -/
theorem h_eq (e : At A s 2048) : R_main_v99 s = A.hLast := by
  funext i
  rw [eq_ix3 i]
  obtain ⟨b, o, D, h0, h1, h2⟩ : ∃ (b : Fin 4) (o : Fin 1) (D : Fin 2048), i 0 = b ∧ i 1 = o ∧ i 2 = D :=
    ⟨i 0, i 1, i 2, rfl, rfl, rfl⟩
  rw [h0, h1, h2]
  exact (broadcastInDim_apply (s := S4x2048) (t := S4x1x2048) ![0, 2] _ s.main_v81_3 (ix3 b o D) (ix2 b D)
    (fun a => by match a with | ⟨0, _⟩ => rfl | ⟨1, _⟩ => rfl)).trans (e.h b D)

/-- The third result. -/
theorem cv_eq : R_main_v102 s A.z A.cv = A.cvLast := by
  funext i
  rw [eq_ix3 i]
  obtain ⟨b, k, D, h0, h1, h2⟩ : ∃ (b : Fin 4) (k : Fin 3) (D : Fin 2048), i 0 = b ∧ i 1 = k ∧ i 2 = D :=
    ⟨i 0, i 1, i 2, rfl, rfl, rfl⟩
  rw [h0, h1, h2]
  have hk : k.val < 3 := k.isLt
  exact (extractStridedSlice_apply (s := S4x2051x2048) (t := S4x3x2048) _ (r1 A) _ (ix3 b k D)
    (ix3 b (⟨2048 + k.val, by omega⟩ : Fin 2051) D) (fun a => by
      match a with
      | ⟨0, _⟩ => show b.val = 0 + b.val; omega
      | ⟨1, _⟩ => rfl
      | ⟨2, _⟩ => show D.val = 0 + D.val; omega)).trans (r1_at A b _ D)

/-- The reference's run with its three results. -/
theorem run (ρ : Dev nD → PrngReg) : θ_run defs (onTc (τ := τ) (main (F := Ideal))) ⟨m, fun _ => 0, ρ⟩ fun r => ∀ c : Dev nD,
      r.2.mem ((c : Thread nD τ).loc main_v98) = (argsOf m c).y
      ∧ r.2.mem ((c : Thread nD τ).loc main_v99) = (argsOf m c).hLast
      ∧ r.2.mem ((c : Thread nD τ).loc main_v102) = (argsOf m c).cvLast :=
  (θ_run defs _ _).mono (fun _ h c => by
    have e := at_states m c 2048 le_rfl
    have q := RefRun.results m c
    exact ⟨(h c).1.trans (q.1.trans (y_eq e)), (h c).2.1.trans (q.2.1.trans (h_eq e)), (h c).2.2.1.trans (q.2.2.trans (cv_eq (A := argsOf m c)))⟩)
    (Cert.ReferenceIdeal.Value.run m ρ)

end Cert.RefValue
-- ==== Proof.Dense.lean ====
/- The dense layers' mathematics: a product of two matrices, read off one tile, off tiles summed over the contracted
   axis, and off the host's product; and a gated addition over batches of 2048 rows. -/
module

public import Idealize.ShloMosaic.Lib.IdealHost
public import Idealize.ShloMosaic.Lib.MatmulPlain
public import Idealize.ShloMosaic.Lib.StackMember
public import Idealize.ShloMosaic.Lib.ValueIdx
public import Idealize.ShloMosaic.Lib.ValueLayout
public import Idealize.ShloMosaic.Lib.Pipeline.Value

@[expose] public section

noncomputable section

namespace Cert.Dense

open Idealize.ShloMosaic Idealize.ShloMosaic.ValueIdx

/-- A matrix of extended reals. -/
abbrev Mat (M K : ℕ) : Type := (⟨2, ![M, K]⟩ : Shape).Idx → EReal

/-- The product of two matrices. -/
def prod {M K N : ℕ} (A : Mat M K) (W : Mat K N) : Mat M N := fun i => ∑ k : Fin K, A (ix2 (i 0) k) * W (ix2 k (i 1))

/-- Rows in four batches of 2048, each entry plus its batch's gate times `y`'s entry. -/
def gated {N : ℕ} (x : Mat 8192 N) (g : (⟨3, ![4, 1, N]⟩ : Shape).Idx → EReal) (y : Mat 8192 N) : Mat 8192 N := fun i =>
  x i + g (ix3 ⟨(i 0).val / 2048, by have : (i 0).val < 8192 := (i 0).isLt; omega⟩ (0 : Fin 1) (i 1)) * y i

/-- The square of the positive part. -/
def relu2 (x : EReal) : EReal := max x 0 * max x 0

/-- An index of a matrix, by its row and column. -/
theorem ix2_of_val {M N : ℕ} {i : (⟨2, ![M, N]⟩ : Shape).Idx} {r : Fin M} {c : Fin N} (h0 : (i 0 : ℕ) = r.val) (h1 : (i 1 : ℕ) = c.val) :
    i = ix2 r c := funext fun a => Fin.ext (by match a with | ⟨0, _⟩ => exact h0 | ⟨1, _⟩ => exact h1)

/-- The zero offset of a whole tile. -/
theorem zero2 : (![0, 0] : Fin 2 → ℕ) = fun _ => 0 := by
  funext a; match a with | 0 => rfl | 1 => rfl

/-- The zero offset of a whole block of three axes. -/
theorem zero3 : (![0, 0, 0] : Fin 3 → ℕ) = fun _ => 0 := by
  funext a; match a with | 0 => rfl | 1 => rfl | 2 => rfl

/-- Two products, each weighted by the logistic of its half of `z`, added. -/
def merged (z : Mat 8192 8192) (p q : Mat 8192 4096) : Mat 8192 4096 := fun i =>
  Ideal.logistic (z (ix2 (i 0) ⟨(i 1).val, by have : (i 1).val < 4096 := (i 1).isLt; omega⟩)) * p i
    + Ideal.logistic (z (ix2 (i 0) ⟨4096 + (i 1).val, by have : (i 1).val < 4096 := (i 1).isLt; omega⟩)) * q i

section Tile
variable {φ₁ φ₂ : FTy} {m k n : ℕ}

/-- The product of two tiles, from a zero start. -/
theorem tile_sum (l : FVec Ideal ⟨2, ![m, k]⟩ φ₁) (r : FVec Ideal ⟨2, ![k, n]⟩ φ₂) (t : Fin m) (d : Fin n) :
    matmul (DotDims.plain m k n) none l r (constant ⟨2, ![m, n]⟩ .f32 0x00000000#32) (ix2 t d)
      = ∑ q : Fin k, l (ix2 t q) * r (ix2 q d) := by
  refine (Ideal.matmul_plain_apply none _ _ _ t d).trans ?_
  have hz : (constant ⟨2, ![m, n]⟩ .f32 0x00000000#32 : FVec Ideal ⟨2, ![m, n]⟩ .f32) (ix2 t d) = 0 := Ideal.ofBits_zero_f32
  rw [hz, zero_add]

/-- The product of a block of whole rows and a block of whole columns is the product's block: `e0`, `e1`, `e2` say where
    the blocks lie. -/
theorem tile_prod {M N : ℕ} (A : Mat M k) (W : Mat k N) (a b : ℕ) {e0 : (⟨2, ![m, k]⟩ : Shape).Idx → (⟨2, ![M, k]⟩ : Shape).Idx}
    {e1 : (⟨2, ![k, n]⟩ : Shape).Idx → (⟨2, ![k, N]⟩ : Shape).Idx} {e2 : (⟨2, ![m, n]⟩ : Shape).Idx → (⟨2, ![M, N]⟩ : Shape).Idx}
    (h00 : ∀ z, (e0 z 0 : ℕ) = a + (z 0 : ℕ)) (h01 : ∀ z, (e0 z 1 : ℕ) = (z 1 : ℕ))
    (h10 : ∀ z, (e1 z 0 : ℕ) = (z 0 : ℕ)) (h11 : ∀ z, (e1 z 1 : ℕ) = b + (z 1 : ℕ))
    (h20 : ∀ z, (e2 z 0 : ℕ) = a + (z 0 : ℕ)) (h21 : ∀ z, (e2 z 1 : ℕ) = b + (z 1 : ℕ))
    (l : FVec Ideal ⟨2, ![m, k]⟩ φ₁) (r : FVec Ideal ⟨2, ![k, n]⟩ φ₂) (hl : l = fun z => A (e0 z)) (hr : r = fun z => W (e1 z))
    (y : (⟨2, ![m, n]⟩ : Shape).Idx) :
    matmul (DotDims.plain m k n) none l r (constant ⟨2, ![m, n]⟩ .f32 0x00000000#32) y = prod A W (e2 y) := by
  obtain ⟨t, d, rfl⟩ : ∃ t d, y = ix2 t d := ⟨y 0, y 1, eq_ix2 y⟩
  rw [tile_sum, hl, hr]
  refine Finset.sum_congr rfl fun q _ => congrArg₂ (· * ·) (congrArg A (ix2_of_val ?_ ?_)) (congrArg W (ix2_of_val ?_ ?_))
  · exact (h00 (ix2 t q)).trans (h20 (ix2 t d)).symm
  · exact h01 _
  · exact h10 _
  · exact (h11 (ix2 q d)).trans (h21 (ix2 t d)).symm

/-- The host's product is the product. -/
theorem host_prod (l : FVec Ideal ⟨2, ![m, k]⟩ φ₁) (r : FVec Ideal ⟨2, ![k, n]⟩ φ₂) :
    (Host.dotGeneral (DotDims.plain m k n) none l r : FVec Ideal ⟨2, ![m, n]⟩ .f32) = prod l r := by
  funext i
  rw [eq_ix2 i]
  exact StackMember.dotGeneral_plain_apply none l r (i 0) (i 1)

end Tile

/-- The place of a run's term. -/
theorem run_lt {a b : ℕ} (s : Fin a) (q : Fin b) : b * s.val + q.val < a * b := calc
  b * s.val + q.val < b * s.val + b := Nat.add_lt_add_left q.isLt _
  _ = b * (s.val + 1) := by ring
  _ ≤ b * a := Nat.mul_le_mul_left _ s.isLt
  _ = a * b := Nat.mul_comm _ _

/-- A sum over `a * b` terms, by `a` runs of `b`. -/
theorem sum_runs (a b : ℕ) (f : Fin (a * b) → EReal) (g : Fin a → Fin b → EReal)
    (h : ∀ s k, ∀ p, f ⟨b * s.val + k.val, p⟩ = g s k) : ∑ i, f i = ∑ s : Fin a, ∑ k : Fin b, g s k := by
  rw [← Equiv.sum_comp finProdFinEquiv, Fintype.sum_prod_type]
  refine Finset.sum_congr rfl fun s _ => Finset.sum_congr rfl fun k _ => ?_
  rw [← h s k (run_lt s k)]
  exact congrArg f (Fin.ext (Nat.add_comm _ _))

/-- A run of `b` of a product entry's terms. -/
def part {a b M N : ℕ} (A : Mat M (a * b)) (W : Mat (a * b) N) (i : (⟨2, ![M, N]⟩ : Shape).Idx) (s : Fin a) : EReal :=
  ∑ q : Fin b, A (ix2 (i 0) ⟨b * s.val + q.val, run_lt s q⟩) * W (ix2 ⟨b * s.val + q.val, run_lt s q⟩ (i 1))

/-- A product's entry, by runs of its terms. -/
theorem prod_eq_parts (a b : ℕ) {M N : ℕ} (A : Mat M (a * b)) (W : Mat (a * b) N) (i : (⟨2, ![M, N]⟩ : Shape).Idx) :
    prod A W i = ∑ s : Fin a, part A W i s := sum_runs a b _ _ fun _ _ _ => rfl

/-- Rows joined from batches: entry `2048 b + t` of the rows is entry `t` of batch `b`. -/
theorem join_rows {N : ℕ} (v : (⟨3, ![4, 2048, N]⟩ : Shape).Idx → EReal)
    (h : (⟨3, ![4, 2048, N]⟩ : Shape).ShapeCasts ⟨2, ![8192, N]⟩) (r : Fin 8192) (c : Fin N) :
    shapeCast ⟨2, ![8192, N]⟩ v h (ix2 r c) = v (ix3 ⟨r.val / 2048, by omega⟩ ⟨r.val % 2048, Nat.mod_lt _ (by omega)⟩ c) := by
  refine shapeCast_apply _ _ _ _ ?_
  rw [Shape.rowMajor_val_three, Shape.rowMajor_val_two]
  show (r.val / 2048 * 2048 + r.val % 2048) * N + c.val = r.val * N + c.val
  rw [Nat.div_add_mod' r.val 2048]

/-- Rows split into batches. -/
theorem split_rows {N : ℕ} (v : Mat 8192 N)
    (h : (⟨2, ![8192, N]⟩ : Shape).ShapeCasts ⟨3, ![4, 2048, N]⟩) (r : Fin 8192) (c : Fin N) :
    shapeCast ⟨3, ![4, 2048, N]⟩ v h (ix3 ⟨r.val / 2048, by omega⟩ ⟨r.val % 2048, Nat.mod_lt _ (by omega)⟩ c) = v (ix2 r c) := by
  refine shapeCast_apply _ _ _ _ ?_
  rw [Shape.rowMajor_val_three, Shape.rowMajor_val_two]
  show r.val * N + c.val = (r.val / 2048 * 2048 + r.val % 2048) * N + c.val
  rw [Nat.div_add_mod' r.val 2048]

/-- The host's gated addition, batch by batch, is the gated addition of the rows. -/
theorem host_gated {N : ℕ} (x : FVec Ideal ⟨2, ![8192, N]⟩ .f32) (g : FVec Ideal ⟨3, ![4, 1, N]⟩ .f32) (y : FVec Ideal ⟨2, ![8192, N]⟩ .f32)
    (hs hs' : (⟨2, ![8192, N]⟩ : Shape).ShapeCasts ⟨3, ![4, 2048, N]⟩) (hj : (⟨3, ![4, 2048, N]⟩ : Shape).ShapeCasts ⟨2, ![8192, N]⟩)
    (hb : (⟨3, ![4, 1, N]⟩ : Shape).BroadcastsInDim ⟨3, ![4, 2048, N]⟩ ![0, 1, 2]) :
    shapeCast ⟨2, ![8192, N]⟩ (addf (shapeCast ⟨3, ![4, 2048, N]⟩ x hs)
      (mulf (broadcastInDim ⟨3, ![4, 2048, N]⟩ ![0, 1, 2] hb g) (shapeCast ⟨3, ![4, 2048, N]⟩ y hs'))) hj = gated x g y := by
  have key : ∀ (r : Fin 8192) (c : Fin N), shapeCast ⟨2, ![8192, N]⟩ (addf (shapeCast ⟨3, ![4, 2048, N]⟩ x hs)
      (mulf (broadcastInDim ⟨3, ![4, 2048, N]⟩ ![0, 1, 2] hb g) (shapeCast ⟨3, ![4, 2048, N]⟩ y hs'))) hj (ix2 r c) = gated x g y (ix2 r c) := by
    intro r c
    rw [join_rows]
    show shapeCast ⟨3, ![4, 2048, N]⟩ x hs _ + broadcastInDim ⟨3, ![4, 2048, N]⟩ ![0, 1, 2] hb g _ * shapeCast ⟨3, ![4, 2048, N]⟩ y hs' _ = _
    rw [split_rows, split_rows]
    refine congrArg₂ (· + ·) rfl (congrArg (· * _) ?_)
    exact broadcastInDim_apply (s := ⟨3, ![4, 1, N]⟩) (t := ⟨3, ![4, 2048, N]⟩) ![0, 1, 2] hb g _ _
      (fun a => by match a with
        | ⟨0, _⟩ => rfl
        | ⟨1, _⟩ => rfl
        | ⟨2, _⟩ => show c.val = if N = 1 then 0 else c.val; have := c.isLt; split <;> omega)
  funext i
  rw [eq_ix2 i]
  exact key _ _

/-- A tile of the gated addition: `e2`, `e3` say where the tiles of rows and of gates lie. -/
theorem tile_gated {m n N : ℕ} (x : Mat 8192 N) (g : (⟨3, ![4, 1, N]⟩ : Shape).Idx → EReal) (p : Mat 8192 N) (a : ℕ)
    {e2 : (⟨2, ![m, n]⟩ : Shape).Idx → (⟨2, ![8192, N]⟩ : Shape).Idx} {e3 : (⟨3, ![1, 1, n]⟩ : Shape).Idx → (⟨3, ![4, 1, N]⟩ : Shape).Idx}
    {h₁ : (⟨3, ![1, 1, n]⟩ : Shape).ShapeCasts ⟨2, ![1, n]⟩} {h₂ : (⟨2, ![1, n]⟩ : Shape).Broadcasts ⟨2, ![m, n]⟩}
    (b : ℕ) (h20 : ∀ z, (e2 z 0 : ℕ) / 2048 = a) (h21 : ∀ z, (e2 z 1 : ℕ) = b + (z 1 : ℕ))
    (h30 : ∀ z, (e3 z 0 : ℕ) = a) (h32 : ∀ z, (e3 z 2 : ℕ) = b + (z 2 : ℕ))
    (y : (⟨2, ![m, n]⟩ : Shape).Idx) {w : EReal} (hw : w = p (e2 y)) :
    x (e2 y) + broadcastTo ⟨2, ![m, n]⟩ (shapeCast ⟨2, ![1, n]⟩ (fun z => g (e3 z)) h₁) h₂ y * w = gated x g p (e2 y) := by
  obtain ⟨t, d, rfl⟩ : ∃ t d, y = ix2 t d := ⟨y 0, y 1, eq_ix2 y⟩
  rw [broadcastTo_1b_ab_apply, shapeCast_1ab_ab_apply, hw]
  refine congrArg (x _ + ·) (congrArg (· * _) (congrArg g (funext fun a' => Fin.ext ?_)))
  match a' with
  | ⟨0, _⟩ => exact (h30 _).trans (h20 _).symm
  | ⟨1, _⟩ => exact Nat.lt_one_iff.mp (e3 _ 1).isLt
  | ⟨2, _⟩ => exact (h32 (ix3 (0 : Fin 1) (0 : Fin 1) d)).trans (h21 (ix2 t d)).symm

/-- The host's squared positive part. -/
theorem host_relu2 {s : Shape} (v : FVec Ideal s .f32) (hb : (⟨0, ![]⟩ : Shape).BroadcastsInDim s ![]) (hl : FTy.bits .bf16 < FTy.bits .f32) :
    truncf .bf16 (mulf (maximumf v (broadcastInDim s ![] hb (constant ⟨0, ![]⟩ .f32 0x00000000#32)))
      (maximumf v (broadcastInDim s ![] hb (constant ⟨0, ![]⟩ .f32 0x00000000#32)))) hl = fun i => relu2 (v i) := by
  funext i
  show max (v i) (Ideal.ofBits .f32 0x00000000#32) * max (v i) (Ideal.ofBits .f32 0x00000000#32) = _
  rw [Ideal.ofBits_zero_f32]
  rfl

/-- The host's merge, its logistic spelled out, is the merge. -/
theorem host_merged (z : FVec Ideal ⟨2, ![8192, 8192]⟩ .f32) (p q : FVec Ideal ⟨2, ![8192, 4096]⟩ .f32)
    (hb : (⟨0, ![]⟩ : Shape).BroadcastsInDim ⟨2, ![8192, 8192]⟩ ![]) (hl : FTy.bits .bf16 < FTy.bits .f32)
    (h0 : (⟨2, ![8192, 8192]⟩ : Shape).Slices ![0, 0] ⟨2, ![8192, 4096]⟩) (h1 : (⟨2, ![8192, 8192]⟩ : Shape).Slices ![0, 4096] ⟨2, ![8192, 4096]⟩) :
    truncf .bf16 (addf
      (mulf (extractStridedSlice ⟨2, ![8192, 4096]⟩ ![0, 0] (Host.divf (broadcastInDim ⟨2, ![8192, 8192]⟩ ![] hb (constant ⟨0, ![]⟩ .f32 0x3F800000#32))
        (addf (broadcastInDim ⟨2, ![8192, 8192]⟩ ![] hb (constant ⟨0, ![]⟩ .f32 0x3F800000#32)) (Host.exp (Host.negf z)))) h0) p)
      (mulf (extractStridedSlice ⟨2, ![8192, 4096]⟩ ![0, 4096] (Host.divf (broadcastInDim ⟨2, ![8192, 8192]⟩ ![] hb (constant ⟨0, ![]⟩ .f32 0x3F800000#32))
        (addf (broadcastInDim ⟨2, ![8192, 8192]⟩ ![] hb (constant ⟨0, ![]⟩ .f32 0x3F800000#32)) (Host.exp (Host.negf z)))) h1) q)) hl = merged z p q := by
  have hz : ∀ i, Host.divf (broadcastInDim ⟨2, ![8192, 8192]⟩ ![] hb (constant ⟨0, ![]⟩ .f32 0x3F800000#32))
      (addf (broadcastInDim ⟨2, ![8192, 8192]⟩ ![] hb (constant ⟨0, ![]⟩ .f32 0x3F800000#32)) (Host.exp (Host.negf z))) i = Ideal.logistic (z i) := by
    intro i
    show Ideal.div (Ideal.ofBits .f32 0x3F800000#32) (Ideal.ofBits .f32 0x3F800000#32 + Ideal.exp (-(z i))) = _
    rw [Ideal.ofBits_one_f32]
    rfl
  rw [funext hz]
  have key : ∀ (r : Fin 8192) (c : Fin 4096),
      extractStridedSlice ⟨2, ![8192, 4096]⟩ ![0, 0] (fun i => Ideal.logistic (z i)) h0 (ix2 r c) * p (ix2 r c)
        + extractStridedSlice ⟨2, ![8192, 4096]⟩ ![0, 4096] (fun i => Ideal.logistic (z i)) h1 (ix2 r c) * q (ix2 r c)
        = merged z p q (ix2 r c) := by
    intro r c
    unfold extractStridedSlice
    refine congrArg₂ (· + ·) (congrArg (· * _) (congrArg (fun i => Ideal.logistic (z i)) (ix2_of_val ?_ ?_)))
      (congrArg (· * _) (congrArg (fun i => Ideal.logistic (z i)) (ix2_of_val ?_ ?_)))
    · exact Nat.zero_add _
    · exact Nat.zero_add _
    · exact Nat.zero_add _
    · rfl
  funext i
  rw [eq_ix2 i]
  exact key _ _

end Cert.Dense

end
-- ==== Proof.InValue.lean ====
/- The input projections: the kernel's result array is the product of its arguments. -/
module

public import Idealize.ShloMosaic.Lib.Pipeline.ValueKit.Geometry
public import proofs.«01_k».proof.Proof.Dense
public import proofs.«01_k».proof.Proof.Gen.InGateIdeal.Value
public import proofs.«01_k».proof.Proof.Gen.InQkvIdeal.Value
public import proofs.«01_k».proof.Proof.Gen.InRnnIdeal.Value

@[expose] public section

noncomputable section

open Cert.Dense Idealize.ShloMosaic Idealize.ShloMosaic.TcCoe Idealize.ShloMosaic.ValueIdx Idealize.SL.Sem

namespace Cert.InGateIdeal.Product

open Cert.InGateIdeal Cert.InGateIdeal.Gen Cert.InGateIdeal.Value

/-- Window 0 walks the row blocks. -/
theorem idx0 : ∀ t : Fin cfg0.N, win0_0.index t = ![t.val / 8, 0] := (by decide +kernel : ∀ t : Fin grid0.N, _)
/-- Window 1 walks the column blocks. -/
theorem idx1 : ∀ t : Fin cfg0.N, win0_1.index t = ![0, t.val % 8] := (by decide +kernel : ∀ t : Fin grid0.N, _)
/-- Window 2 walks the tiles. -/
theorem idx2 : ∀ t : Fin cfg0.N, win0_2.index t = ![t.val / 8, t.val % 8] := (by decide +kernel : ∀ t : Fin grid0.N, _)

variable (m : (ℓ : Loc nD τ sig) → Buf (Elt Ideal) ℓ) (c : Dev nD)

/-- The result array of the projection for the branches' gates. -/
theorem arr_eq : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  show (dats m 0 c).after 2 t y = prod _ _ (((cfg0.win 2).blk t).view.emb y)
  rw [after0_2, out0_2, View.canon_unit_zero zero2, View.ld_unit_zero (S := S1024x4096) zero2, View.ld_unit_zero (S := S4096x1024) zero2]
  exact tile_prod (e0 := ((cfg0.win 0).blk t).view.emb) (e1 := ((cfg0.win 1).blk t).view.emb) (e2 := ((cfg0.win 2).blk t).view.emb)
    (m ((c : Thread nD τ).loc main_arg0)) (m ((c : Thread nD τ).loc main_arg1)) (t.val / 8 * 1024) (t.val % 8 * 1024)
    (fun z => by show win0_0.index t 0 * 1024 + 1 * (z 0).val = _; rw [idx0]; simp)
    (fun z => by show win0_0.index t 1 * 4096 + 1 * (z 1).val = _; rw [idx0]; simp)
    (fun z => by show win0_1.index t 0 * 4096 + 1 * (z 0).val = _; rw [idx1]; simp)
    (fun z => by show win0_1.index t 1 * 1024 + 1 * (z 1).val = _; rw [idx1]; simp)
    (fun z => by show win0_2.index t 0 * 1024 + 1 * (z 0).val = _; rw [idx2]; simp)
    (fun z => by show win0_2.index t 1 * 1024 + 1 * (z 1).val = _; rw [idx2]; simp)
    _ _ rfl rfl y

end Cert.InGateIdeal.Product

namespace Cert.InQkvIdeal.Product

open Cert.InQkvIdeal Cert.InQkvIdeal.Gen Cert.InQkvIdeal.Value

/-- Window 0 walks the row blocks. -/
theorem idx0 : ∀ t : Fin cfg0.N, win0_0.index t = ![t.val / 5, 0] := (by decide +kernel : ∀ t : Fin grid0.N, _)
/-- Window 1 walks the column blocks. -/
theorem idx1 : ∀ t : Fin cfg0.N, win0_1.index t = ![0, t.val % 5] := (by decide +kernel : ∀ t : Fin grid0.N, _)
/-- Window 2 walks the tiles. -/
theorem idx2 : ∀ t : Fin cfg0.N, win0_2.index t = ![t.val / 5, t.val % 5] := (by decide +kernel : ∀ t : Fin grid0.N, _)

variable (m : (ℓ : Loc nD τ sig) → Buf (Elt Ideal) ℓ) (c : Dev nD)

/-- The result array of the projection for the queries, keys and values. -/
theorem arr_eq : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  show (dats m 0 c).after 2 t y = prod _ _ (((cfg0.win 2).blk t).view.emb y)
  rw [after0_2, out0_2, View.canon_unit_zero zero2, View.ld_unit_zero (S := S1024x4096) zero2, View.ld_unit_zero (S := S4096x1024) zero2]
  exact tile_prod (e0 := ((cfg0.win 0).blk t).view.emb) (e1 := ((cfg0.win 1).blk t).view.emb) (e2 := ((cfg0.win 2).blk t).view.emb)
    (m ((c : Thread nD τ).loc main_arg0)) (m ((c : Thread nD τ).loc main_arg1)) (t.val / 5 * 1024) (t.val % 5 * 1024)
    (fun z => by show win0_0.index t 0 * 1024 + 1 * (z 0).val = _; rw [idx0]; simp)
    (fun z => by show win0_0.index t 1 * 4096 + 1 * (z 1).val = _; rw [idx0]; simp)
    (fun z => by show win0_1.index t 0 * 4096 + 1 * (z 0).val = _; rw [idx1]; simp)
    (fun z => by show win0_1.index t 1 * 1024 + 1 * (z 1).val = _; rw [idx1]; simp)
    (fun z => by show win0_2.index t 0 * 1024 + 1 * (z 0).val = _; rw [idx2]; simp)
    (fun z => by show win0_2.index t 1 * 1024 + 1 * (z 1).val = _; rw [idx2]; simp)
    _ _ rfl rfl y

end Cert.InQkvIdeal.Product

namespace Cert.InRnnIdeal.Product

open Cert.InRnnIdeal Cert.InRnnIdeal.Gen Cert.InRnnIdeal.Value

/-- Window 0 walks the row blocks. -/
theorem idx0 : ∀ t : Fin cfg0.N, win0_0.index t = ![t.val / 4, 0] := (by decide +kernel : ∀ t : Fin grid0.N, _)
/-- Window 1 walks the column blocks. -/
theorem idx1 : ∀ t : Fin cfg0.N, win0_1.index t = ![0, t.val % 4] := (by decide +kernel : ∀ t : Fin grid0.N, _)
/-- Window 2 walks the tiles. -/
theorem idx2 : ∀ t : Fin cfg0.N, win0_2.index t = ![t.val / 4, t.val % 4] := (by decide +kernel : ∀ t : Fin grid0.N, _)

variable (m : (ℓ : Loc nD τ sig) → Buf (Elt Ideal) ℓ) (c : Dev nD)

/-- The result array of the projection for the recurrence. -/
theorem arr_eq : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  show (dats m 0 c).after 2 t y = prod _ _ (((cfg0.win 2).blk t).view.emb y)
  rw [after0_2, out0_2, View.canon_unit_zero zero2, View.ld_unit_zero (S := S1024x4096) zero2, View.ld_unit_zero (S := S4096x1024) zero2]
  exact tile_prod (e0 := ((cfg0.win 0).blk t).view.emb) (e1 := ((cfg0.win 1).blk t).view.emb) (e2 := ((cfg0.win 2).blk t).view.emb)
    (m ((c : Thread nD τ).loc main_arg0)) (m ((c : Thread nD τ).loc main_arg1)) (t.val / 4 * 1024) (t.val % 4 * 1024)
    (fun z => by show win0_0.index t 0 * 1024 + 1 * (z 0).val = _; rw [idx0]; simp)
    (fun z => by show win0_0.index t 1 * 4096 + 1 * (z 1).val = _; rw [idx0]; simp)
    (fun z => by show win0_1.index t 0 * 4096 + 1 * (z 0).val = _; rw [idx1]; simp)
    (fun z => by show win0_1.index t 1 * 1024 + 1 * (z 1).val = _; rw [idx1]; simp)
    (fun z => by show win0_2.index t 0 * 1024 + 1 * (z 0).val = _; rw [idx2]; simp)
    (fun z => by show win0_2.index t 1 * 1024 + 1 * (z 1).val = _; rw [idx2]; simp)
    _ _ rfl rfl y

end Cert.InRnnIdeal.Product

end
-- ==== Proof.MlpUpValue.lean ====
/- The first layer of the feed-forward block: the kernel's result array is the squared positive part of the product. -/
module

public import Idealize.ShloMosaic.Lib.Pipeline.ValueKit.Geometry
public import proofs.«01_k».proof.Proof.Dense
public import proofs.«01_k».proof.Proof.Gen.Mlp1Ideal.Value

@[expose] public section

noncomputable section

namespace Cert.Mlp1Ideal.Product

open Cert.Mlp1Ideal Cert.Mlp1Ideal.Gen Cert.Mlp1Ideal.Value
open Cert.Dense Idealize.ShloMosaic Idealize.ShloMosaic.TcCoe Idealize.ShloMosaic.ValueIdx Idealize.SL.Sem

/-- Window 0 walks the row blocks. -/
theorem idx0 : ∀ t : Fin cfg0.N, win0_0.index t = ![t.val / 16, 0] := (by decide +kernel : ∀ t : Fin grid0.N, _)
/-- Window 1 walks the column blocks. -/
theorem idx1 : ∀ t : Fin cfg0.N, win0_1.index t = ![0, t.val % 16] := (by decide +kernel : ∀ t : Fin grid0.N, _)
/-- Window 2 walks the tiles. -/
theorem idx2 : ∀ t : Fin cfg0.N, win0_2.index t = ![t.val / 16, t.val % 16] := (by decide +kernel : ∀ t : Fin grid0.N, _)

/-- The squared positive part, at an entry of a tile. -/
theorem pay_at (x0 : Vec Ideal S1024x4096 .bf16) (x1 : Vec Ideal S4096x1024 .bf16) (y : S1024x1024.Idx) : k0_pay1 x0 x1 y
    = relu2 (matmul (F := Ideal) (φ₁ := .bf16) (φ₂ := .bf16) (DotDims.plain 1024 4096 1024) none x0 x1 (constant S1024x1024 .f32 0x00000000#32) y) := by
  show max _ (Ideal.ofBits .f32 0x00000000#32) * max _ (Ideal.ofBits .f32 0x00000000#32) = _
  rw [Ideal.ofBits_zero_f32]
  rfl

variable (m : (ℓ : Loc nD τ sig) → Buf (Elt Ideal) ℓ) (c : Dev nD)

/-- The result array. -/
theorem arr_eq : (dats m 0 c).arrAt 2 cfg0.N
    = fun i => relu2 (prod (m ((c : Thread nD τ).loc main_arg0)) (m ((c : Thread nD τ).loc main_arg1)) i) := by
  refine (dats m 0 c).arrAt_eq_of_covers 2 _ (by decide +kernel) fun t hf y => ?_
  show (dats m 0 c).after 2 t y = relu2 (prod _ _ (((cfg0.win 2).blk t).view.emb y))
  rw [after0_2, out0_2, View.canon_unit_zero zero2, View.ld_unit_zero (S := S1024x4096) zero2, View.ld_unit_zero (S := S4096x1024) zero2,
    pay_at]
  exact congrArg relu2 (tile_prod (e0 := ((cfg0.win 0).blk t).view.emb) (e1 := ((cfg0.win 1).blk t).view.emb)
    (e2 := ((cfg0.win 2).blk t).view.emb)
    (m ((c : Thread nD τ).loc main_arg0)) (m ((c : Thread nD τ).loc main_arg1)) (t.val / 16 * 1024) (t.val % 16 * 1024)
    (fun z => by show win0_0.index t 0 * 1024 + 1 * (z 0).val = _; rw [idx0]; simp)
    (fun z => by show win0_0.index t 1 * 4096 + 1 * (z 1).val = _; rw [idx0]; simp)
    (fun z => by show win0_1.index t 0 * 4096 + 1 * (z 0).val = _; rw [idx1]; simp)
    (fun z => by show win0_1.index t 1 * 1024 + 1 * (z 1).val = _; rw [idx1]; simp)
    (fun z => by show win0_2.index t 0 * 1024 + 1 * (z 0).val = _; rw [idx2]; simp)
    (fun z => by show win0_2.index t 1 * 1024 + 1 * (z 1).val = _; rw [idx2]; simp)
    _ _ rfl rfl y)

end Cert.Mlp1Ideal.Product

end
-- ==== Proof.MlpDownValue.lean ====
/- The second layer of the feed-forward block: the kernel's result array is the rows plus the gated product, the product
   summed over four blocks of the contracted axis. -/
module

public import Idealize.ShloMosaic.Lib.Pipeline.ValueKit.Geometry
public import Idealize.ShloMosaic.Lib.Pipeline.ValueKit.Acc
public import proofs.«01_k».proof.Proof.Dense
public import proofs.«01_k».proof.Proof.Gen.Mlp2Ideal.Frame

@[expose] public section

noncomputable section

namespace Cert.Mlp2Ideal.Product

open Cert.Mlp2Ideal Cert.Mlp2Ideal.Gen
open Cert.Dense Idealize.ShloMosaic Idealize.ShloMosaic.TcCoe Idealize.ShloMosaic.ValueIdx Idealize.SL.Sem

variable (m : (ℓ : Loc nD τ sig) → Buf (Elt Ideal) ℓ) (c : Dev nD) (t : Fin cfg0.N)

/-- After the first of four points the scratch holds that point's product. -/
theorem scratch_first (h0 : t.val % 4 = 0) : (outsAt0 m c t.val t.isLt).2 = k0_pay2 (iblk m c 0 t) (iblk m c 1 t) := by
  rw [outsAt0_A m c t h0 (by omega) (by omega)]
  frame_out

/-- After a middle point the scratch holds that point's product added to what it held. -/
theorem scratch_mid (h0 : ¬t.val % 4 = 0) (h2 : ¬t.val % 4 = 3) : (outsAt0 m c t.val t.isLt).2
    = k0_pay3 (iblk m c 0 t) (iblk m c 1 t) (outsAt0 m c (t.val - 1) (Nat.lt_of_le_of_lt (Nat.sub_le _ _) t.isLt)).2 := by
  rw [outsAt0_B m c t h0 (by omega) h2]
  frame_out
  exact congrArg (k0_pay3 _ _) ((Memref.isWhole_whole _).read_unread _)

/-- The last point writes the rows plus the gated sum. -/
theorem out_last (h2 : t.val % 4 = 3) : (outsAt0 m c t.val t.isLt).1
    = k0_pay4 (k0_pay3 (iblk m c 0 t) (iblk m c 1 t) (outsAt0 m c (t.val - 1) (Nat.lt_of_le_of_lt (Nat.sub_le _ _) t.isLt)).2)
        (iblk m c 2 t) (iblk m c 3 t) := by
  rw [outsAt0_C m c t (by omega) (by omega) h2]
  frame_out
  exact congrArg (fun s => k0_pay4 (k0_pay3 _ _ s) _ _) ((Memref.isWhole_whole _).read_unread _)

/-- Window 0 walks the row blocks and the contracted blocks. -/
theorem idx0 : ∀ t : Fin cfg0.N, win0_0.index t = ![t.val / 32, t.val % 4] := (by decide +kernel : ∀ t : Fin grid0.N, _)
/-- Window 1 walks the contracted blocks and the column blocks. -/
theorem idx1 : ∀ t : Fin cfg0.N, win0_1.index t = ![t.val % 4, t.val / 4 % 8] := (by decide +kernel : ∀ t : Fin grid0.N, _)
/-- Window 2 walks the tiles of the rows added to. -/
theorem idx2 : ∀ t : Fin cfg0.N, win0_2.index t = ![t.val / 32, t.val / 4 % 8] := (by decide +kernel : ∀ t : Fin grid0.N, _)
/-- Window 3 walks the gates: two row blocks a batch. -/
theorem idx3 : ∀ t : Fin cfg0.N, win0_3.index t = ![t.val / 64, 0, t.val / 4 % 8] := (by decide +kernel : ∀ t : Fin grid0.N, _)
/-- Window 4 walks the tiles. -/
theorem idx4 : ∀ t : Fin cfg0.N, win0_4.index t = ![t.val / 32, t.val / 4 % 8] := (by decide +kernel : ∀ t : Fin grid0.N, _)

/-- A point's product, at an entry: the terms of its contracted block. -/
theorem point_prod (s : Fin 4) (hs : t.val % 4 = s.val) (r : Fin 1024) (d : Fin 512) (R : Fin 8192) (C : Fin 4096)
    (hR : R.val = t.val / 32 * 1024 + r.val) (hC : C.val = t.val / 4 % 8 * 512 + d.val) :
    k0_pay1 (iblk m c 0 t) (iblk m c 1 t) (ix2 r d)
      = part (a := 4) (b := 4096) (m ((c : Thread nD τ).loc main_arg0)) (m ((c : Thread nD τ).loc main_arg1)) (ix2 R C) s := by
  refine (tile_sum (φ₁ := .bf16) (φ₂ := .bf16) _ _ r d).trans (Finset.sum_congr rfl fun q _ => congrArg₂ (fun v w : EReal => v * w)
    (congrArg (m ((c : Thread nD τ).loc main_arg0)) (ix2_of_val (i := ((cfg0.win 0).blk t).view.emb (ix2 r q)) ?_ ?_))
    (congrArg (m ((c : Thread nD τ).loc main_arg1)) (ix2_of_val (i := ((cfg0.win 1).blk t).view.emb (ix2 q d)) ?_ ?_)))
  · show win0_0.index t 0 * 1024 + 1 * r.val = R.val; rw [idx0, hR]; simp
  · show win0_0.index t 1 * 4096 + 1 * q.val = 4096 * s.val + q.val; rw [idx0, ← hs]; simp; omega
  · show win0_1.index t 0 * 4096 + 1 * q.val = 4096 * s.val + q.val; rw [idx1, ← hs]; simp; omega
  · show win0_1.index t 1 * 512 + 1 * d.val = C.val; rw [idx1, hC]; simp

/-- Before its cast to its own shape, a middle point's value. -/
theorem pay3_eq (x0 : Vec Ideal S1024x4096 .bf16) (x1 : Vec Ideal S4096x512 .bf16) (s : Vec Ideal S1024x512 .f32) (y : S1024x512.Idx) :
    k0_pay3 x0 x1 s y = s y + k0_pay1 x0 x1 y := by
  unfold k0_pay3
  rw [shapeCast_self]
  rfl

/-- The sum the last point gates, at an entry, is the product's. -/
theorem total_at (h2 : t.val % 4 = 3) (r : Fin 1024) (d : Fin 512) (R : Fin 8192) (C : Fin 4096)
    (hR : R.val = t.val / 32 * 1024 + r.val) (hC : C.val = t.val / 4 % 8 * 512 + d.val) :
    k0_pay3 (iblk m c 0 t) (iblk m c 1 t) (outsAt0 m c (t.val - 1) (Nat.lt_of_le_of_lt (Nat.sub_le _ _) t.isLt)).2 (ix2 r d)
      = prod (m ((c : Thread nD τ).loc main_arg0)) (m ((c : Thread nD τ).loc main_arg1)) (ix2 R C) := by
  have ht := t.isLt
  have e2 := scratch_mid m c ⟨t.val - 1, by omega⟩ (by show ¬(t.val - 1) % 4 = 0; omega) (by show ¬(t.val - 1) % 4 = 3; omega)
  have e1 := scratch_mid m c ⟨t.val - 1 - 1, by omega⟩ (by show ¬(t.val - 1 - 1) % 4 = 0; omega) (by show ¬(t.val - 1 - 1) % 4 = 3; omega)
  have e0 := scratch_first m c ⟨t.val - 1 - 1 - 1, by omega⟩ (by show (t.val - 1 - 1 - 1) % 4 = 0; omega)
  dsimp only at e2 e1 e0
  rw [pay3_eq, e2, pay3_eq, e1, pay3_eq, e0]
  unfold k0_pay2
  rw [shapeCast_self, point_prod m c t 3 h2 r d R C hR hC,
    point_prod m c ⟨t.val - 1, by omega⟩ 2 (by show (t.val - 1) % 4 = 2; omega) r d R C (by dsimp only; omega) (by dsimp only; omega),
    point_prod m c ⟨t.val - 1 - 1, by omega⟩ 1 (by show (t.val - 1 - 1) % 4 = 1; omega) r d R C (by dsimp only; omega) (by dsimp only; omega),
    point_prod m c ⟨t.val - 1 - 1 - 1, by omega⟩ 0 (by show (t.val - 1 - 1 - 1) % 4 = 0; omega) r d R C (by dsimp only; omega) (by dsimp only; omega),
    prod_eq_parts 4 4096, Fin.sum_univ_four]

/-- The result array. -/
theorem arr_eq : (dats m 0 c).arrAt 4 cfg0.N
    = gated (m ((c : Thread nD τ).loc main_arg2)) (m ((c : Thread nD τ).loc main_arg3))
        (prod (m ((c : Thread nD τ).loc main_arg0)) (m ((c : Thread nD τ).loc main_arg1))) := by
  refine (dats m 0 c).arrAt_eq_of_covers 4 _ (by decide +kernel) fun t hf y => ?_
  show (dats m 0 c).after 4 t y = gated _ _ _ (((cfg0.win 4).blk t).view.emb y)
  have ht : t.val < 256 := t.isLt
  have h20 : ∀ z : S1024x512.Idx, (((cfg0.win 4).blk t).view.emb z 0 : ℕ) = t.val / 32 * 1024 + (z 0).val := fun z => by
    show win0_4.index t 0 * 1024 + 1 * (z 0).val = _; rw [idx4]; simp
  have h21 : ∀ z : S1024x512.Idx, (((cfg0.win 4).blk t).view.emb z 1 : ℕ) = t.val / 4 % 8 * 512 + (z 1).val := fun z => by
    show win0_4.index t 1 * 512 + 1 * (z 1).val = _; rw [idx4]; simp
  have hx : iblk m c 2 t y = m ((c : Thread nD τ).loc main_arg2) (((cfg0.win 4).blk t).view.emb y) :=
    congrArg (m ((c : Thread nD τ).loc main_arg2)) (funext fun a => Fin.ext (by
      match a with
      | ⟨0, _⟩ => show win0_2.index t 0 * 1024 + 1 * (y 0).val = win0_4.index t 0 * 1024 + 1 * (y 0).val; rw [idx2, idx4]
      | ⟨1, _⟩ => show win0_2.index t 1 * 512 + 1 * (y 1).val = win0_4.index t 1 * 512 + 1 * (y 1).val; rw [idx2, idx4]))
  have h2 := (flush0_4 t).mp hf
  rw [after0_4, out_last m c t h2]
  refine (congrArg (fun v : EReal => v + _) hx).trans (tile_gated (e2 := ((cfg0.win 4).blk t).view.emb) (e3 := ((cfg0.win 3).blk t).view.emb)
    (m ((c : Thread nD τ).loc main_arg2)) (m ((c : Thread nD τ).loc main_arg3))
    (prod (m ((c : Thread nD τ).loc main_arg0)) (m ((c : Thread nD τ).loc main_arg1)))
    (t.val / 64) (t.val / 4 % 8 * 512)
    (fun z => by have h : (z 0).val < 1024 := (z 0).isLt; rw [h20]; omega) h21
    (fun z => by show win0_3.index t 0 * 1 + 1 * (z 0).val = _; rw [idx3]; simp)
    (fun z => by show win0_3.index t 2 * 512 + 1 * (z 2).val = _; rw [idx3]; simp) y ?_)
  obtain ⟨r, d, rfl⟩ : ∃ (r : Fin 1024) (d : Fin 512), y = ix2 r d := ⟨y 0, y 1, eq_ix2 y⟩
  exact (total_at m c t h2 r d _ _ (h20 (ix2 r d)) (h21 (ix2 r d))).trans
    (congrArg (prod _ _) (ix2_of_val (i := ((cfg0.win 4).blk t).view.emb (ix2 r d)) rfl rfl).symm)

end Cert.Mlp2Ideal.Product

end
-- ==== Proof.OutValue.lean ====
/- The output projection: the kernel's result array is the rows plus the gated product. -/
module

public import Idealize.ShloMosaic.Lib.Pipeline.ValueKit.Geometry
public import proofs.«01_k».proof.Proof.Dense
public import proofs.«01_k».proof.Proof.Gen.OutProjIdeal.Value

@[expose] public section

noncomputable section

namespace Cert.OutProjIdeal.Product

open Cert.OutProjIdeal Cert.OutProjIdeal.Gen Cert.OutProjIdeal.Value
open Cert.Dense Idealize.ShloMosaic Idealize.ShloMosaic.TcCoe Idealize.ShloMosaic.ValueIdx Idealize.SL.Sem

/-- Window 0 walks the row blocks. -/
theorem idx0 : ∀ t : Fin cfg0.N, win0_0.index t = ![t.val / 8, 0] := (by decide +kernel : ∀ t : Fin grid0.N, _)
/-- Window 1 walks the column blocks. -/
theorem idx1 : ∀ t : Fin cfg0.N, win0_1.index t = ![0, t.val % 8] := (by decide +kernel : ∀ t : Fin grid0.N, _)
/-- Window 2 walks the tiles of the rows added to. -/
theorem idx2 : ∀ t : Fin cfg0.N, win0_2.index t = ![t.val / 8, t.val % 8] := (by decide +kernel : ∀ t : Fin grid0.N, _)
/-- Window 3 walks the gates: two row blocks a batch. -/
theorem idx3 : ∀ t : Fin cfg0.N, win0_3.index t = ![t.val / 16, 0, t.val % 8] := (by decide +kernel : ∀ t : Fin grid0.N, _)
/-- Window 4 walks the tiles. -/
theorem idx4 : ∀ t : Fin cfg0.N, win0_4.index t = ![t.val / 8, t.val % 8] := (by decide +kernel : ∀ t : Fin grid0.N, _)

variable (m : (ℓ : Loc nD τ sig) → Buf (Elt Ideal) ℓ) (c : Dev nD)

/-- The result array. -/
theorem arr_eq : (dats m 0 c).arrAt 4 cfg0.N
    = gated (m ((c : Thread nD τ).loc main_arg2)) (m ((c : Thread nD τ).loc main_arg3))
        (prod (m ((c : Thread nD τ).loc main_arg0)) (m ((c : Thread nD τ).loc main_arg1))) := by
  refine (dats m 0 c).arrAt_eq_of_covers 4 _ (by decide +kernel) fun t hf y => ?_
  show (dats m 0 c).after 4 t y = gated _ _ _ (((cfg0.win 4).blk t).view.emb y)
  have ht : t.val < 64 := t.isLt
  have h20 : ∀ z : S1024x512.Idx, (((cfg0.win 4).blk t).view.emb z 0 : ℕ) = t.val / 8 * 1024 + (z 0).val := fun z => by
    show win0_4.index t 0 * 1024 + 1 * (z 0).val = _; rw [idx4]; simp
  have h21 : ∀ z : S1024x512.Idx, (((cfg0.win 4).blk t).view.emb z 1 : ℕ) = t.val % 8 * 512 + (z 1).val := fun z => by
    show win0_4.index t 1 * 512 + 1 * (z 1).val = _; rw [idx4]; simp
  have hx : iblk m c 2 t y = m ((c : Thread nD τ).loc main_arg2) (((cfg0.win 4).blk t).view.emb y) :=
    congrArg (m ((c : Thread nD τ).loc main_arg2)) (funext fun a => Fin.ext (by
      match a with
      | ⟨0, _⟩ => show win0_2.index t 0 * 1024 + 1 * (y 0).val = win0_4.index t 0 * 1024 + 1 * (y 0).val; rw [idx2, idx4]
      | ⟨1, _⟩ => show win0_2.index t 1 * 512 + 1 * (y 1).val = win0_4.index t 1 * 512 + 1 * (y 1).val; rw [idx2, idx4]))
  rw [after0_4, out0_4, View.canon_unit_zero zero2, View.ld_unit_zero (S := S1024x4096) zero2, View.ld_unit_zero (S := S4096x512) zero2,
    View.ld_unit_zero (S := S1024x512) zero2, View.ld_unit_zero (S := S1x1x512) zero3]
  refine (congrArg (fun v : EReal => v + _) hx).trans (tile_gated (e2 := ((cfg0.win 4).blk t).view.emb) (e3 := ((cfg0.win 3).blk t).view.emb)
    (m ((c : Thread nD τ).loc main_arg2)) (m ((c : Thread nD τ).loc main_arg3))
    (prod (m ((c : Thread nD τ).loc main_arg0)) (m ((c : Thread nD τ).loc main_arg1)))
    (t.val / 16) (t.val % 8 * 512)
    (fun z => by have h : (z 0).val < 1024 := (z 0).isLt; rw [h20]; omega) h21
    (fun z => by show win0_3.index t 0 * 1 + 1 * (z 0).val = _; rw [idx3]; simp)
    (fun z => by show win0_3.index t 2 * 512 + 1 * (z 2).val = _; rw [idx3]; simp) y ?_)
  exact tile_prod (e0 := ((cfg0.win 0).blk t).view.emb) (e1 := ((cfg0.win 1).blk t).view.emb) (e2 := ((cfg0.win 4).blk t).view.emb)
    (m ((c : Thread nD τ).loc main_arg0)) (m ((c : Thread nD τ).loc main_arg1)) (t.val / 8 * 1024) (t.val % 8 * 512)
    (fun z => by show win0_0.index t 0 * 1024 + 1 * (z 0).val = _; rw [idx0]; simp)
    (fun z => by show win0_0.index t 1 * 4096 + 1 * (z 1).val = _; rw [idx0]; simp)
    (fun z => by show win0_1.index t 0 * 4096 + 1 * (z 0).val = _; rw [idx1]; simp)
    (fun z => by show win0_1.index t 1 * 512 + 1 * (z 1).val = _; rw [idx1]; simp)
    h20 h21 _ _ rfl rfl y

end Cert.OutProjIdeal.Product

end
-- ==== Proof.MergeValue.lean ====
/- The merge of the two branches: the kernel's result array is the two products, weighted and added. -/
module

public import Idealize.ShloMosaic.Lib.Pipeline.ValueKit.Geometry
public import proofs.«01_k».proof.Proof.Dense
public import proofs.«01_k».proof.Proof.Gen.MergeIdeal.Value

@[expose] public section

noncomputable section

namespace Cert.MergeIdeal.Product

open Cert.MergeIdeal Cert.MergeIdeal.Gen Cert.MergeIdeal.Value
open Cert.Dense Idealize.ShloMosaic Idealize.ShloMosaic.TcCoe Idealize.ShloMosaic.ValueIdx Idealize.SL.Sem

/-- Window 0 walks the row blocks. -/
theorem idx0 : ∀ t : Fin cfg0.N, win0_0.index t = ![t.val / 8, 0] := (by decide +kernel : ∀ t : Fin grid0.N, _)
/-- Window 1 walks the column blocks. -/
theorem idx1 : ∀ t : Fin cfg0.N, win0_1.index t = ![0, t.val % 8] := (by decide +kernel : ∀ t : Fin grid0.N, _)
/-- Window 2 walks the row blocks. -/
theorem idx2 : ∀ t : Fin cfg0.N, win0_2.index t = ![t.val / 8, 0] := (by decide +kernel : ∀ t : Fin grid0.N, _)
/-- Window 3 walks the column blocks. -/
theorem idx3 : ∀ t : Fin cfg0.N, win0_3.index t = ![0, t.val % 8] := (by decide +kernel : ∀ t : Fin grid0.N, _)
/-- Window 4 walks the tiles of the first weights. -/
theorem idx4 : ∀ t : Fin cfg0.N, win0_4.index t = ![t.val / 8, t.val % 8] := (by decide +kernel : ∀ t : Fin grid0.N, _)
/-- Window 5 walks the tiles of the second weights, half the columns further. -/
theorem idx5 : ∀ t : Fin cfg0.N, win0_5.index t = ![t.val / 8, t.val % 8 + 8] := (by decide +kernel : ∀ t : Fin grid0.N, _)
/-- Window 6 walks the tiles. -/
theorem idx6 : ∀ t : Fin cfg0.N, win0_6.index t = ![t.val / 8, t.val % 8] := (by decide +kernel : ∀ t : Fin grid0.N, _)

variable (m : (ℓ : Loc nD τ sig) → Buf (Elt Ideal) ℓ) (c : Dev nD)

/-- The result array. -/
theorem arr_eq : (dats m 0 c).arrAt 6 cfg0.N
    = merged (m ((c : Thread nD τ).loc main_arg4)) (prod (m ((c : Thread nD τ).loc main_arg0)) (m ((c : Thread nD τ).loc main_arg1)))
        (prod (m ((c : Thread nD τ).loc main_arg2)) (m ((c : Thread nD τ).loc main_arg3))) := by
  refine (dats m 0 c).arrAt_eq_of_covers 6 _ (by decide +kernel) fun t hf y => ?_
  show (dats m 0 c).after 6 t y = merged _ _ _ (((cfg0.win 6).blk t).view.emb y)
  have h20 : ∀ z : S1024x512.Idx, (((cfg0.win 6).blk t).view.emb z 0 : ℕ) = t.val / 8 * 1024 + (z 0).val := fun z => by
    show win0_6.index t 0 * 1024 + 1 * (z 0).val = _; rw [idx6]; simp
  have h21 : ∀ z : S1024x512.Idx, (((cfg0.win 6).blk t).view.emb z 1 : ℕ) = t.val % 8 * 512 + (z 1).val := fun z => by
    show win0_6.index t 1 * 512 + 1 * (z 1).val = _; rw [idx6]; simp
  rw [after0_6, out0_6, View.canon_unit_zero zero2, View.ld_unit_zero (S := S1024x2048) zero2, View.ld_unit_zero (S := S2048x512) zero2,
    View.ld_unit_zero (S := S1024x2048) zero2, View.ld_unit_zero (S := S2048x512) zero2, View.ld_unit_zero (S := S1024x512) zero2,
    View.ld_unit_zero (S := S1024x512) zero2]
  refine congrArg₂ (fun v w : EReal => v + w)
    (congrArg₂ (fun v w : EReal => v * w) (congrArg (fun i => Ideal.logistic (m ((c : Thread nD τ).loc main_arg4) i)) (ix2_of_val
      (i := ((cfg0.win 4).blk t).view.emb y) ?_ ?_)) ?_)
    (congrArg₂ (fun v w : EReal => v * w) (congrArg (fun i => Ideal.logistic (m ((c : Thread nD τ).loc main_arg4) i)) (ix2_of_val
      (i := ((cfg0.win 5).blk t).view.emb y) ?_ ?_)) ?_)
  · refine Eq.trans ?_ (h20 y).symm
    show win0_4.index t 0 * 1024 + 1 * (y 0).val = _; rw [idx4]; simp
  · refine Eq.trans ?_ (h21 y).symm
    show win0_4.index t 1 * 512 + 1 * (y 1).val = _; rw [idx4]; simp
  · exact tile_prod (e0 := ((cfg0.win 0).blk t).view.emb) (e1 := ((cfg0.win 1).blk t).view.emb) (e2 := ((cfg0.win 6).blk t).view.emb)
      (m ((c : Thread nD τ).loc main_arg0)) (m ((c : Thread nD τ).loc main_arg1)) (t.val / 8 * 1024) (t.val % 8 * 512)
      (fun z => by show win0_0.index t 0 * 1024 + 1 * (z 0).val = _; rw [idx0]; simp)
      (fun z => by show win0_0.index t 1 * 2048 + 1 * (z 1).val = _; rw [idx0]; simp)
      (fun z => by show win0_1.index t 0 * 2048 + 1 * (z 0).val = _; rw [idx1]; simp)
      (fun z => by show win0_1.index t 1 * 512 + 1 * (z 1).val = _; rw [idx1]; simp)
      h20 h21 _ _ rfl rfl y
  · refine Eq.trans ?_ (h20 y).symm
    show win0_5.index t 0 * 1024 + 1 * (y 0).val = _; rw [idx5]; simp
  · refine Eq.trans ?_ (congrArg (4096 + ·) (h21 y).symm)
    show win0_5.index t 1 * 512 + 1 * (y 1).val = 4096 + (t.val % 8 * 512 + (y 1).val); rw [idx5]; simp; omega
  · exact tile_prod (e0 := ((cfg0.win 2).blk t).view.emb) (e1 := ((cfg0.win 3).blk t).view.emb) (e2 := ((cfg0.win 6).blk t).view.emb)
      (m ((c : Thread nD τ).loc main_arg2)) (m ((c : Thread nD τ).loc main_arg3)) (t.val / 8 * 1024) (t.val % 8 * 512)
      (fun z => by show win0_2.index t 0 * 1024 + 1 * (z 0).val = _; rw [idx2]; simp)
      (fun z => by show win0_2.index t 1 * 2048 + 1 * (z 1).val = _; rw [idx2]; simp)
      (fun z => by show win0_3.index t 0 * 2048 + 1 * (z 0).val = _; rw [idx3]; simp)
      (fun z => by show win0_3.index t 1 * 512 + 1 * (z 1).val = _; rw [idx3]; simp)
      h20 h21 _ _ rfl rfl y

end Cert.MergeIdeal.Product

end
-- ==== Proof.DenseClaims.lean ====
/- Of each dense call, kernel and reference end with the same result. -/
module

public import proofs.«01_k».proof.Defs
public import proofs.«01_k».proof.Proof.InValue
public import proofs.«01_k».proof.Proof.MlpUpValue
public import proofs.«01_k».proof.Proof.MlpDownValue
public import proofs.«01_k».proof.Proof.OutValue
public import proofs.«01_k».proof.Proof.MergeValue
public import proofs.«01_k».proof.Proof.Gen.Mlp2Ideal.Value
public import proofs.«01_k».proof.Proof.Gen.Mlp2RefIdeal.Run
public import proofs.«01_k».proof.Proof.Gen.Mlp1RefIdeal.Run
public import proofs.«01_k».proof.Proof.Gen.OutProjRefIdeal.Run
public import proofs.«01_k».proof.Proof.Gen.MergeRefIdeal.Run
public import proofs.«01_k».proof.Proof.Gen.InQkvRefIdeal.Run
public import proofs.«01_k».proof.Proof.Gen.InRnnRefIdeal.Run
public import proofs.«01_k».proof.Proof.Gen.InGateRefIdeal.Run

@[expose] public section

noncomputable section

namespace Cert.Dense

open Idealize.ShloMosaic Idealize.ShloMosaic.TcCoe Idealize.SL.Sem

/-- The second layer of the feed-forward block. -/
theorem same_mlp2 : Cert.algebraic_Mlp2Ideal_Mlp2RefIdeal := by
  intro m ρ m' ρ' _ hagree
  refine ⟨fun c => _, (θ_run Cert.Mlp2Ideal.defs _ _).mono (fun _ h c => ⟨(h c).1.trans (Cert.Mlp2Ideal.Product.arr_eq m c), (h c).2⟩)
      (Cert.Mlp2Ideal.Value.run_blocks m ρ),
    (θ_run Cert.Mlp2RefIdeal.defs _ _).mono (fun _ h c => ⟨(h c).1.trans ?_, (h c).2⟩) (Cert.Mlp2RefIdeal.Value.run m' ρ')⟩
  obtain ⟨h0, h1, h2, h3⟩ := hagree c
  rw [h0, h1, h2, h3]
  exact (host_gated _ _ _ _ _ _ _).trans (congrArg (gated _ _) (host_prod _ _))

/-- The first layer of the feed-forward block. -/
theorem same_mlp1 : Cert.algebraic_Mlp1Ideal_Mlp1RefIdeal := by
  intro m ρ m' ρ' _ hagree
  refine ⟨fun c => _, (θ_run Cert.Mlp1Ideal.defs _ _).mono (fun _ h c => ⟨(h c).1.trans (Cert.Mlp1Ideal.Product.arr_eq m c), (h c).2⟩)
      (Cert.Mlp1Ideal.Value.run_blocks m ρ),
    (θ_run Cert.Mlp1RefIdeal.defs _ _).mono (fun _ h c => ⟨(h c).1.trans ?_, (h c).2⟩) (Cert.Mlp1RefIdeal.Value.run m' ρ')⟩
  obtain ⟨h0, h1⟩ := hagree c
  rw [h0, h1]
  exact (host_relu2 _ _ _).trans (congrArg (fun p i => relu2 (p i)) (host_prod _ _))

/-- The output projection. -/
theorem same_out : Cert.algebraic_OutProjIdeal_OutProjRefIdeal := by
  intro m ρ m' ρ' _ hagree
  refine ⟨fun c => _, (θ_run Cert.OutProjIdeal.defs _ _).mono (fun _ h c => ⟨(h c).1.trans (Cert.OutProjIdeal.Product.arr_eq m c), (h c).2⟩)
      (Cert.OutProjIdeal.Value.run_blocks m ρ),
    (θ_run Cert.OutProjRefIdeal.defs _ _).mono (fun _ h c => ⟨(h c).1.trans ?_, (h c).2⟩) (Cert.OutProjRefIdeal.Value.run m' ρ')⟩
  obtain ⟨h0, h1, h2, h3⟩ := hagree c
  rw [h0, h1, h2, h3]
  exact (host_gated _ _ _ _ _ _ _).trans (congrArg (gated _ _) (host_prod _ _))

/-- The merge of the two branches. -/
theorem same_merge : Cert.algebraic_MergeIdeal_MergeRefIdeal := by
  intro m ρ m' ρ' _ hagree
  refine ⟨fun c => _, (θ_run Cert.MergeIdeal.defs _ _).mono (fun _ h c => ⟨(h c).1.trans (Cert.MergeIdeal.Product.arr_eq m c), (h c).2⟩)
      (Cert.MergeIdeal.Value.run_blocks m ρ),
    (θ_run Cert.MergeRefIdeal.defs _ _).mono (fun _ h c => ⟨(h c).1.trans ?_, (h c).2⟩) (Cert.MergeRefIdeal.Value.run m' ρ')⟩
  obtain ⟨h0, h1, h2, h3, h4⟩ := hagree c
  rw [h0, h1, h2, h3, h4]
  exact (host_merged _ _ _ _ _ _ _).trans (congrArg₂ (merged _) (host_prod _ _) (host_prod _ _))

/-- The projection to queries, keys and values. -/
theorem same_qkv : Cert.algebraic_InQkvIdeal_InQkvRefIdeal := by
  intro m ρ m' ρ' _ hagree
  refine ⟨fun c => _, (θ_run Cert.InQkvIdeal.defs _ _).mono (fun _ h c => ⟨(h c).1.trans (Cert.InQkvIdeal.Product.arr_eq m c), (h c).2⟩)
      (Cert.InQkvIdeal.Value.run_blocks m ρ),
    (θ_run Cert.InQkvRefIdeal.defs _ _).mono (fun _ h c => ⟨(h c).1.trans ?_, (h c).2⟩) (Cert.InQkvRefIdeal.Value.run m' ρ')⟩
  obtain ⟨h0, h1⟩ := hagree c
  rw [h0, h1]
  exact host_prod _ _

/-- The projection to the recurrence's inputs. -/
theorem same_rnn : Cert.algebraic_InRnnIdeal_InRnnRefIdeal := by
  intro m ρ m' ρ' _ hagree
  refine ⟨fun c => _, (θ_run Cert.InRnnIdeal.defs _ _).mono (fun _ h c => ⟨(h c).1.trans (Cert.InRnnIdeal.Product.arr_eq m c), (h c).2⟩)
      (Cert.InRnnIdeal.Value.run_blocks m ρ),
    (θ_run Cert.InRnnRefIdeal.defs _ _).mono (fun _ h c => ⟨(h c).1.trans ?_, (h c).2⟩) (Cert.InRnnRefIdeal.Value.run m' ρ')⟩
  obtain ⟨h0, h1⟩ := hagree c
  rw [h0, h1]
  exact host_prod _ _

/-- The projection to the branches' gates. -/
theorem same_gate : Cert.algebraic_InGateIdeal_InGateRefIdeal := by
  intro m ρ m' ρ' _ hagree
  refine ⟨fun c => _, (θ_run Cert.InGateIdeal.defs _ _).mono (fun _ h c => ⟨(h c).1.trans (Cert.InGateIdeal.Product.arr_eq m c), (h c).2⟩)
      (Cert.InGateIdeal.Value.run_blocks m ρ),
    (θ_run Cert.InGateRefIdeal.defs _ _).mono (fun _ h c => ⟨(h c).1.trans ?_, (h c).2⟩) (Cert.InGateRefIdeal.Value.run m' ρ')⟩
  obtain ⟨h0, h1⟩ := hagree c
  rw [h0, h1]
  exact host_prod _ _

end Cert.Dense

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Mlp2.Frame
public import proofs.«01_k».proof.Proof.Gen.Mlp2Ideal.Frame
public import proofs.«01_k».proof.Proof.Gen.Mlp2Ideal.Value
public import proofs.«01_k».proof.Proof.Gen.Mlp2RefIdeal.Run
public import proofs.«01_k».proof.Proof.Gen.Mlp1.Frame
public import proofs.«01_k».proof.Proof.Gen.Mlp1Ideal.Frame
public import proofs.«01_k».proof.Proof.Gen.Mlp1Ideal.Value
public import proofs.«01_k».proof.Proof.Gen.Mlp1RefIdeal.Run
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal.Run
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.InQkv.Frame
public import proofs.«01_k».proof.Proof.Gen.InQkvIdeal.Frame
public import proofs.«01_k».proof.Proof.Gen.InQkvIdeal.Value
public import proofs.«01_k».proof.Proof.Gen.InQkvRefIdeal.Run
public import proofs.«01_k».proof.Proof.Gen.InRnn.Frame
public import proofs.«01_k».proof.Proof.Gen.InRnnIdeal.Frame
public import proofs.«01_k».proof.Proof.Gen.InRnnIdeal.Value
public import proofs.«01_k».proof.Proof.Gen.InRnnRefIdeal.Run
public import proofs.«01_k».proof.Proof.Gen.InGate.Frame
public import proofs.«01_k».proof.Proof.Gen.InGateIdeal.Frame
public import proofs.«01_k».proof.Proof.Gen.InGateIdeal.Value
public import proofs.«01_k».proof.Proof.Gen.InGateRefIdeal.Run
public import proofs.«01_k».proof.Proof.KernelValue
public import proofs.«01_k».proof.Proof.RefValue
public import proofs.«01_k».proof.Proof.DenseClaims
public import Idealize.ShloMosaic.Adequacy
public import Idealize.ShloMosaic.Init

@[expose] public section

noncomputable section

namespace Cert.Proof

open Idealize.ShloMosaic Idealize.SL.Sem

/-- The kernel as run terminates, keeps its arguments and leaves every counter at zero. -/
theorem frame_kernel : Cert.quiescent_Kernel := fun m ρ _ => Cert.Kernel.Gen.frame m ρ

/-- The kernel at extended reals terminates, keeps its arguments and leaves every counter at zero. -/
theorem frame_ideal : Cert.quiescent_KernelIdeal := fun m ρ _ => Cert.KernelIdeal.Gen.frame m ρ

/-- The reference's loop terminates and keeps its arguments; it has no counters. -/
theorem frame_ref : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run m ρ)

/-- Kernel and reference, from equal arguments, end with the same three results. -/
theorem same_results : Cert.algebraic_KernelIdeal_ReferenceIdeal := by
  intro m ρ m' ρ' _ hagree
  have hargs : ∀ c, Cert.RefValue.argsOf m' c = Cert.KernelScan.argsOf m c := fun c => by
    obtain ⟨h0, h1, h2, h3, h4, h5, h6, h7⟩ := hagree c
    show GateSpec.Args.mk _ _ _ _ _ _ _ _ = GateSpec.Args.mk _ _ _ _ _ _ _ _
    rw [h0, h1, h2, h3, h4, h5, h6, h7]
  refine ⟨fun c => (Cert.KernelScan.argsOf m c).y, fun c => (Cert.KernelScan.argsOf m c).hLast,
    fun c => (Cert.KernelScan.argsOf m c).cvLast, ?_, ?_⟩
  · exact (θ_run Cert.KernelIdeal.defs _ _).mono
      (fun _ h c => ⟨(h.1 c).1, (h.1 c).2.1, (h.1 c).2.2, h.2 c⟩)
      (θ_run_and (Cert.KernelScan.run m ρ) (Cert.KernelIdeal.Gen.unchanged m ρ))
  · exact (θ_run Cert.ReferenceIdeal.defs _ _).mono
      (fun _ h c => ⟨(h.1 c).1.trans (congrArg GateSpec.Args.y (hargs c)), (h.1 c).2.1.trans (congrArg GateSpec.Args.hLast (hargs c)),
        (h.1 c).2.2.trans (congrArg GateSpec.Args.cvLast (hargs c)), (h.2 c).2.2.2⟩)
      (θ_run_and (Cert.RefValue.run m' ρ') (Cert.ReferenceIdeal.Value.run m' ρ'))

/-- The reference of the second layer of the feed-forward block terminates and keeps its arguments; it has no counters. -/
theorem frame_ref_mlp2 : Cert.quiescent_Mlp2RefIdeal := fun m ρ _ =>
  (θ_run Cert.Mlp2RefIdeal.defs _ _).mono (fun r h => ⟨fun c => (h c).2, Idealize.ShloMosaic.sem_eq_zero_of_no_sems (by decide) r.2⟩)
    (Cert.Mlp2RefIdeal.Value.run m ρ)

/-- The reference of the first layer of the feed-forward block terminates and keeps its arguments; it has no counters. -/
theorem frame_ref_mlp1 : Cert.quiescent_Mlp1RefIdeal := fun m ρ _ =>
  (θ_run Cert.Mlp1RefIdeal.defs _ _).mono (fun r h => ⟨fun c => (h c).2, Idealize.ShloMosaic.sem_eq_zero_of_no_sems (by decide) r.2⟩)
    (Cert.Mlp1RefIdeal.Value.run m ρ)

/-- The reference of the output projection terminates and keeps its arguments; it has no counters. -/
theorem frame_ref_out : Cert.quiescent_OutProjRefIdeal := fun m ρ _ =>
  (θ_run Cert.OutProjRefIdeal.defs _ _).mono (fun r h => ⟨fun c => (h c).2, Idealize.ShloMosaic.sem_eq_zero_of_no_sems (by decide) r.2⟩)
    (Cert.OutProjRefIdeal.Value.run m ρ)

/-- The reference of the merge terminates and keeps its arguments; it has no counters. -/
theorem frame_ref_merge : Cert.quiescent_MergeRefIdeal := fun m ρ _ =>
  (θ_run Cert.MergeRefIdeal.defs _ _).mono (fun r h => ⟨fun c => (h c).2, Idealize.ShloMosaic.sem_eq_zero_of_no_sems (by decide) r.2⟩)
    (Cert.MergeRefIdeal.Value.run m ρ)

/-- The reference of the projection to queries, keys and values terminates and keeps its arguments; it has no counters. -/
theorem frame_ref_qkv : Cert.quiescent_InQkvRefIdeal := fun m ρ _ =>
  (θ_run Cert.InQkvRefIdeal.defs _ _).mono (fun r h => ⟨fun c => (h c).2, Idealize.ShloMosaic.sem_eq_zero_of_no_sems (by decide) r.2⟩)
    (Cert.InQkvRefIdeal.Value.run m ρ)

/-- The reference of the projection to the recurrence's inputs terminates and keeps its arguments; it has no counters. -/
theorem frame_ref_rnn : Cert.quiescent_InRnnRefIdeal := fun m ρ _ =>
  (θ_run Cert.InRnnRefIdeal.defs _ _).mono (fun r h => ⟨fun c => (h c).2, Idealize.ShloMosaic.sem_eq_zero_of_no_sems (by decide) r.2⟩)
    (Cert.InRnnRefIdeal.Value.run m ρ)

/-- The reference of the projection to the branches' gates terminates and keeps its arguments; it has no counters. -/
theorem frame_ref_gate : Cert.quiescent_InGateRefIdeal := fun m ρ _ =>
  (θ_run Cert.InGateRefIdeal.defs _ _).mono (fun r h => ⟨fun c => (h c).2, Idealize.ShloMosaic.sem_eq_zero_of_no_sems (by decide) r.2⟩)
    (Cert.InGateRefIdeal.Value.run m ρ)

/-- Everything claimed of these kernels. -/
theorem claim : Cert.Claim := ⟨Cert.Kernel.Gen.facts, Cert.KernelIdeal.Gen.facts, Cert.ReferenceIdeal.Gen.facts,
  Cert.Mlp2.Gen.facts, Cert.Mlp2Ideal.Gen.facts, Cert.Mlp2RefIdeal.Gen.facts, Cert.Mlp1.Gen.facts, Cert.Mlp1Ideal.Gen.facts, Cert.Mlp1RefIdeal.Gen.facts, Cert.OutProj.Gen.facts, Cert.OutProjIdeal.Gen.facts, Cert.OutProjRefIdeal.Gen.facts, Cert.Merge.Gen.facts, Cert.MergeIdeal.Gen.facts, Cert.MergeRefIdeal.Gen.facts, Cert.InQkv.Gen.facts, Cert.InQkvIdeal.Gen.facts, Cert.InQkvRefIdeal.Gen.facts, Cert.InRnn.Gen.facts, Cert.InRnnIdeal.Gen.facts, Cert.InRnnRefIdeal.Gen.facts, Cert.InGate.Gen.facts, Cert.InGateIdeal.Gen.facts, Cert.InGateRefIdeal.Gen.facts,
  frame_kernel, frame_ideal, frame_ref,
  fun m ρ _ => Cert.Mlp2.Gen.frame m ρ, fun m ρ _ => Cert.Mlp2Ideal.Gen.frame m ρ, frame_ref_mlp2,
  fun m ρ _ => Cert.Mlp1.Gen.frame m ρ, fun m ρ _ => Cert.Mlp1Ideal.Gen.frame m ρ, frame_ref_mlp1,
  fun m ρ _ => Cert.OutProj.Gen.frame m ρ, fun m ρ _ => Cert.OutProjIdeal.Gen.frame m ρ, frame_ref_out,
  fun m ρ _ => Cert.Merge.Gen.frame m ρ, fun m ρ _ => Cert.MergeIdeal.Gen.frame m ρ, frame_ref_merge,
  fun m ρ _ => Cert.InQkv.Gen.frame m ρ, fun m ρ _ => Cert.InQkvIdeal.Gen.frame m ρ, frame_ref_qkv,
  fun m ρ _ => Cert.InRnn.Gen.frame m ρ, fun m ρ _ => Cert.InRnnIdeal.Gen.frame m ρ, frame_ref_rnn,
  fun m ρ _ => Cert.InGate.Gen.frame m ρ, fun m ρ _ => Cert.InGateIdeal.Gen.frame m ρ, frame_ref_gate,
  trivial, same_results, trivial, Cert.Dense.same_mlp2, trivial, Cert.Dense.same_mlp1, trivial, Cert.Dense.same_out, trivial, Cert.Dense.same_merge, trivial, Cert.Dense.same_qkv, trivial, Cert.Dense.same_rnn, trivial, Cert.Dense.same_gate⟩

end Cert.Proof

end
